-- ==== Defs.lean ====
def Pre_Kernel [hPre_groups_fill_rows : Cert.Pre_groups_fill_rows.Facts] (m : (ℓ : Loc Cert.Kernel.nD Cert.Kernel.τ Cert.Kernel.sig) → Buf (Elt Bits) ℓ) : Prop :=
  ∀ c : Dev Cert.Kernel.nD,
    (Cert.Pre_groups_fill_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).1 = (fun _ => 1#1)
    ∧ (Cert.Pre_groups_fill_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.1 = (fun _ => 1#1)
    ∧ (Cert.Pre_groups_fill_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))).2.2 = (fun _ => 1#1)

def Pre_KernelIdeal [hPre_groups_fill_rows : Cert.Pre_groups_fill_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_groups_fill_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_groups_fill_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal [hPre_groups_fill_rows : Cert.Pre_groups_fill_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fill_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_groups_fill_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_groups_fill_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] [hPre_groups_fill_rows : Cert.Pre_groups_fill_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_groups_fill_rows : Cert.Pre_groups_fill_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_groups_fill_rows : Cert.Pre_groups_fill_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_fill_rows : Cert.Pre_groups_fill_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_0) = v0 c
          ∧ r.2.mem ((c.tc : Thread Cert.ReferenceIdeal.nD Cert.ReferenceIdeal.τ).loc Cert.ReferenceIdeal.main_v10_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_groups_fill_rows : Cert.Pre_groups_fill_rows.Facts),
    quiescent_Kernel (hKernel := hKernel) (hPre_groups_fill_rows := hPre_groups_fill_rows)
    ∧ quiescent_KernelIdeal (hKernelIdeal := hKernelIdeal) (hPre_groups_fill_rows := hPre_groups_fill_rows)
    ∧ quiescent_ReferenceIdeal (hReferenceIdeal := hReferenceIdeal) (hPre_groups_fill_rows := hPre_groups_fill_rows)
    ∧ preserves_Kernel_KernelIdeal
    ∧ algebraic_KernelIdeal_ReferenceIdeal (hKernelIdeal := hKernelIdeal) (hReferenceIdeal := hReferenceIdeal) (hPre_groups_fill_rows := hPre_groups_fill_rows)
-- ==== Pre_groups_fill_rows.lean ====
abbrev S6144x2560 : Shape := ⟨2, ![6144, 2560]⟩
abbrev S40 : Shape := ⟨1, ![40]⟩
abbrev S40x1024x2560 : Shape := ⟨3, ![40, 1024, 2560]⟩
abbrev S40x1024 : Shape := ⟨2, ![40, 1024]⟩
abbrev S6144x1024 : Shape := ⟨2, ![6144, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S6144x2560 .bf16) (main_arg1 : IVec S40 32) (main_arg2 : FVec F S40x1024x2560 .fp8e4m3) (main_arg3 : FVec F S40x1024 .f32) (main_arg4 : FVec F S6144x1024 .bf16) (main_arg5 : FVec F S6144x1024 .bf16) : IVec S_ 1 × IVec S_ 1 × IVec S_ 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 1 := constantI S_ 1 1#1
  let main_v2 : IVec S_ 1 := (fun x v => Host.reduce IntOp.andi x v reducesTo_S40_S_d0 h_S_) main_v1 main_c_0
  let main_c_1 : IVec S_ 32 := constantI S_ 32 6144#32
  let main_v3 : IVec S40 32 := broadcastInDim S40 ![] bcast_S_S40 main_c_1
  let main_v4 : IVec S40 1 := cmpi .sle main_arg1 main_v3
  let main_c_2 : IVec S_ 1 := constantI S_ 1 1#1
  let main_v5 : IVec S_ 1 := (fun x v => Host.reduce IntOp.andi x v reducesTo_S40_S_d0 h_S_) main_v4 main_c_2
  let main_c_3 : IVec S_ 32 := constantI S_ 32 0#32
  let main_v6 : IVec S_ 32 := (fun x v => Host.reduce IntOp.addi x v reducesTo_S40_S_d0 h_S_) main_arg1 main_c_3
  let main_c_4 : IVec S_ 32 := constantI S_ 32 6144#32
  let main_v7 : IVec S_ 1 := cmpi .eq main_v6 main_c_4
  (main_v2, main_v5, main_v7)
-- ==== Kernel.lean ====
abbrev S6144x2560 : Shape := ⟨2, ![6144, 2560]⟩
abbrev S40 : Shape := ⟨1, ![40]⟩
abbrev S40x1024x2560 : Shape := ⟨3, ![40, 1024, 2560]⟩
abbrev S40x1024 : Shape := ⟨2, ![40, 1024]⟩
abbrev S6144x1024 : Shape := ⟨2, ![6144, 1024]⟩
abbrev S_ : Shape := ⟨0, ![]⟩
abbrev S1 : Shape := ⟨1, ![1]⟩
abbrev S63 : Shape := ⟨1, ![63]⟩
abbrev S63x1 : Shape := ⟨2, ![63, 1]⟩
abbrev S1x40 : Shape := ⟨2, ![1, 40]⟩
abbrev S63x40 : Shape := ⟨2, ![63, 40]⟩
abbrev S62 : Shape := ⟨1, ![62]⟩
abbrev S40x1x1024 : Shape := ⟨3, ![40, 1, 1024]⟩
abbrev S2x6144x1024 : Shape := ⟨3, ![2, 6144, 1024]⟩
abbrev S6144x1 : Shape := ⟨2, ![6144, 1]⟩
abbrev S256x2560 : Shape := ⟨2, ![256, 2560]⟩
abbrev S1x1024x2560 : Shape := ⟨3, ![1, 1024, 2560]⟩
abbrev S1x1x1024 : Shape := ⟨3, ![1, 1, 1024]⟩
abbrev S256x1024 : Shape := ⟨2, ![256, 1024]⟩
abbrev S2x256x1024 : Shape := ⟨3, ![2, 256, 1024]⟩
abbrev S256x1 : Shape := ⟨2, ![256, 1]⟩
abbrev S256x128 : Shape := ⟨2, ![256, 128]⟩
abbrev S32x2560 : Shape := ⟨2, ![32, 2560]⟩
abbrev S32x256 : Shape := ⟨2, ![32, 256]⟩
abbrev S32 : Shape := ⟨1, ![32]⟩
abbrev S32x1 : Shape := ⟨2, ![32, 1]⟩
abbrev S32x128 : Shape := ⟨2, ![32, 128]⟩
abbrev S1024x2560 : Shape := ⟨2, ![1024, 2560]⟩
abbrev S1x1024 : Shape := ⟨2, ![1, 1024]⟩
abbrev S32x1024 : Shape := ⟨2, ![32, 1024]⟩
abbrev S1x32x1024 : Shape := ⟨3, ![1, 32, 1024]⟩

abbrev nBuf : Space → Nat
  | .hbm => 134
  | .vmem => 17
  | .smem => 7
  | _ => 0

abbrev hbmTy0_0 (i : Nat) : BufTy := match i % 128 with
  | 0 => ⟨S6144x2560, .bf16⟩
  | 1 => ⟨S40, .i32⟩
  | 2 => ⟨S40x1024x2560, .fp8e4m3⟩
  | 3 => ⟨S40x1024, .f32⟩
  | 4 => ⟨S6144x1024, .bf16⟩
  | 5 => ⟨S6144x1024, .bf16⟩
  | 6 => ⟨S_, .i32⟩
  | 7 => ⟨S_, .i32⟩
  | 8 => ⟨S40, .i32⟩
  | 9 => ⟨S40, .i32⟩
  | 10 => ⟨S_, .i32⟩
  | 11 => ⟨S_, .i32⟩
  | 12 => ⟨S40, .i32⟩
  | 13 => ⟨S40, .i32⟩
  | 14 => ⟨S40, .i32⟩
  | 15 => ⟨S_, .i32⟩
  | 16 => ⟨S40, .i32⟩
  | 17 => ⟨S40, .i1⟩
  | 18 => ⟨S40, .i32⟩
  | 19 => ⟨S40, .i32⟩
  | 20 => ⟨S_, .i32⟩
  | 21 => ⟨S40, .i32⟩
  | 22 => ⟨S40, .i1⟩
  | 23 => ⟨S40, .i1⟩
  | 24 => ⟨S_, .i32⟩
  | 25 => ⟨S40, .i32⟩
  | 26 => ⟨S40, .i32⟩
  | 27 => ⟨S40, .i32⟩
  | 28 => ⟨S_, .i32⟩
  | 29 => ⟨S40, .i32⟩
  | 30 => ⟨S40, .i1⟩
  | 31 => ⟨S_, .i32⟩
  | 32 => ⟨S40, .i32⟩
  | 33 => ⟨S40, .i32⟩
  | 34 => ⟨S_, .i32⟩
  | 35 => ⟨S_, .i32⟩
  | 36 => ⟨S40, .i32⟩
  | 37 => ⟨S40, .i32⟩
  | 38 => ⟨S40, .i32⟩
  | 39 => ⟨S_, .i32⟩
  | 40 => ⟨S40, .i32⟩
  | 41 => ⟨S40, .i1⟩
  | 42 => ⟨S40, .i32⟩
  | 43 => ⟨S40, .i32⟩
  | 44 => ⟨S_, .i32⟩
  | 45 => ⟨S40, .i32⟩
  | 46 => ⟨S40, .i1⟩
  | 47 => ⟨S40, .i1⟩
  | 48 => ⟨S_, .i32⟩
  | 49 => ⟨S40, .i32⟩
  | 50 => ⟨S40, .i32⟩
  | 51 => ⟨S40, .i32⟩
  | 52 => ⟨S40, .i32⟩
  | 53 => ⟨S_, .i32⟩
  | 54 => ⟨S40, .i32⟩
  | 55 => ⟨S40, .i32⟩
  | 56 => ⟨S_, .i32⟩
  | 57 => ⟨S_, .i32⟩
  | 58 => ⟨S40, .i32⟩
  | 59 => ⟨S40, .i32⟩
  | 60 => ⟨S_, .i32⟩
  | 61 => ⟨S_, .i32⟩
  | 62 => ⟨S40, .i32⟩
  | 63 => ⟨S1, .i32⟩
  | 64 => ⟨S63, .i32⟩
  | 65 => ⟨S63x1, .i32⟩
  | 66 => ⟨S1x40, .i32⟩
  | 67 => ⟨S63x40, .i32⟩
  | 68 => ⟨S63x40, .i32⟩
  | 69 => ⟨S63x40, .i1⟩
  | 70 => ⟨S63x40, .i32⟩
  | 71 => ⟨S_, .i32⟩
  | 72 => ⟨S63, .i32⟩
  | 73 => ⟨S_, .i32⟩
  | 74 => ⟨S63, .i32⟩
  | 75 => ⟨S_, .i32⟩
  | 76 => ⟨S63, .i32⟩
  | 77 => ⟨S63, .i1⟩
  | 78 => ⟨S_, .i32⟩
  | 79 => ⟨S63, .i32⟩
  | 80 => ⟨S63, .i32⟩
  | 81 => ⟨S63, .i32⟩
  | 82 => ⟨S63x1, .i32⟩
  | 83 => ⟨S63, .i32⟩
  | 84 => ⟨S63, .i32⟩
  | 85 => ⟨S40, .i32⟩
  | 86 => ⟨S_, .i32⟩
  | 87 => ⟨S63, .i32⟩
  | 88 => ⟨S63, .i1⟩
  | 89 => ⟨S_, .i32⟩
  | 90 => ⟨S63, .i32⟩
  | 91 => ⟨S63, .i32⟩
  | 92 => ⟨S63, .i32⟩
  | 93 => ⟨S63x1, .i32⟩
  | 94 => ⟨S63, .i32⟩
  | 95 => ⟨S63, .i32⟩
  | 96 => ⟨S_, .i32⟩
  | 97 => ⟨S_, .i32⟩
  | 98 => ⟨S_, .i32⟩
  | 99 => ⟨S63, .i32⟩
  | 100 => ⟨S63, .i32⟩
  | 101 => ⟨S_, .i32⟩
  | 102 => ⟨S63, .i32⟩
  | 103 => ⟨S_, .i32⟩
  | 104 => ⟨S63, .i32⟩
  | 105 => ⟨S63, .i1⟩
  | 106 => ⟨S_, .i32⟩
  | 107 => ⟨S63, .i32⟩
  | 108 => ⟨S63, .i32⟩
  | 109 => ⟨S63, .i32⟩
  | 110 => ⟨S63x1, .i32⟩
  | 111 => ⟨S_, .i32⟩
  | 112 => ⟨S63, .i32⟩
  | 113 => ⟨S63, .i1⟩
  | 114 => ⟨S_, .i32⟩
  | 115 => ⟨S63, .i32⟩
  | 116 => ⟨S63, .i32⟩
  | 117 => ⟨S63, .i32⟩
  | 118 => ⟨S63x1, .i32⟩
  | 119 => ⟨S_, .i32⟩
  | 120 => ⟨S1, .i32⟩
  | 121 => ⟨S62, .i32⟩
  | 122 => ⟨S63, .i32⟩
  | 123 => ⟨S63, .i1⟩
  | 124 => ⟨S_, .i32⟩
  | 125 => ⟨S63, .i32⟩
  | 126 => ⟨S63, .i32⟩
  | 127 => ⟨S_, .i32⟩
  | _ => ⟨S6144x2560, .bf16⟩

abbrev hbmTy0_1 (i : Nat) : BufTy := match i % 128 with
  | 0 => ⟨S63, .i32⟩
  | 1 => ⟨S63, .i32⟩
  | 2 => ⟨S63, .i1⟩
  | 3 => ⟨S40x1x1024, .f32⟩
  | 4 => ⟨S2x6144x1024, .fp8e5m2⟩
  | 5 => ⟨S6144x1, .f32⟩
  | _ => ⟨S6144x2560, .bf16⟩

abbrev hbmTy (i : Nat) : BufTy := match i / 128 with
  | 0 => hbmTy0_0 i
  | 1 => hbmTy0_1 i
  | _ => ⟨S6144x2560, .bf16⟩

abbrev bufTy : (tb : Table) → Fin (tcTables nBuf tb) → BufTy
  | .hbm, ⟨i, _⟩ => hbmTy i
  | .local _ .vmem, ⟨0, _⟩ => ⟨S256x2560, .bf16⟩
  | .local _ .vmem, ⟨1, _⟩ => ⟨S256x2560, .bf16⟩
  | .local _ .vmem, ⟨2, _⟩ => ⟨S1x1024x2560, .fp8e4m3⟩
  | .local _ .vmem, ⟨3, _⟩ => ⟨S1x1024x2560, .fp8e4m3⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S2x256x1024, .fp8e5m2⟩
  | .local _ .vmem, ⟨11, _⟩ => ⟨S2x256x1024, .fp8e5m2⟩
  | .local _ .vmem, ⟨12, _⟩ => ⟨S256x1, .f32⟩
  | .local _ .vmem, ⟨13, _⟩ => ⟨S256x1, .f32⟩
  | .local _ .vmem, ⟨14, _⟩ => ⟨S256x2560, .fp8e5m2⟩
  | .local _ .vmem, ⟨15, _⟩ => ⟨S256x128, .f32⟩
  | .local _ .vmem, ⟨16, _⟩ => ⟨S256x1024, .f32⟩
  | .local _ .smem, ⟨0, _⟩ => ⟨S_, .i32⟩
  | .local _ .smem, ⟨1, _⟩ => ⟨S63, .i32⟩
  | .local _ .smem, ⟨2, _⟩ => ⟨S63, .i32⟩
  | .local _ .smem, ⟨3, _⟩ => ⟨S63, .i32⟩
  | .local _ .smem, ⟨4, _⟩ => ⟨S63, .i32⟩
  | .local _ .smem, ⟨5, _⟩ => ⟨S63, .i32⟩
  | .local _ .smem, ⟨6, _⟩ => ⟨S63, .i32⟩
  | _, _ => ⟨S6144x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_v9 : Ref sig .tc := ⟨.hbm, 54, rfl⟩
abbrev main_v10 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_v11 : Ref sig .tc := ⟨.hbm, 59, rfl⟩
abbrev main_call4_call0_c : Ref sig .tc := ⟨.hbm, 60, rfl⟩
abbrev main_call4_call0_v0 : Ref sig .tc := ⟨.hbm, 61, rfl⟩
abbrev main_v12 : Ref sig .tc := ⟨.hbm, 62, rfl⟩
abbrev main_v13 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_5 : Ref sig .tc := ⟨.hbm, 71, rfl⟩
abbrev main_v22 : Ref sig .tc := ⟨.hbm, 72, rfl⟩
abbrev main_c_6 : Ref sig .tc := ⟨.hbm, 73, rfl⟩
abbrev main_v23 : Ref sig .tc := ⟨.hbm, 74, rfl⟩
abbrev main_c_7 : Ref sig .tc := ⟨.hbm, 75, rfl⟩
abbrev main_v25 : Ref sig .tc := ⟨.hbm, 76, rfl⟩
abbrev main_v26 : Ref sig .tc := ⟨.hbm, 77, rfl⟩
abbrev main_c_8 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_9 : Ref sig .tc := ⟨.hbm, 86, rfl⟩
abbrev main_v34 : Ref sig .tc := ⟨.hbm, 87, rfl⟩
abbrev main_v35 : Ref sig .tc := ⟨.hbm, 88, rfl⟩
abbrev main_c_10 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_c_11 : Ref sig .tc := ⟨.hbm, 96, rfl⟩
abbrev main_c_12 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_c_13 : Ref sig .tc := ⟨.hbm, 103, rfl⟩
abbrev main_v43 : Ref sig .tc := ⟨.hbm, 104, rfl⟩
abbrev main_v44 : Ref sig .tc := ⟨.hbm, 105, rfl⟩
abbrev main_c_14 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_c_15 : Ref sig .tc := ⟨.hbm, 111, rfl⟩
abbrev main_v50 : Ref sig .tc := ⟨.hbm, 112, rfl⟩
abbrev main_v51 : Ref sig .tc := ⟨.hbm, 113, rfl⟩
abbrev main_c_16 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_c_17 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_c_18 : Ref sig .tc := ⟨.hbm, 124, rfl⟩
abbrev main_v62 : Ref sig .tc := ⟨.hbm, 125, rfl⟩
abbrev main_v63 : Ref sig .tc := ⟨.hbm, 126, rfl⟩
abbrev main_c_19 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v68 : Ref sig .tc := ⟨.hbm, 131, rfl⟩
abbrev main_v69_0 : Ref sig .tc := ⟨.hbm, 132, rfl⟩
abbrev main_v69_1 : Ref sig .tc := ⟨.hbm, 133, rfl⟩
abbrev main_v14 : Ref sig .tc := ⟨.smem, 0, rfl⟩
abbrev main_v42 : Ref sig .tc := ⟨.smem, 1, rfl⟩
abbrev main_v24 : Ref sig .tc := ⟨.smem, 2, rfl⟩
abbrev main_v49 : Ref sig .tc := ⟨.smem, 3, rfl⟩
abbrev main_v56 : Ref sig .tc := ⟨.smem, 4, rfl⟩
abbrev main_v61 : Ref sig .tc := ⟨.smem, 5, rfl⟩
abbrev main_v67 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![0], ![true]⟩

abbrev pre0 : Pipeline.Prefetch sig := ⟨7, ![main_v14.idx, main_v42.idx, main_v24.idx, main_v49.idx, main_v56.idx, main_v61.idx, main_v67.idx], fun | 0 => main_v14.names | 1 => main_v42.names | 2 => main_v24.names | 3 => main_v49.names | 4 => main_v56.names | 5 => main_v61.names | 6 => main_v67.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def dynb0 (pf : pre0.Contents (Elt F)) : grid0.Bounds := ![(pf 0 fun a => a.elim0).toNat]

def k0_off1 (b : grid0.Bounds) (i : (grid0.at b).Coords) : Fin 1 → Nat :=
  let arg0 : BitVec 32 := BitVec.ofNat 32 (i 0).val
  let v0 : Index := Scalar.indexCast arg0
  ![v0.toNat]

def k0_off2 (arg0 : BitVec 32) : Fin 1 → Nat :=
  let v0 : Index := Scalar.indexCast arg0
  ![v0.toNat]

def k0_off3 (arg0 : BitVec 32) : Fin 1 → Nat :=
  let v9 : Index := Scalar.indexCast arg0
  ![v9.toNat]

def k0_chk1 (arg0 : BitVec 32) : Prop :=
  (∀ a, (k0_off2 arg0) a + S1.size a ≤ S63.size a) ∧
  (∀ a, (k0_off3 arg0) a + S1.size a ≤ S63.size a)
theorem k0_off2_inb : ∀ (arg0 : BitVec 32) (k0_hw1 : k0_chk1 arg0), ∀ a, (k0_off2 arg0) a + S1.size a ≤ S63.size a := fun arg0 k0_hw1 => k0_hw1.1
theorem k0_off3_inb : ∀ (arg0 : BitVec 32) (k0_hw1 : k0_chk1 arg0), ∀ a, (k0_off3 arg0) a + S1.size a ≤ S63.size a := fun arg0 k0_hw1 => k0_hw1.2

def k0_cond2 (v39 : BitVec 32) : BitVec 1 :=
  let c1_i32_13 : BitVec 32 := 1#32
  let v40 : BitVec 1 := Scalar.cmpi .eq v39 c1_i32_13
  let v41 : BitVec 32 := Scalar.extui v40
  let c0_i32_14 : BitVec 32 := 0#32
  let v42 : BitVec 1 := Scalar.cmpi .ne v41 c0_i32_14
  v42

def cc0_transform_0 (pf : pre0.Contents (Elt F)) (b : grid0.Bounds) (i : (grid0.at b).Coords) : Fin 2 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  ![v1.toNat, c0_i32.toNat]

def cc0_transform_1 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 2 ![v0.toNat]
  let c0_i32 : BitVec 32 := 0#32
  let c0_i32_0 : BitVec 32 := 0#32
  let c0_i32_1 : BitVec 32 := 0#32
  ![v1.toNat, c0_i32.toNat, c0_i32_0.toNat]

def cc0_transform_2 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 2 ![v0.toNat]
  let c0_i32 : BitVec 32 := 0#32
  let c0_i32_0 : BitVec 32 := 0#32
  let c0_i32_1 : BitVec 32 := 0#32
  ![v1.toNat, c0_i32.toNat, c0_i32_0.toNat]

def cc0_transform_3 (pf : pre0.Contents (Elt F)) (b : grid0.Bounds) (i : (grid0.at b).Coords) : Fin 2 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  ![v1.toNat, c0_i32.toNat]

def cc0_transform_4 (pf : pre0.Contents (Elt F)) (b : grid0.Bounds) (i : (grid0.at b).Coords) : Fin 2 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  ![v1.toNat, c0_i32.toNat]

def cc0_transform_5 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![c0_i32.toNat, v1.toNat, c0_i32_0.toNat]

def cc0_transform_6 (pf : pre0.Contents (Elt F)) (b : grid0.Bounds) (i : (grid0.at b).Coords) : Fin 2 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  ![v1.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1024 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6144x2560 : Shape := ⟨2, ![6144, 2560]⟩
abbrev S40 : Shape := ⟨1, ![40]⟩
abbrev S40x1024x2560 : Shape := ⟨3, ![40, 1024, 2560]⟩
abbrev S40x1024 : Shape := ⟨2, ![40, 1024]⟩
abbrev S6144x1024 : Shape := ⟨2, ![6144, 1024]⟩
abbrev S6144 : Shape := ⟨1, ![6144]⟩
abbrev S_ : Shape := ⟨0, ![]⟩
abbrev S6144x1 : Shape := ⟨2, ![6144, 1]⟩
abbrev S1x40 : Shape := ⟨2, ![1, 40]⟩
abbrev S6144x40 : Shape := ⟨2, ![6144, 40]⟩
abbrev S2x6144x1024 : Shape := ⟨3, ![2, 6144, 1024]⟩
abbrev S6144x254 : Shape := ⟨2, ![6144, 254]⟩
abbrev S1x1024x2560 : Shape := ⟨3, ![1, 1024, 2560]⟩
abbrev S1024x2560 : Shape := ⟨2, ![1024, 2560]⟩
abbrev S1x1024 : Shape := ⟨2, ![1, 1024]⟩
abbrev S1x6144x1024 : Shape := ⟨3, ![1, 6144, 1024]⟩

abbrev nBuf : Space → Nat
  | .hbm => 21
  | .vmem => 8
  | .smem => 0
  | _ => 0

abbrev bufTy : (tb : Table) → Fin (tcTables nBuf tb) → BufTy
  | .hbm, ⟨0, _⟩ => ⟨S6144x2560, .bf16⟩
  | .hbm, ⟨1, _⟩ => ⟨S40, .i32⟩
  | .hbm, ⟨2, _⟩ => ⟨S40x1024x2560, .fp8e4m3⟩
  | .hbm, ⟨3, _⟩ => ⟨S40x1024, .f32⟩
  | .hbm, ⟨4, _⟩ => ⟨S6144x1024, .bf16⟩
  | .hbm, ⟨5, _⟩ => ⟨S6144x1024, .bf16⟩
  | .hbm, ⟨6, _⟩ => ⟨S6144, .i32⟩
  | .hbm, ⟨7, _⟩ => ⟨S_, .i32⟩
  | .hbm, ⟨8, _⟩ => ⟨S_, .i32⟩
  | .hbm, ⟨9, _⟩ => ⟨S40, .i32⟩
  | .hbm, ⟨10, _⟩ => ⟨S6144x1, .i32⟩
  | .hbm, ⟨11, _⟩ => ⟨S1x40, .i32⟩
  | .hbm, ⟨12, _⟩ => ⟨S6144x40, .i32⟩
  | .hbm, ⟨13, _⟩ => ⟨S6144x40, .i32⟩
  | .hbm, ⟨14, _⟩ => ⟨S6144x40, .i1⟩
  | .hbm, ⟨15, _⟩ => ⟨S6144x40, .i32⟩
  | .hbm, ⟨16, _⟩ => ⟨S_, .i32⟩
  | .hbm, ⟨17, _⟩ => ⟨S6144, .i32⟩
  | .hbm, ⟨18, _⟩ => ⟨S6144x1, .i32⟩
  | .hbm, ⟨19, _⟩ => ⟨S2x6144x1024, .fp8e5m2⟩
  | .hbm, ⟨20, _⟩ => ⟨S6144x1, .f32⟩
  | .local _ .vmem, ⟨0, _⟩ => ⟨S6144x2560, .bf16⟩
  | .local _ .vmem, ⟨1, _⟩ => ⟨S6144x1, .i32⟩
  | .local _ .vmem, ⟨2, _⟩ => ⟨S40x1024x2560, .fp8e4m3⟩
  | .local _ .vmem, ⟨3, _⟩ => ⟨S40x1024, .f32⟩
  | .local _ .vmem, ⟨4, _⟩ => ⟨S6144x1024, .bf16⟩
  | .local _ .vmem, ⟨5, _⟩ => ⟨S6144x1024, .bf16⟩
  | .local _ .vmem, ⟨6, _⟩ => ⟨S2x6144x1024, .fp8e5m2⟩
  | .local _ .vmem, ⟨7, _⟩ => ⟨S6144x1, .f32⟩
  | _, _ => ⟨S6144x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x1024x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x6144x1024 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Tables.lean ====
/-
  The contents of the region's tables and arrays when the region is entered: each table as a function of the group sizes, in the
  host lines' own operations.
-/
module

public import proofs.«01_k».proof.Proof.Gen.Kernel.Launch
public import Idealize.ShloMosaic.Lib.Pipeline.Frame
public import Idealize.ShloMosaic.Lib.StableHlo.Run
public import Idealize.ShloMosaic.Lib.Routing.Words
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL.Sem
open Cert.Kernel.Gen

/-! ## The tables, of the group sizes -/

/-- A constant at every entry of a vector of 40, of 63. -/
abbrev k40 (x : BitVec 32) : IVec S40 32 := broadcastInDim S40 ![] bcast_S_S40 (constantI S_ 32 x)
abbrev k63 (x : BitVec 32) : IVec S63 32 := broadcastInDim S63 ![] bcast_S_S63 (constantI S_ 32 x)
/-- The running sum. -/
def cumT (x : IVec S40 32) : IVec S40 32 :=
  Host.reduceWindow IntOp.addi ![40] ![1] ![39] ![0] x (broadcastInDim S_ ![] bcast_S_S_ (constantI S_ 32 0#32)) reduceWindows_S40_S40_w40s1p39_0 h_S_
/-- The floor of the quotient by 256. -/
def divT (x : IVec S40 32) : IVec S40 32 := Routing.pyDiv bcast_S_S40 x (constantI S_ 32 256#32)
/-- Where each group ends, where it starts, its first tile, the number of tiles it visits, the running sum of that. -/
def endsT (gs : IVec S40 32) : IVec S40 32 := cumT gs
def startsT (gs : IVec S40 32) : IVec S40 32 := subi (endsT gs) gs
def ftT (gs : IVec S40 32) : IVec S40 32 := divT (startsT gs)
def nvT (gs : IVec S40 32) : IVec S40 32 :=
  select (cmpi .sgt gs (k40 0#32)) (addi (subi (divT (subi (endsT gs) (k40 1#32))) (ftT gs)) (k40 1#32)) (k40 0#32)
def vendT (gs : IVec S40 32) : IVec S40 32 := cumT (nvT gs)
/-- The number of items. -/
def nT (gs : IVec S40 32) : IVec S_ 32 := shapeCast S_ (extractStridedSlice S1 ![39] (vendT gs) slices_S40_S1_39) shapeCasts_S1_S_
/-- The group of each item. -/
def expT (gs : IVec S40 32) : IVec S63 32 :=
  minsi (Host.reduce IntOp.addi (extui 32 (cmpi .sge
      (broadcastInDim S63x40 ![0, 1] bcast_S63x1_S63x40_0_1 (broadcastInDim S63x1 ![0] bcast_S63_S63x1_0 (iotaInDim S63 32 0)))
      (broadcastInDim S63x40 ![0, 1] bcast_S1x40_S63x40_0_1 (broadcastInDim S1x40 ![1] bcast_S40_S1x40_1 (vendT gs)))) natLt_1_32)
    (constantI S_ 32 0#32) reducesTo_S63x40_S63_d1 h_S_) (k63 39#32)
/-- A vector over the groups read at each item's group. -/
def takeT (x : IVec S40 32) (e : IVec S63 32) : IVec S63 32 :=
  Host.gather gather_S40_S63x1_S63_n_0_n_n_0_1_1 x (broadcastInDim S63x1 ![0] bcast_S63_S63x1_0 (select (cmpi .slt e (k63 0#32)) (addi e (k63 40#32)) e))
/-- The tile of each item, the rows its group has, whether it is its tile's first item, its last. -/
def tileT (gs : IVec S40 32) : IVec S63 32 :=
  minsi (k63 23#32) (maxsi (k63 0#32) (subi (addi (takeT (ftT gs) (expT gs)) (iotaInDim S63 32 0)) (takeT (subi (vendT gs) (nvT gs)) (expT gs))))
def loT (gs : IVec S40 32) : IVec S63 32 := takeT (startsT gs) (expT gs)
def hiT (gs : IVec S40 32) : IVec S63 32 := takeT (endsT gs) (expT gs)
def firstT (gs : IVec S40 32) : IVec S63 32 :=
  extui 32 (cmpi .ne (tileT gs) (concatenate S63 0 [⟨S1, broadcastInDim S1 ![] bcast_S_S1 (constantI S_ 32 4294967295#32)⟩,
    ⟨S62, extractStridedSlice S62 ![0] (tileT gs) slices_S63_S62_0⟩] concatenates_S1_S62_S63_d0)) natLt_1_32
def lastT (gs : IVec S40 32) : IVec S63 32 := extui 32 (cmpi .sge (hiT gs) (muli (addi (tileT gs) (k63 1#32)) (k63 256#32))) natLt_1_32

/-! ## @main up to the region -/

variable {F : FTy → Type} [FloatOps F]
variable (m : (ℓ : Loc nD τ sig) → Buf (Elt F) ℓ)

/-- Core `c`'s buffers when the region is entered: after the host lines. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10])
    (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region: the lines of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

set_option maxHeartbeats 800000 in
/-- No host line writes `main_arg0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg3`. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg4`. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg5`. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The group sizes at launch. -/
abbrev gsOf (c : Dev nD) : IVec S40 32 := m ((c : Thread nD τ).loc main_arg1)

end Cert.Kernel.Hand

end
-- ==== Proof.Plan.lean ====
/-
  The item list in natural numbers: rows in tiles of 256, groups in a row; an item is a (tile, group) pair whose rows meet. From
  the group sizes, which sum to 6144: how many items there are, and which tile and group each has.
-/
module

public import Mathlib.Data.Nat.Count
public import Idealize.ShloMosaic.Lib.Tactic

@[expose] public section

namespace Cert.Plan

/-- The sum of the values at the positions before `e`. -/
def pre (f : ℕ → ℕ) (e : ℕ) : ℕ := ((List.range e).map f).sum

theorem pre_zero (f : ℕ → ℕ) : pre f 0 = 0 := rfl
theorem pre_succ (f : ℕ → ℕ) (e : ℕ) : pre f (e + 1) = pre f e + f e := by
  simp [pre, List.range_succ]
theorem pre_mono (f : ℕ → ℕ) {a b : ℕ} (h : a ≤ b) : pre f a ≤ pre f b := by
  induction b, h using Nat.le_induction with
  | base => exact le_rfl
  | succ b _ ih => rw [pre_succ]; omega

/-- A count of the positions whose prefix value is at most `i` is the first position whose value is above. -/
theorem count_spec (W : ℕ → ℕ) (hW : ∀ a b, a ≤ b → W a ≤ W b) (i N : ℕ) :
    (∀ e, e < Nat.count (fun e => W e ≤ i) N → W e ≤ i) ∧ (Nat.count (fun e => W e ≤ i) N < N → i < W (Nat.count (fun e => W e ≤ i) N)) := by
  induction N with
  | zero => simp
  | succ N ih =>
    rw [Nat.count_succ]
    have hc : Nat.count (fun e => W e ≤ i) N ≤ N := Nat.count_le _
    by_cases h : W N ≤ i
    · have : Nat.count (fun e => W e ≤ i) N = N := by
        by_contra hne
        have h1 := ih.2 (by omega)
        have h2 := hW _ N hc
        omega
      rw [if_pos h, this]
      refine ⟨fun e he => ?_, fun hlt => absurd hlt (by omega)⟩
      have := hW e N (by omega)
      omega
    · rw [if_neg h, Nat.add_zero]
      refine ⟨ih.1, fun hlt => ?_⟩
      rcases Nat.lt_or_ge (Nat.count (fun e => W e ≤ i) N) N with h1 | h1
      · exact ih.2 h1
      · have : Nat.count (fun e => W e ≤ i) N = N := by omega
        rw [this]; omega

/-- So a position between two consecutive values is that count. -/
theorem count_eq (W : ℕ → ℕ) (hW : ∀ a b, a ≤ b → W a ≤ W b) (i N e : ℕ) (he : e < N) (h0 : ∀ j, j < e → W j ≤ i) (h1 : i < W e) :
    Nat.count (fun e => W e ≤ i) N = e := by
  obtain ⟨c0, c1⟩ := count_spec W hW i N
  rcases Nat.lt_trichotomy (Nat.count (fun e => W e ≤ i) N) e with h | h | h
  · have := h0 _ h
    have := c1 (by omega)
    omega
  · exact h
  · have := c0 e h
    omega

section
variable (s : ℕ → ℕ)

/-- How many tiles group `e` visits. -/
def nv (e : ℕ) : ℕ := if 0 < s e then (pre s (e + 1) - 1) / 256 - pre s e / 256 + 1 else 0
/-- How many items the groups before `e` have. -/
def Q (e : ℕ) : ℕ := pre (nv s) e
/-- The number of items. -/
def n : ℕ := Q s 40
/-- The group of item `i`, its tile, where its group's rows start and end. -/
def ex (i : ℕ) : ℕ := min (Nat.count (fun e => Q s (e + 1) ≤ i) 40) 39
def tile (i : ℕ) : ℕ := min (pre s (ex s i) / 256 + i - Q s (ex s i)) 23
def lo (i : ℕ) : ℕ := pre s (ex s i)
def hi (i : ℕ) : ℕ := pre s (ex s i + 1)
/-- The group of row `r`: how many groups end at or before it. -/
def eid (r : ℕ) : ℕ := Nat.count (fun e => pre s (e + 1) ≤ r) 40

theorem Q_succ (e : ℕ) : Q s (e + 1) = Q s e + nv s e := pre_succ _ _
theorem Q_mono {a b : ℕ} (h : a ≤ b) : Q s a ≤ Q s b := pre_mono _ h

theorem nv_pos {e : ℕ} (h : 0 < nv s e) : 0 < s e := by
  unfold nv at h
  split at h
  · assumption
  · omega

theorem nv_eq {e : ℕ} (h : 0 < nv s e) : nv s e = (pre s (e + 1) - 1) / 256 - pre s e / 256 + 1 := by
  unfold nv
  rw [if_pos (nv_pos s h)]

theorem Q_eq_pre {a b : ℕ} (hab : a ≤ b) (h : Q s a = Q s b) : pre s a = pre s b := by
  induction b, hab using Nat.le_induction with
  | base => rfl
  | succ b hab ih =>
    rw [Q_succ] at h
    have := Q_mono s hab
    have h1 : nv s b = 0 := by omega
    have h2 : s b = 0 := by
      by_contra hne
      unfold nv at h1
      rw [if_pos (by omega)] at h1
      omega
    rw [pre_succ, h2, ih (by omega)]; omega

theorem Q_le (e : ℕ) : Q s e ≤ e + (pre s e - 1) / 256 := by
  induction e with
  | zero => simp [Q, pre_zero]
  | succ e ih =>
    rw [Q_succ]
    have := pre_succ s e
    unfold nv
    split
    · omega
    · omega

/-- The group of an item has the item between its first and its last. -/
theorem ex_spec {i : ℕ} (h : i < n s) : ex s i < 40 ∧ Q s (ex s i) ≤ i ∧ i < Q s (ex s i + 1) := by
  obtain ⟨c0, c1⟩ := count_spec (fun e => Q s (e + 1)) (fun a b hab => Q_mono s (by omega)) i 40
  have hc : Nat.count (fun e => Q s (e + 1) ≤ i) 40 ≤ 40 := Nat.count_le _
  have hlt : Nat.count (fun e => Q s (e + 1) ≤ i) 40 < 40 := by
    by_contra hne
    have : Q s 40 ≤ i := c0 39 (by omega)
    unfold n at h
    omega
  have he : ex s i = Nat.count (fun e => Q s (e + 1) ≤ i) 40 := by unfold ex; omega
  rw [he]
  refine ⟨hlt, ?_, c1 hlt⟩
  rcases Nat.eq_zero_or_pos (Nat.count (fun e => Q s (e + 1) ≤ i) 40) with hz | hp
  · rw [hz]; simp [Q, pre_zero]
  · obtain ⟨k, hk⟩ : ∃ k, Nat.count (fun e => Q s (e + 1) ≤ i) 40 = k + 1 := ⟨_, (Nat.succ_pred_eq_of_pos hp).symm⟩
    have := c0 k (by omega)
    rw [hk]; exact this

theorem ex_eq {i e : ℕ} (he : e < 40) (h0 : Q s e ≤ i) (h1 : i < Q s (e + 1)) : ex s i = e := by
  have := count_eq (fun e => Q s (e + 1)) (fun a b hab => Q_mono s (by omega)) i 40 e he
    (fun j hj => le_trans (Q_mono s (by omega)) h0) h1
  unfold ex; omega

/-- At every position, an item or not, the group's items start at or before it. -/
theorem ex_le (i : ℕ) : ex s i < 40 ∧ Q s (ex s i) ≤ i := by
  rcases Nat.lt_or_ge i (n s) with h | h
  · exact ⟨(ex_spec s h).1, (ex_spec s h).2.1⟩
  · have h39 : ex s i < 40 := by unfold ex; omega
    refine ⟨h39, le_trans (Q_mono s (by omega)) h⟩

variable (hs : pre s 40 = 6144)
include hs

theorem pre_le (e : ℕ) (he : e ≤ 40) : pre s e ≤ 6144 := hs ▸ pre_mono s he

theorem tile_eq {i : ℕ} (h : i < n s) : tile s i = pre s (ex s i) / 256 + (i - Q s (ex s i)) ∧ tile s i ≤ (pre s (ex s i + 1) - 1) / 256
    ∧ 0 < s (ex s i) := by
  obtain ⟨h40, h0, h1⟩ := ex_spec s h
  rw [Q_succ] at h1
  have hnv := nv_eq s (e := ex s i) (by omega)
  have hp := nv_pos s (e := ex s i) (by omega)
  have := pre_le s hs (ex s i + 1) (by omega)
  have := pre_succ s (ex s i)
  unfold tile
  omega

theorem n_le : n s ≤ 63 := by
  have := Q_le s 40
  unfold n
  omega

theorem n_pos : 0 < n s := by
  by_contra h
  have : Q s 0 = Q s 40 := by
    have : n s = 0 := by omega
    unfold n at this
    rw [this]; rfl
  have := Q_eq_pre s (by omega) this
  rw [hs, pre_zero] at this
  omega

/-- The next item: of the same group, the next tile; or of the next group with rows, from the row where this one ends. -/
theorem next {i : ℕ} (h : i + 1 < n s) :
    (ex s (i + 1) = ex s i ∧ tile s (i + 1) = tile s i + 1) ∨
    (tile s i = (hi s i - 1) / 256 ∧ lo s (i + 1) = hi s i ∧ tile s (i + 1) = hi s i / 256 ∧ 0 < hi s i) := by
  obtain ⟨h40, h0, h1⟩ := ex_spec s (i := i) (by omega)
  obtain ⟨t0, t1, t2⟩ := tile_eq s hs (i := i) (by omega)
  obtain ⟨h40', h0', h1'⟩ := ex_spec s h
  obtain ⟨t0', t1', t2'⟩ := tile_eq s hs h
  rcases Nat.lt_or_ge (i + 1) (Q s (ex s i + 1)) with hq | hq
  · left
    have he := ex_eq s h40 (by omega : Q s (ex s i) ≤ i + 1) hq
    refine ⟨he, ?_⟩
    rw [t0', he, t0]; omega
  · right
    have hlt : ex s i < ex s (i + 1) := by
      by_contra hne
      have := Q_mono s (show ex s (i + 1) + 1 ≤ ex s i + 1 by omega)
      omega
    have hm := Q_mono s (show ex s i + 1 ≤ ex s (i + 1) by omega)
    have hQ : Q s (ex s i + 1) = Q s (ex s (i + 1)) := by omega
    have hP := Q_eq_pre s (by omega) hQ
    have hnv := Q_succ s (ex s i)
    have hnv' := nv_eq s (e := ex s i) (by omega)
    have := pre_succ s (ex s i)
    unfold hi lo
    refine ⟨?_, hP.symm, ?_, ?_⟩
    · omega
    · rw [t0', ← hP]; omega
    · omega

theorem tile_zero : tile s 0 = 0 ∧ lo s 0 = 0 := by
  have hn := n_pos s hs
  obtain ⟨h40, h0, h1⟩ := ex_spec s hn
  obtain ⟨t0, t1, t2⟩ := tile_eq s hs hn
  have : Q s 0 = Q s (ex s 0) := by
    have : Q s (ex s 0) = 0 := by omega
    rw [this]; rfl
  have := Q_eq_pre s (by omega) this
  rw [pre_zero] at this
  unfold lo
  omega

theorem at_end {i : ℕ} (h : i + 1 = n s) : tile s i = 23 ∧ hi s i = 6144 := by
  obtain ⟨h40, h0, h1⟩ := ex_spec s (i := i) (by omega)
  obtain ⟨t0, t1, t2⟩ := tile_eq s hs (i := i) (by omega)
  have hm := Q_mono s (show ex s i + 1 ≤ 40 by omega)
  unfold n at h
  have hQ : Q s (ex s i + 1) = Q s 40 := by omega
  have hP := Q_eq_pre s (by omega) hQ
  rw [hs] at hP
  have hnv := Q_succ s (ex s i)
  have hnv' := nv_eq s (e := ex s i) (by omega)
  have := pre_succ s (ex s i)
  unfold hi
  omega

theorem tile_lt {i : ℕ} (h : i < n s) : tile s i < 24 := by unfold tile; omega
theorem hi_le (i : ℕ) : hi s i ≤ 6144 := pre_le s hs _ (by have := (ex_le s i).1; omega)

theorem step {i : ℕ} (h : i + 1 < n s) : tile s (i + 1) = tile s i ∨ tile s (i + 1) = tile s i + 1 := by
  rcases next s hs h with h1 | h1
  · exact .inr h1.2
  · omega

/-- An item is its tile's last exactly when its group ends at or past the tile's end. -/
theorem last_iff {i : ℕ} (h : i < n s) : (tile s i + 1) * 256 ≤ hi s i ↔ (i + 1 = n s ∨ tile s (i + 1) ≠ tile s i) := by
  rcases Nat.lt_or_ge (i + 1) (n s) with h1 | h1
  · rcases next s hs h1 with ⟨he, ht⟩ | h2
    · obtain ⟨t0, t1, t2⟩ := tile_eq s hs h1
      rw [he] at t1
      have := pre_succ s (ex s i)
      unfold hi
      omega
    · omega
  · have := at_end s hs (i := i) (by omega)
    omega

theorem first_lo {i : ℕ} (h : i < n s) (hf : i = 0 ∨ tile s i ≠ tile s (i - 1)) : lo s i ≤ tile s i * 256 := by
  rcases Nat.eq_zero_or_pos i with hz | hp
  · subst hz
    have := (tile_zero s hs).2
    omega
  · obtain ⟨j, rfl⟩ : ∃ j, i = j + 1 := ⟨i - 1, by omega⟩
    rw [Nat.add_sub_cancel] at hf
    rcases next s hs h with ⟨he, ht⟩ | h2
    · obtain ⟨t0, t1, t2⟩ := tile_eq s hs (i := j) (by omega)
      unfold lo
      rw [he]; omega
    · omega

theorem next_lo {i : ℕ} (h : i + 1 < n s) (hf : tile s (i + 1) = tile s i) : lo s (i + 1) = hi s i := by
  rcases next s hs h with ⟨he, ht⟩ | h2
  · omega
  · exact h2.2.1

omit hs in
/-- The rows of an item's group have that group. -/
theorem eid_eq {i r : ℕ} (h0 : lo s i ≤ r) (h1 : r < hi s i) : eid s r = ex s i :=
  count_eq (fun e => pre s (e + 1)) (fun a b hab => pre_mono s (by omega)) r 40 _ (ex_le s i).1
    (fun j hj => le_trans (pre_mono s (by omega)) h0) h1

theorem tile_mono {i j : ℕ} (hij : i ≤ j) (h : j < n s) : tile s i ≤ tile s j := by
  induction j, hij using Nat.le_induction with
  | base => exact le_rfl
  | succ j _ ih =>
    have := step s hs h
    have := ih (by omega)
    omega

/-- Every tile has a last item. -/
theorem exists_last {t : ℕ} (ht : t < 24) : ∃ i, i < n s ∧ tile s i = t ∧ (tile s i + 1) * 256 ≤ hi s i := by
  have key : ∀ k, k < n s → t ≤ tile s k → ∃ i, i < n s ∧ tile s i = t := by
    intro k
    induction k with
    | zero => intro hk h; exact ⟨0, hk, by have := (tile_zero s hs).1; omega⟩
    | succ k ih =>
      intro hk h
      have := step s hs hk
      rcases Nat.lt_or_ge (tile s k) t with h1 | h1
      · exact ⟨k + 1, hk, by omega⟩
      · exact ih (by omega) h1
  have hn := n_pos s hs
  obtain ⟨i, hi', hit⟩ := key (n s - 1) (by omega) (by have := (at_end s hs (i := n s - 1) (by omega)).1; omega)
  -- the greatest such item
  have key2 : ∀ d i, i + d = n s - 1 → tile s i = t → ∃ i, i < n s ∧ tile s i = t ∧ (tile s i + 1) * 256 ≤ hi s i := by
    intro d
    induction d with
    | zero => intro i h1 h2; exact ⟨i, by omega, h2, (last_iff s hs (by omega)).2 (.inl (by omega))⟩
    | succ d ih =>
      intro i h1 h2
      by_cases h3 : tile s (i + 1) = tile s i
      · exact ih (i + 1) (by omega) (by omega)
      · exact ⟨i, by omega, h2, (last_iff s hs (by omega)).2 (.inr h3)⟩
  exact key2 (n s - 1 - i) i (by omega) hit

end

end Cert.Plan

end
-- ==== Proof.Kernel.Words.lean ====
/-
  The tables' words are the natural numbers of the item list (Plan.lean), when the group sizes are not negative and sum to 6144.
-/
module

public import proofs.«01_k».proof.Proof.Kernel.Tables
public import proofs.«01_k».proof.Proof.Plan
public import Idealize.ShloMosaic.Lib.Routing.Ops
public import Idealize.ShloMosaic.Lib.Routing.OpsSearch
public import Idealize.ShloMosaic.Lib.Routing.OpsPair
public import Idealize.ShloMosaic.Lib.Routing.Words
public import Idealize.ShloMosaic.Lib.Routing.BitFacts
public import Idealize.ShloMosaic.Lib.WordCmp
public import Idealize.ShloMosaic.Lib.Pipeline.Value

@[expose] public section

set_option maxRecDepth 16384

noncomputable section

namespace Cert.Kernel.Hand

open Idealize.ShloMosaic Idealize.ShloMosaic.Routing Idealize.ShloMosaic.ValueIdx
open Idealize.ShloMosaic.WordCmp
open Cert.Kernel.Gen Cert.Plan

attribute [local irreducible] Host.reduceWindow Host.reduce Host.gather concatenate

/-- The size of group `e`. -/
def sz (gs : IVec S40 32) (e : ℕ) : ℕ := if h : e < 40 then (gs (ix1 (⟨e, h⟩ : Fin 40))).toNat else 0

variable (gs : IVec S40 32)

theorem gs_word (e : Fin 40) : gs (ix1 e) = BitVec.ofNat 32 (sz gs e.val) := by
  unfold sz
  rw [dif_pos e.isLt]
  simp

/-- The group sizes sum to the number of rows. -/
abbrev Good : Prop := pre (sz gs) 40 = 6144

variable (hg : Good gs)
include hg

theorem sz_le (e : ℕ) (he : e < 40) : sz gs e ≤ 6144 := by
  have h1 := pre_succ (sz gs) e
  have h2 := pre_le (sz gs) hg (e + 1) (by omega)
  omega

omit hg in
theorem endsT_word (e : Fin 40) : endsT gs (ix1 e) = BitVec.ofNat 32 (pre (sz gs) (e.val + 1)) :=
  cumsum1 (N := 40) (Nm1 := 39) rfl gs (sz gs) (gs_word gs) _ (bc0 _ _ _) reduceWindows_S40_S40_w40s1p39_0 h_S_ e

theorem startsT_word (e : Fin 40) : startsT gs (ix1 e) = BitVec.ofNat 32 (pre (sz gs) e.val) := by
  unfold startsT
  rw [subi_ap, endsT_word, gs_word gs e, ofNat32_sub (by rw [pre_succ]; omega), pre_succ, Nat.add_sub_cancel]

omit hg in
theorem divT_word (x : IVec S40 32) (e : Fin 40) {a : ℕ} (hx : x (ix1 e) = BitVec.ofNat 32 a) (ha : a < 2 ^ 31) :
    divT x (ix1 e) = BitVec.ofNat 32 (a / 256) :=
  pyDiv_ap _ x _ _ hx (b := 256) rfl ha (by decide) (by decide)

theorem ftT_word (e : Fin 40) : ftT gs (ix1 e) = BitVec.ofNat 32 (pre (sz gs) e.val / 256) := by
  have := pre_le (sz gs) hg e.val (by omega)
  exact divT_word _ e (startsT_word gs hg e) (by omega)

theorem nvT_word (e : Fin 40) : nvT gs (ix1 e) = BitVec.ofNat 32 (nv (sz gs) e.val) := by
  have hle := pre_le (sz gs) hg (e.val + 1) (by omega)
  have hs := pre_succ (sz gs) e.val
  unfold nvT nv
  rw [select_at, cmpi_at, gs_word gs e]
  show Scalar.select (IntOp.cmpi .sgt (BitVec.ofNat 32 (sz gs e.val)) (BitVec.ofNat 32 0)) _ _ = _
  rw [WordCmp.cmpi_sgt_ofNat (by omega) (by decide), WordCmp.select_decide]
  by_cases h : 0 < sz gs e.val
  · rw [if_pos h, if_pos h, addi_ap, subi_ap, ftT_word gs hg e,
      divT_word _ e (a := pre (sz gs) (e.val + 1) - 1) ?_ (by omega)]
    · show BitVec.ofNat 32 _ - _ + BitVec.ofNat 32 1 = _
      rw [ofNat32_sub (by omega), BitVec.ofNat_add_ofNat]
    · rw [subi_ap, endsT_word]
      exact ofNat32_sub (b := 1) (by omega)
  · rw [if_neg h, if_neg h]
    rfl

theorem vendT_word (e : Fin 40) : vendT gs (ix1 e) = BitVec.ofNat 32 (Q (sz gs) (e.val + 1)) :=
  cumsum1 (N := 40) (Nm1 := 39) rfl (nvT gs) (nv (sz gs)) (nvT_word gs hg) _ (bc0 _ _ _) reduceWindows_S40_S40_w40s1p39_0 h_S_ e

theorem nT_word (i : S_.Idx) : nT gs i = BitVec.ofNat 32 (n (sz gs)) := by
  unfold nT
  rw [shapeCast_apply _ shapeCasts_S1_S_ i (ix1 (0 : Fin 1)) (by
    have h1 := (S1.rowMajor (ix1 (0 : Fin 1))).isLt
    have h2 := (S_.rowMajor i).isLt
    have h3 : S1.numel = 1 := by decide
    have h4 : S_.numel = 1 := by decide
    omega)]
  exact (slice1 39 (vendT gs) slices_S40_S1_39 (0 : Fin 1) (by decide)).trans (vendT_word gs hg (⟨39, by decide⟩ : Fin 40))

theorem Q_lt (e : ℕ) (he : e ≤ 40) : Q (sz gs) e ≤ 63 := le_trans (Q_mono (sz gs) he) (n_le (sz gs) hg)

theorem expT_word (i : Fin 63) : expT gs (ix1 i) = BitVec.ofNat 32 (ex (sz gs) i.val) := by
  unfold expT ex
  show IntOp.minsi (Host.reduce IntOp.addi _ _ reducesTo_S63x40_S63_d1 h_S_ (ix1 i)) (BitVec.ofNat 32 39) = _
  rw [show Host.reduce IntOp.addi _ _ reducesTo_S63x40_S63_d1 h_S_ (ix1 i) = _ from
    reduce_count (by decide) _ natLt_1_32 reducesTo_S63x40_S63_d1 h_S_ i (fun e => Q (sz gs) (e + 1) ≤ i.val) (fun q => by
      rw [cmpi_at, bcRows, bcCols, vendT_word gs hg, iota1_ap]
      have := Q_lt gs hg (q.val + 1) (by omega)
      have := i.isLt
      exact WordCmp.cmpi_sge_ofNat_eq_one_iff (by omega) (by omega))]
  have hc : Nat.count (fun e => Q (sz gs) (e + 1) ≤ i.val) 40 ≤ 40 := Nat.count_le _
  generalize Nat.count (fun e => Q (sz gs) (e + 1) ≤ i.val) 40 = k at hc
  unfold IntOp.minsi
  rw [slt_ofNat32 (by omega) (by decide)]
  by_cases h : k < 39
  · rw [if_pos (decide_eq_true h), Nat.min_eq_left (by omega)]
  · rw [if_neg (by rw [decide_eq_false h]; decide), Nat.min_eq_right (by omega)]

/-- A vector over the groups, read at item `i`'s group. -/
theorem takeT_word (x : IVec S40 32) (f : ℕ → ℕ) (hx : ∀ e : Fin 40, x (ix1 e) = BitVec.ofNat 32 (f e.val)) (i : Fin 63) :
    takeT x (expT gs) (ix1 i) = BitVec.ofNat 32 (f (ex (sz gs) i.val)) := by
  have he := (ex_le (sz gs) i.val).1
  unfold takeT
  rw [show Host.gather _ x _ (ix1 i) = x (ix1 ⟨ex (sz gs) i.val, he⟩) from
    take_ap gather_S40_S63x1_S63_n_0_n_n_0_1_1 rfl rfl rfl rfl x _ i he (by omega) ?_]
  · exact hx ⟨_, he⟩
  · rw [bcCol, select_at, cmpi_at]
    show Scalar.select (IntOp.cmpi .slt (expT gs (ix1 i)) 0#32) _ _ = _
    rw [wrap_of_lt _ _ (by rw [expT_word gs hg, BitVec.toNat_ofNat]; omega), expT_word gs hg]

theorem tileT_word (i : Fin 63) : tileT gs (ix1 i) = BitVec.ofNat 32 (tile (sz gs) i.val) := by
  obtain ⟨he, hq⟩ := ex_le (sz gs) i.val
  have hp := pre_le (sz gs) hg (ex (sz gs) i.val) (by omega)
  have hi := i.isLt
  have hv : ∀ e : Fin 40, subi (vendT gs) (nvT gs) (ix1 e) = BitVec.ofNat 32 (Q (sz gs) e.val) := fun e => by
    rw [subi_ap, vendT_word gs hg, nvT_word gs hg, ofNat32_sub (by rw [Q_succ]; omega), Q_succ, Nat.add_sub_cancel]
  unfold tileT
  show IntOp.minsi (BitVec.ofNat 32 23) (IntOp.maxsi (BitVec.ofNat 32 0)
    (takeT (ftT gs) (expT gs) (ix1 i) + BitVec.ofNat 32 i.val - takeT (subi (vendT gs) (nvT gs)) (expT gs) (ix1 i))) = _
  rw [takeT_word gs hg _ (fun e => pre (sz gs) e / 256) (ftT_word gs hg), takeT_word gs hg _ (fun e => Q (sz gs) e) hv,
    BitVec.ofNat_add_ofNat, ofNat32_sub (by omega), clip_word (by omega) (by decide) (by decide)]
  exact congrArg (BitVec.ofNat 32) (by unfold tile; omega)

theorem loT_word (i : Fin 63) : loT gs (ix1 i) = BitVec.ofNat 32 (lo (sz gs) i.val) :=
  takeT_word gs hg _ (fun e => pre (sz gs) e) (startsT_word gs hg) i
theorem hiT_word (i : Fin 63) : hiT gs (ix1 i) = BitVec.ofNat 32 (hi (sz gs) i.val) :=
  takeT_word gs hg _ (fun e => pre (sz gs) (e + 1)) (endsT_word gs) i

omit hg in
theorem tile_lt' (i : ℕ) : tile (sz gs) i < 24 := by unfold tile; omega

theorem lastT_word (i : Fin 63) : lastT gs (ix1 i) = 1#32 ↔ (tile (sz gs) i.val + 1) * 256 ≤ hi (sz gs) i.val := by
  have h1 := tile_lt' gs i.val
  have h2 := hi_le (sz gs) hg i.val
  have h : lastT gs (ix1 i) = (IntOp.cmpi .sge (BitVec.ofNat 32 (hi (sz gs) i.val)) (BitVec.ofNat 32 ((tile (sz gs) i.val + 1) * 256))).setWidth 32 := by
    rw [← hiT_word gs hg, ← BitVec.ofNat_mul_ofNat, ← BitVec.ofNat_add_ofNat, ← tileT_word gs hg]
    rfl
  rw [h, WordCmp.cmpi_sge_ofNat (by omega) (by omega), setWidth_ofBool]
  by_cases hc : (tile (sz gs) i.val + 1) * 256 ≤ hi (sz gs) i.val
  · simp [hc]
  · simp [hc]

theorem firstT_word (i : Fin 63) : firstT gs (ix1 i) = 1#32 ↔ (i.val = 0 ∨ tile (sz gs) i.val ≠ tile (sz gs) (i.val - 1)) := by
  have hi := i.isLt
  have key : ∀ (a b : BitVec 32), (IntOp.cmpi .ne a b).setWidth 32 = 1#32 ↔ a ≠ b := fun a b => by
    rw [WordCmp.cmpi_ne_eq, setWidth_ofBool]
    by_cases h : a = b <;> simp [h]
  unfold firstT
  refine (key _ _).trans ?_
  rw [tileT_word gs hg]
  have h1 := tile_lt' gs i.val
  rcases Nat.eq_zero_or_pos i.val with h0 | hp
  · obtain ⟨i, hlt⟩ := i
    obtain rfl : i = 0 := h0
    refine ⟨fun _ => .inl rfl, fun _ h => ?_⟩
    have h2 : BitVec.ofNat 32 (tile (sz gs) 0) = 4294967295#32 := h.trans
      ((concatenate_pair_apply_left (t := S63) (s₁ := S1) (s₂ := S62) 0 _ _ _ _ rfl (ix1 (0 : Fin 1)) (fun b => by
        rw [Subsingleton.elim (α := Fin 1) b 0]; rfl)).trans (bc0 _ _ _))
    have h3 := congrArg BitVec.toNat h2
    rw [BitVec.toNat_ofNat] at h3
    have : (4294967295#32 : BitVec 32).toNat = 4294967295 := by decide
    have h5 := tile_lt' gs 0
    omega
  · have hc : concatenate S63 0 [⟨S1, broadcastInDim S1 ![] bcast_S_S1 (constantI S_ 32 4294967295#32)⟩,
        ⟨S62, extractStridedSlice S62 ![0] (tileT gs) slices_S63_S62_0⟩] concatenates_S1_S62_S63_d0 (ix1 i)
        = tileT gs (ix1 (⟨i.val - 1, by omega⟩ : Fin 63)) := by
      refine concatenate_pair_apply_right (t := S63) (s₁ := S1) (s₂ := S62) 0 _ _ _ (ix1 i) rfl rfl (ix1 (⟨i.val - 1, by omega⟩ : Fin 62)) (fun b hb => ?_) ?_ |>.trans ?_
      · exact absurd (Subsingleton.elim (α := Fin 1) _ _) hb
      · show i.val - 1 + 1 = i.val
        omega
      · refine (slice1 0 (tileT gs) slices_S63_S62_0 (⟨i.val - 1, by omega⟩ : Fin 62) (by show 0 + (i.val - 1) < 63; omega)).trans ?_
        exact congrArg (fun q => tileT gs (ix1 q)) (Fin.ext (Nat.zero_add _))
    rw [hc, tileT_word gs hg]
    have h4 := tile_lt' gs (i.val - 1)
    have hne : i.val ≠ 0 := by omega
    simp only [hne, false_or]
    constructor
    · intro h h'; exact h (by rw [h'])
    · intro h h'
      have h3 := congrArg BitVec.toNat h'
      rw [BitVec.toNat_ofNat, BitVec.toNat_ofNat] at h3
      exact h (by omega)

end Cert.Kernel.Hand

end
-- ==== Proof.Kernel.Body.lean ====
/-
  The kernel body, as pure values and as triples: what the body leaves in its three scratch buffers and its two output
  blocks, in terms of what it finds. Everything here is about one grid point and any staging buffers, at any float semantics.
-/
module

public import proofs.«01_k».proof.Proof.Gen.Kernel.Skeleton
public import proofs.«01_k».proof.Proof.Gen.Kernel.Launch
public import Idealize.ShloMosaic.Lib.Exec
public import Idealize.ShloMosaic.Lib.Pipeline.Frame
public import Idealize.ShloMosaic.Lib.Pipeline.FrameBody
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The values -/

/-- The 32 rows of quantised codes of 32 rows of `dy`. -/
def qblk (x : Vec F S32x2560 .bf16) : FVec F S32x2560 .fp8e5m2 := k0_pay6 x (k0_pay2 x) (k0_pay3 x)
/-- Their scales, each row's repeated along the lanes. -/
def sblk (x : Vec F S32x2560 .bf16) : FVec F S32x128 .f32 := k0_pay5 (F := F) (k0_pay4 x)

abbrev rq0 : Rect S256x2560 := Rect.unit (s := S256x2560) ![0, 0] S32x2560.size inb_S256x2560_S32x2560_0_0
abbrev rs0 : Rect S256x128 := Rect.unit (s := S256x128) ![0, 0] S32x128.size inb_S256x128_S32x128_0_0
abbrev rh0 : Rect S256x1024 := Rect.unit (s := S256x1024) ![0, 0] S32x1024.size inb_S256x1024_S32x1024_0_0
abbrev rc0 : Rect S256x1 := Rect.unit (s := S256x1) ![0, 0] S32x1.size inb_S256x1_S32x1_0_0
abbrev ro0_0 : Rect S2x256x1024 := Rect.unit (s := S2x256x1024) ![0, 0, 0] S1x32x1024.size inb_S2x256x1024_S1x32x1024_0_0_0
abbrev ro1_0 : Rect S2x256x1024 := Rect.unit (s := S2x256x1024) ![1, 0, 0] S1x32x1024.size inb_S2x256x1024_S1x32x1024_1_0_0
abbrev rq1 : Rect S256x2560 := Rect.unit (s := S256x2560) ![32, 0] S32x2560.size inb_S256x2560_S32x2560_32_0
abbrev rs1 : Rect S256x128 := Rect.unit (s := S256x128) ![32, 0] S32x128.size inb_S256x128_S32x128_32_0
abbrev rh1 : Rect S256x1024 := Rect.unit (s := S256x1024) ![32, 0] S32x1024.size inb_S256x1024_S32x1024_32_0
abbrev rc1 : Rect S256x1 := Rect.unit (s := S256x1) ![32, 0] S32x1.size inb_S256x1_S32x1_32_0
abbrev ro0_1 : Rect S2x256x1024 := Rect.unit (s := S2x256x1024) ![0, 32, 0] S1x32x1024.size inb_S2x256x1024_S1x32x1024_0_32_0
abbrev ro1_1 : Rect S2x256x1024 := Rect.unit (s := S2x256x1024) ![1, 32, 0] S1x32x1024.size inb_S2x256x1024_S1x32x1024_1_32_0
abbrev rq2 : Rect S256x2560 := Rect.unit (s := S256x2560) ![64, 0] S32x2560.size inb_S256x2560_S32x2560_64_0
abbrev rs2 : Rect S256x128 := Rect.unit (s := S256x128) ![64, 0] S32x128.size inb_S256x128_S32x128_64_0
abbrev rh2 : Rect S256x1024 := Rect.unit (s := S256x1024) ![64, 0] S32x1024.size inb_S256x1024_S32x1024_64_0
abbrev rc2 : Rect S256x1 := Rect.unit (s := S256x1) ![64, 0] S32x1.size inb_S256x1_S32x1_64_0
abbrev ro0_2 : Rect S2x256x1024 := Rect.unit (s := S2x256x1024) ![0, 64, 0] S1x32x1024.size inb_S2x256x1024_S1x32x1024_0_64_0
abbrev ro1_2 : Rect S2x256x1024 := Rect.unit (s := S2x256x1024) ![1, 64, 0] S1x32x1024.size inb_S2x256x1024_S1x32x1024_1_64_0
abbrev rq3 : Rect S256x2560 := Rect.unit (s := S256x2560) ![96, 0] S32x2560.size inb_S256x2560_S32x2560_96_0
abbrev rs3 : Rect S256x128 := Rect.unit (s := S256x128) ![96, 0] S32x128.size inb_S256x128_S32x128_96_0
abbrev rh3 : Rect S256x1024 := Rect.unit (s := S256x1024) ![96, 0] S32x1024.size inb_S256x1024_S32x1024_96_0
abbrev rc3 : Rect S256x1 := Rect.unit (s := S256x1) ![96, 0] S32x1.size inb_S256x1_S32x1_96_0
abbrev ro0_3 : Rect S2x256x1024 := Rect.unit (s := S2x256x1024) ![0, 96, 0] S1x32x1024.size inb_S2x256x1024_S1x32x1024_0_96_0
abbrev ro1_3 : Rect S2x256x1024 := Rect.unit (s := S2x256x1024) ![1, 96, 0] S1x32x1024.size inb_S2x256x1024_S1x32x1024_1_96_0
abbrev rq4 : Rect S256x2560 := Rect.unit (s := S256x2560) ![128, 0] S32x2560.size inb_S256x2560_S32x2560_128_0
abbrev rs4 : Rect S256x128 := Rect.unit (s := S256x128) ![128, 0] S32x128.size inb_S256x128_S32x128_128_0
abbrev rh4 : Rect S256x1024 := Rect.unit (s := S256x1024) ![128, 0] S32x1024.size inb_S256x1024_S32x1024_128_0
abbrev rc4 : Rect S256x1 := Rect.unit (s := S256x1) ![128, 0] S32x1.size inb_S256x1_S32x1_128_0
abbrev ro0_4 : Rect S2x256x1024 := Rect.unit (s := S2x256x1024) ![0, 128, 0] S1x32x1024.size inb_S2x256x1024_S1x32x1024_0_128_0
abbrev ro1_4 : Rect S2x256x1024 := Rect.unit (s := S2x256x1024) ![1, 128, 0] S1x32x1024.size inb_S2x256x1024_S1x32x1024_1_128_0
abbrev rq5 : Rect S256x2560 := Rect.unit (s := S256x2560) ![160, 0] S32x2560.size inb_S256x2560_S32x2560_160_0
abbrev rs5 : Rect S256x128 := Rect.unit (s := S256x128) ![160, 0] S32x128.size inb_S256x128_S32x128_160_0
abbrev rh5 : Rect S256x1024 := Rect.unit (s := S256x1024) ![160, 0] S32x1024.size inb_S256x1024_S32x1024_160_0
abbrev rc5 : Rect S256x1 := Rect.unit (s := S256x1) ![160, 0] S32x1.size inb_S256x1_S32x1_160_0
abbrev ro0_5 : Rect S2x256x1024 := Rect.unit (s := S2x256x1024) ![0, 160, 0] S1x32x1024.size inb_S2x256x1024_S1x32x1024_0_160_0
abbrev ro1_5 : Rect S2x256x1024 := Rect.unit (s := S2x256x1024) ![1, 160, 0] S1x32x1024.size inb_S2x256x1024_S1x32x1024_1_160_0
abbrev rq6 : Rect S256x2560 := Rect.unit (s := S256x2560) ![192, 0] S32x2560.size inb_S256x2560_S32x2560_192_0
abbrev rs6 : Rect S256x128 := Rect.unit (s := S256x128) ![192, 0] S32x128.size inb_S256x128_S32x128_192_0
abbrev rh6 : Rect S256x1024 := Rect.unit (s := S256x1024) ![192, 0] S32x1024.size inb_S256x1024_S32x1024_192_0
abbrev rc6 : Rect S256x1 := Rect.unit (s := S256x1) ![192, 0] S32x1.size inb_S256x1_S32x1_192_0
abbrev ro0_6 : Rect S2x256x1024 := Rect.unit (s := S2x256x1024) ![0, 192, 0] S1x32x1024.size inb_S2x256x1024_S1x32x1024_0_192_0
abbrev ro1_6 : Rect S2x256x1024 := Rect.unit (s := S2x256x1024) ![1, 192, 0] S1x32x1024.size inb_S2x256x1024_S1x32x1024_1_192_0
abbrev rq7 : Rect S256x2560 := Rect.unit (s := S256x2560) ![224, 0] S32x2560.size inb_S256x2560_S32x2560_224_0
abbrev rs7 : Rect S256x128 := Rect.unit (s := S256x128) ![224, 0] S32x128.size inb_S256x128_S32x128_224_0
abbrev rh7 : Rect S256x1024 := Rect.unit (s := S256x1024) ![224, 0] S32x1024.size inb_S256x1024_S32x1024_224_0
abbrev rc7 : Rect S256x1 := Rect.unit (s := S256x1) ![224, 0] S32x1.size inb_S256x1_S32x1_224_0
abbrev ro0_7 : Rect S2x256x1024 := Rect.unit (s := S2x256x1024) ![0, 224, 0] S1x32x1024.size inb_S2x256x1024_S1x32x1024_0_224_0
abbrev ro1_7 : Rect S2x256x1024 := Rect.unit (s := S2x256x1024) ![1, 224, 0] S1x32x1024.size inb_S2x256x1024_S1x32x1024_1_224_0

/-- The codes of a 256-row block of `dy`, 32 rows a piece. -/
def qtile (x : Vec F S256x2560 .bf16) : Vec F S256x2560 .fp8e5m2 :=
  View.canon [⟨rq7, qblk (View.ld x rq7)⟩, ⟨rq6, qblk (View.ld x rq6)⟩, ⟨rq5, qblk (View.ld x rq5)⟩, ⟨rq4, qblk (View.ld x rq4)⟩, ⟨rq3, qblk (View.ld x rq3)⟩, ⟨rq2, qblk (View.ld x rq2)⟩, ⟨rq1, qblk (View.ld x rq1)⟩, ⟨rq0, qblk (View.ld x rq0)⟩]
/-- Its scales. -/
def stile (x : Vec F S256x2560 .bf16) : Vec F S256x128 .f32 :=
  View.canon [⟨rs7, sblk (View.ld x rq7)⟩, ⟨rs6, sblk (View.ld x rq6)⟩, ⟨rs5, sblk (View.ld x rq5)⟩, ⟨rs4, sblk (View.ld x rq4)⟩, ⟨rs3, sblk (View.ld x rq3)⟩, ⟨rs2, sblk (View.ld x rq2)⟩, ⟨rs1, sblk (View.ld x rq1)⟩, ⟨rs0, sblk (View.ld x rq0)⟩]

/-- The 32 rows of quantised gradients of the gate, from 32 rows of `dh`, `g` and `u`; -/
def dgblk (h : Vec F S32x1024 .f32) (g u : Vec F S32x1024 .bf16) : FVec F S1x32x1024 .fp8e5m2 :=
  k0_pay60 (k0_pay53 h g u) (k0_pay55 h g u) (k0_pay56 h g u) 255#32
/-- of the up projection; -/
def dublk (h : Vec F S32x1024 .f32) (g u : Vec F S32x1024 .bf16) : FVec F S1x32x1024 .fp8e5m2 :=
  k0_pay61 (k0_pay54 h g) (k0_pay55 h g u) (k0_pay56 h g u) 255#32
/-- and their scales. -/
def scblk (h : Vec F S32x1024 .f32) (g u : Vec F S32x1024 .bf16) : FVec F S32x1 .f32 :=
  k0_pay58 (F := F) (k0_pay55 h g u) (k0_pay56 h g u) 255#32

/-- The block of codes of a row tile, from the tile of `dh`, `g` and `u`. -/
def otile (h : Vec F S256x1024 .f32) (g u : Vec F S256x1024 .bf16) : Vec F S2x256x1024 .fp8e5m2 :=
  View.canon [⟨ro1_7, dublk (View.ld h rh7) (View.ld g rh7) (View.ld u rh7)⟩, ⟨ro0_7, dgblk (View.ld h rh7) (View.ld g rh7) (View.ld u rh7)⟩, ⟨ro1_6, dublk (View.ld h rh6) (View.ld g rh6) (View.ld u rh6)⟩, ⟨ro0_6, dgblk (View.ld h rh6) (View.ld g rh6) (View.ld u rh6)⟩, ⟨ro1_5, dublk (View.ld h rh5) (View.ld g rh5) (View.ld u rh5)⟩, ⟨ro0_5, dgblk (View.ld h rh5) (View.ld g rh5) (View.ld u rh5)⟩, ⟨ro1_4, dublk (View.ld h rh4) (View.ld g rh4) (View.ld u rh4)⟩, ⟨ro0_4, dgblk (View.ld h rh4) (View.ld g rh4) (View.ld u rh4)⟩, ⟨ro1_3, dublk (View.ld h rh3) (View.ld g rh3) (View.ld u rh3)⟩, ⟨ro0_3, dgblk (View.ld h rh3) (View.ld g rh3) (View.ld u rh3)⟩, ⟨ro1_2, dublk (View.ld h rh2) (View.ld g rh2) (View.ld u rh2)⟩, ⟨ro0_2, dgblk (View.ld h rh2) (View.ld g rh2) (View.ld u rh2)⟩, ⟨ro1_1, dublk (View.ld h rh1) (View.ld g rh1) (View.ld u rh1)⟩, ⟨ro0_1, dgblk (View.ld h rh1) (View.ld g rh1) (View.ld u rh1)⟩, ⟨ro1_0, dublk (View.ld h rh0) (View.ld g rh0) (View.ld u rh0)⟩, ⟨ro0_0, dgblk (View.ld h rh0) (View.ld g rh0) (View.ld u rh0)⟩]
/-- Its scales. -/
def sctile (h : Vec F S256x1024 .f32) (g u : Vec F S256x1024 .bf16) : Vec F S256x1 .f32 :=
  View.canon [⟨rc7, scblk (View.ld h rh7) (View.ld g rh7) (View.ld u rh7)⟩, ⟨rc6, scblk (View.ld h rh6) (View.ld g rh6) (View.ld u rh6)⟩, ⟨rc5, scblk (View.ld h rh5) (View.ld g rh5) (View.ld u rh5)⟩, ⟨rc4, scblk (View.ld h rh4) (View.ld g rh4) (View.ld u rh4)⟩, ⟨rc3, scblk (View.ld h rh3) (View.ld g rh3) (View.ld u rh3)⟩, ⟨rc2, scblk (View.ld h rh2) (View.ld g rh2) (View.ld u rh2)⟩, ⟨rc1, scblk (View.ld h rh1) (View.ld g rh1) (View.ld u rh1)⟩, ⟨rc0, scblk (View.ld h rh0) (View.ld g rh0) (View.ld u rh0)⟩]

/-- The tile of `dh` after one item: its own rows replaced. -/
def hstep (q : Vec F S256x2560 .fp8e5m2) (s : Vec F S256x128 .f32) (w : Vec F S1x1024x2560 .fp8e4m3) (ws : Vec F S1x1x1024 .f32)
    (tile lo hi : BitVec 32) (h : Vec F S256x1024 .f32) : Vec F S256x1024 .f32 :=
  k0_pay140 q w tile lo hi (View.ld s (Rect.unit (s := S256x128) ![0, 0] S256x1.size inb_S256x128_S256x1_0_0)) ws h

/-! The pieces cover the buffers. -/
theorem cover_q (p0 : Vec F S32x2560 .fp8e5m2) (p1 : Vec F S32x2560 .fp8e5m2) (p2 : Vec F S32x2560 .fp8e5m2) (p3 : Vec F S32x2560 .fp8e5m2) (p4 : Vec F S32x2560 .fp8e5m2) (p5 : Vec F S32x2560 .fp8e5m2) (p6 : Vec F S32x2560 .fp8e5m2) (p7 : Vec F S32x2560 .fp8e5m2) (y : S256x2560.Idx) :
    ∃ pc ∈ ([⟨rq7, p0⟩, ⟨rq6, p1⟩, ⟨rq5, p2⟩, ⟨rq4, p3⟩, ⟨rq3, p4⟩, ⟨rq2, p5⟩, ⟨rq1, p6⟩, ⟨rq0, p7⟩] : List (View.Piece (Elt F) S256x2560 .fp8e5m2)), y ∈ pc.1.set :=
  View.cover_of_tiled [⟨rq7, p0⟩, ⟨rq6, p1⟩, ⟨rq5, p2⟩, ⟨rq4, p3⟩, ⟨rq3, p4⟩, ⟨rq2, p5⟩, ⟨rq1, p6⟩, ⟨rq0, p7⟩] S32x2560.size (by rfl) y
theorem cover_s (p0 : Vec F S32x128 .f32) (p1 : Vec F S32x128 .f32) (p2 : Vec F S32x128 .f32) (p3 : Vec F S32x128 .f32) (p4 : Vec F S32x128 .f32) (p5 : Vec F S32x128 .f32) (p6 : Vec F S32x128 .f32) (p7 : Vec F S32x128 .f32) (y : S256x128.Idx) :
    ∃ pc ∈ ([⟨rs7, p0⟩, ⟨rs6, p1⟩, ⟨rs5, p2⟩, ⟨rs4, p3⟩, ⟨rs3, p4⟩, ⟨rs2, p5⟩, ⟨rs1, p6⟩, ⟨rs0, p7⟩] : List (View.Piece (Elt F) S256x128 .f32)), y ∈ pc.1.set :=
  View.cover_of_tiled [⟨rs7, p0⟩, ⟨rs6, p1⟩, ⟨rs5, p2⟩, ⟨rs4, p3⟩, ⟨rs3, p4⟩, ⟨rs2, p5⟩, ⟨rs1, p6⟩, ⟨rs0, p7⟩] S32x128.size (by rfl) y
theorem cover_o (p0 : Vec F S1x32x1024 .fp8e5m2) (p1 : Vec F S1x32x1024 .fp8e5m2) (p2 : Vec F S1x32x1024 .fp8e5m2) (p3 : Vec F S1x32x1024 .fp8e5m2) (p4 : Vec F S1x32x1024 .fp8e5m2) (p5 : Vec F S1x32x1024 .fp8e5m2) (p6 : Vec F S1x32x1024 .fp8e5m2) (p7 : Vec F S1x32x1024 .fp8e5m2) (p8 : Vec F S1x32x1024 .fp8e5m2) (p9 : Vec F S1x32x1024 .fp8e5m2) (p10 : Vec F S1x32x1024 .fp8e5m2) (p11 : Vec F S1x32x1024 .fp8e5m2) (p12 : Vec F S1x32x1024 .fp8e5m2) (p13 : Vec F S1x32x1024 .fp8e5m2) (p14 : Vec F S1x32x1024 .fp8e5m2) (p15 : Vec F S1x32x1024 .fp8e5m2) (y : S2x256x1024.Idx) :
    ∃ pc ∈ ([⟨ro1_7, p0⟩, ⟨ro0_7, p1⟩, ⟨ro1_6, p2⟩, ⟨ro0_6, p3⟩, ⟨ro1_5, p4⟩, ⟨ro0_5, p5⟩, ⟨ro1_4, p6⟩, ⟨ro0_4, p7⟩, ⟨ro1_3, p8⟩, ⟨ro0_3, p9⟩, ⟨ro1_2, p10⟩, ⟨ro0_2, p11⟩, ⟨ro1_1, p12⟩, ⟨ro0_1, p13⟩, ⟨ro1_0, p14⟩, ⟨ro0_0, p15⟩] : List (View.Piece (Elt F) S2x256x1024 .fp8e5m2)), y ∈ pc.1.set :=
  View.cover_of_tiled [⟨ro1_7, p0⟩, ⟨ro0_7, p1⟩, ⟨ro1_6, p2⟩, ⟨ro0_6, p3⟩, ⟨ro1_5, p4⟩, ⟨ro0_5, p5⟩, ⟨ro1_4, p6⟩, ⟨ro0_4, p7⟩, ⟨ro1_3, p8⟩, ⟨ro0_3, p9⟩, ⟨ro1_2, p10⟩, ⟨ro0_2, p11⟩, ⟨ro1_1, p12⟩, ⟨ro0_1, p13⟩, ⟨ro1_0, p14⟩, ⟨ro0_0, p15⟩] S1x32x1024.size (by rfl) y
theorem cover_c (p0 : Vec F S32x1 .f32) (p1 : Vec F S32x1 .f32) (p2 : Vec F S32x1 .f32) (p3 : Vec F S32x1 .f32) (p4 : Vec F S32x1 .f32) (p5 : Vec F S32x1 .f32) (p6 : Vec F S32x1 .f32) (p7 : Vec F S32x1 .f32) (y : S256x1.Idx) :
    ∃ pc ∈ ([⟨rc7, p0⟩, ⟨rc6, p1⟩, ⟨rc5, p2⟩, ⟨rc4, p3⟩, ⟨rc3, p4⟩, ⟨rc2, p5⟩, ⟨rc1, p6⟩, ⟨rc0, p7⟩] : List (View.Piece (Elt F) S256x1 .f32)), y ∈ pc.1.set :=
  View.cover_of_tiled [⟨rc7, p0⟩, ⟨rc6, p1⟩, ⟨rc5, p2⟩, ⟨rc4, p3⟩, ⟨rc3, p4⟩, ⟨rc2, p5⟩, ⟨rc1, p6⟩, ⟨rc0, p7⟩] S32x1.size (by rfl) y
variable (c : Dev nD) (E : Set ℕ) (b : grid0.Bounds) (i : grid0.Static) (arg0 : BitVec 32) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .smem S63 .i32) (harg6 : arg6.IsWhole) (arg7 : Memref sig .tc .vmem S256x2560 .bf16) (harg7 : arg7.IsWhole) (arg8 : Memref sig .tc .vmem S1x1024x2560 .fp8e4m3) (harg8 : arg8.IsWhole) (arg9 : Memref sig .tc .vmem S1x1x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S2x256x1024 .fp8e5m2) (harg12 : arg12.IsWhole) (arg13 : Memref sig .tc .vmem S256x1 .f32) (harg13 : arg13.IsWhole) (arg14 : Memref sig .tc .vmem S256x2560 .fp8e5m2) (harg14 : arg14.IsWhole) (arg15 : Memref sig .tc .vmem S256x128 .f32) (harg15 : arg15.IsWhole) (arg16 : Memref sig .tc .vmem S256x1024 .f32) (harg16 : arg16.IsWhole)

/-- The branch of a tile's first item: the block of `dy` is quantised. -/
abbrev firstProg {α : Type} (k : PUnit.{1} → Prog (TpuEff nD τ sig (Elt F) Λ₀ .tc) α) : Prog (TpuEff nD τ sig (Elt F) Λ₀ .tc) α := do
  let ⟨v627, v629⟩ : Σ' (v627 : FVec F S32x2560 .bf16), FVec F S32x2560 .bf16 ← k0_part13 b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v632 : Vec F S32x2560 .fp8e5m2 ← Prog.lift (.load arg14 (Rect.unit (s := S256x2560) ![224, 0] S32x2560.size inb_S256x2560_S32x2560_224_0).toLoadRect (View.loadsAt_vmem h_S32x2560))
  Prog.lift (.store arg14 (Rect.unit (s := S256x2560) ![224, 0] S32x2560.size inb_S256x2560_S32x2560_224_0) (k0_pay139 v627 v629) Finset.univ (View.stores_vmem h_S32x2560 (harg14.storeExact_slice rfl _ packedfp8e5m2_S256x2560_S32x2560_224_0) (fun _ => rfl)) (.inl rfl))
  k ⟨⟩

set_option maxHeartbeats 4000000 in
theorem sound_first (x : Vec F S256x2560 .bf16) {α : Type} (k : PUnit.{1} → Prog (TpuEff nD τ sig (Elt F) Λ₀ .tc) α) (K : α → sProp 𝕄) :
    iprop(owns (c : Thread nD τ) arg7 fullShare x ∗ (∃ d, owns (c : Thread nD τ) arg14 fullShare d) ∗ (∃ d, owns (c : Thread nD τ) arg15 fullShare d)
        ∗ (iprop(owns (c : Thread nD τ) arg7 fullShare x ∗ owns (c : Thread nD τ) arg14 fullShare (qtile x) ∗ owns (c : Thread nD τ) arg15 fullShare (stile x))
            -∗ wp frame (wpE (defs₀ (F := F)) Variants.none c none) E (k ⟨⟩) K))
      ⊢ wp frame (wpE (defs₀ (F := F)) Variants.none c none) E (firstProg b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k) K := by
  unfold firstProg
  simp only [k0_part13_eq_skeleton]; unfold k0_part13_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f7, %hf7, H7⟩, ⟨%d14, %f14, -, H14⟩, ⟨%d15, %f15, -, H15⟩, Hk⟩
  subst hf7
  sl_exec
  iapply Hk
  isplitl [H7]
  · iexists f7; isplitr; · ipureintro; rfl
    iexact H7
  isplitl [H14]
  · iexists _; isplitr
    swap; · iexact H14
    ipureintro
    refine (View.read_writes_eq_canon _ _ _ (cover_q _ _ _ _ _ _ _ _)).trans ?_
    rfl
  iexists _; isplitr
  swap; · iexact H15
  ipureintro
  refine (View.read_writes_eq_canon _ _ _ (cover_s _ _ _ _ _ _ _ _)).trans ?_
  rfl

/-- The branch of a tile's last item: the output blocks are written. -/
abbrev lastProg {α : Type} (k : PUnit.{1} → Prog (TpuEff nD τ sig (Elt F) Λ₀ .tc) α) : Prog (TpuEff nD τ sig (Elt F) Λ₀ .tc) α := do
  let v679 : FVec F S32x1024 .fp8e5m2 ← k0_part29 b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v680 : Vec F S1x32x1024 .fp8e5m2 ← Prog.lift (.load arg12 (Rect.unit (s := S2x256x1024) ![1, 224, 0] S1x32x1024.size inb_S2x256x1024_S1x32x1024_1_224_0).toLoadRect (View.loadsAt_vmem h_S1x32x1024))
  Prog.lift (.store arg12 (Rect.unit (s := S2x256x1024) ![1, 224, 0] S1x32x1024.size inb_S2x256x1024_S1x32x1024_1_224_0) (k0_pay1 v679) Finset.univ (View.stores_vmem h_S1x32x1024 (harg12.storeExact_slice rfl _ packedfp8e5m2_S2x256x1024_S1x32x1024_1_224_0) (fun _ => rfl)) (.inl rfl))
  k ⟨⟩

set_option maxHeartbeats 4000000 in
theorem sound_last (h : Vec F S256x1024 .f32) (g u : Vec F S256x1024 .bf16) {α : Type} (k : PUnit.{1} → Prog (TpuEff nD τ sig (Elt F) Λ₀ .tc) α) (K : α → sProp 𝕄) :
    iprop(owns (c : Thread nD τ) arg10 fullShare g ∗ owns (c : Thread nD τ) arg11 fullShare u ∗ owns (c : Thread nD τ) arg16 fullShare h
        ∗ (∃ d, owns (c : Thread nD τ) arg12 fullShare d) ∗ (∃ d, owns (c : Thread nD τ) arg13 fullShare d)
        ∗ (iprop(owns (c : Thread nD τ) arg10 fullShare g ∗ owns (c : Thread nD τ) arg11 fullShare u ∗ owns (c : Thread nD τ) arg16 fullShare h
              ∗ owns (c : Thread nD τ) arg12 fullShare (otile h g u) ∗ owns (c : Thread nD τ) arg13 fullShare (sctile h g u))
            -∗ wp frame (wpE (defs₀ (F := F)) Variants.none c none) E (k ⟨⟩) K))
      ⊢ wp frame (wpE (defs₀ (F := F)) Variants.none c none) E (lastProg b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k) K := by
  unfold lastProg
  simp only [k0_part29_eq_skeleton]; unfold k0_part29_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f10, %hf10, H10⟩, ⟨%f11, %hf11, H11⟩, ⟨%f16, %hf16, H16⟩, ⟨%d12, %f12, -, H12⟩, ⟨%d13, %f13, -, H13⟩, Hk⟩
  subst hf10 hf11 hf16
  sl_exec
  iapply Hk
  isplitl [H10]
  · iexists f10; isplitr; · ipureintro; rfl
    iexact H10
  isplitl [H11]
  · iexists f11; isplitr; · ipureintro; rfl
    iexact H11
  isplitl [H16]
  · iexists f16; isplitr; · ipureintro; rfl
    iexact H16
  isplitl [H12]
  · iexists _; isplitr
    swap; · iexact H12
    ipureintro
    refine (View.read_writes_eq_canon _ _ _ (cover_o _ _ _ _ _ _ _ _ _ _ _ _ _ _ _ _)).trans ?_
    rfl
  iexists _; isplitr
  swap; · iexact H13
  ipureintro
  refine (View.read_writes_eq_canon _ _ _ (cover_c _ _ _ _ _ _ _ _)).trans ?_
  rfl

/-- The word of a table at the item's position. -/
abbrev wordAt (t : Vec F S63 .i32) (arg0 : BitVec 32) (h : k0_chk1 arg0) : BitVec 32 :=
  View.ld t (Rect.unit (s := S63) (k0_off3 arg0) S1.size (k0_off3_inb arg0 h)) (Shape.Idx.first (s := S1) (numel1_S1.symm ▸ Nat.one_pos))

theorem zero2 (a : Fin 2) : (![0, 0] : Fin 2 → ℕ) a = 0 := by fin_cases a <;> rfl

theorem zero3 (a : Fin 3) : (![0, 0, 0] : Fin 3 → ℕ) a = 0 := by fin_cases a <;> rfl

theorem first_iff (x : BitVec 32) : Scalar.cmpi CmpIPredicate.ne (Scalar.extui (Scalar.cmpi CmpIPredicate.eq x 1#32) : BitVec 32) 0#32 = 1#1 ↔ x = 1#32 := by
  by_cases h : x = 1#32
  · subst h; decide
  · have h' : Scalar.cmpi CmpIPredicate.eq x 1#32 = 0#1 := by
      show BitVec.ofBool (x == 1#32) = 0#1
      rw [beq_eq_false_iff_ne.mpr h]; rfl
    rw [h']; simp [h]; decide

/-- The rectangle of a whole buffer leaves positions alone. -/
theorem idx_whole {s : Shape} (off : Fin s.rank → ℕ) (hoff : ∀ a, off a = 0) (inb : ∀ a, off a + s.size a ≤ s.size a) (x : s.Idx) :
    (Rect.unit (s := s) off s.size inb).idx x = x := by
  funext a; apply Fin.ext
  show off a + 1 * (x a).val = _
  rw [hoff, Nat.zero_add, Nat.one_mul]

/-- A store of a whole buffer leaves the value stored. -/
theorem read_writes_whole {sp : Space} {s : Shape} {e : EltTy} (v : View sig .tc sp s e) (f : v.ty.Contents (Elt F)) (off : Fin s.rank → ℕ) (hoff : ∀ a, off a = 0)
    {inb : ∀ a, off a + s.size a ≤ s.size a} (p : s.Idx → Elt F e) :
    v.read (Elt F) (v.writes (Elt F) f [⟨Rect.unit (s := s) off s.size inb, p⟩]) = p := by
  have hcov : ∀ y : s.Idx, y ∈ (Rect.unit (s := s) off s.size inb).set := fun y => by
    have := (Rect.unit (s := s) off s.size inb).idx_mem y
    rwa [idx_whole off hoff inb y] at this
  refine (View.read_writes_eq_canon v f _ fun y => ⟨_, List.mem_singleton_self _, hcov y⟩).trans ?_
  funext y
  have h := View.canon_cons_emb (Val := Elt F) (Rect.unit (s := s) off s.size inb) p [] y
  have e : (Rect.unit (s := s) off s.size inb).emb y = y := idx_whole off hoff inb y
  rwa [e] at h

/-- A load of a whole buffer is what it holds. -/
theorem readAt_whole {sp : Space} {s : Shape} {e : EltTy} (v : View sig .tc sp s e) (f : v.ty.Contents (Elt F)) (off : Fin s.rank → ℕ) (hoff : ∀ a, off a = 0)
    {inb : ∀ a, off a + s.size a ≤ s.size a} :
    v.readAt (Elt F) (Rect.unit (s := s) off s.size inb).toLoadRect f = v.read (Elt F) f := by
  rw [View.readAt_eq_ld]
  funext y
  exact congrArg (v.read (Elt F) f) (idx_whole off hoff inb y)

set_option maxHeartbeats 400000 in
theorem sound_item (q : PosShare TreeShare) (t1 t3 t4 t5 : Vec F S63 .i32) (hchk : k0_chk1 arg0)
    (x : Vec F S256x2560 .bf16) (w : Vec F S1x1024x2560 .fp8e4m3) (ws : Vec F S1x1x1024 .f32)
    (q0 : Vec F S256x2560 .fp8e5m2) (s0 : Vec F S256x128 .f32) (h0 : Vec F S256x1024 .f32)
    (q1 : Vec F S256x2560 .fp8e5m2) (s1 : Vec F S256x128 .f32)
    (hq1 : q1 = if wordAt t5 arg0 hchk = 1#32 then qtile x else q0) (hs1 : s1 = if wordAt t5 arg0 hchk = 1#32 then stile x else s0)
    (K : PLift (k0_chk1 arg0) → sProp 𝕄) :
    iprop(owns (c : Thread nD τ) arg1 q t1 ∗ owns (c : Thread nD τ) arg3 q t3 ∗ owns (c : Thread nD τ) arg4 q t4 ∗ owns (c : Thread nD τ) arg5 q t5
        ∗ owns (c : Thread nD τ) arg7 fullShare x ∗ owns (c : Thread nD τ) arg8 fullShare w ∗ owns (c : Thread nD τ) arg9 fullShare ws
        ∗ owns (c : Thread nD τ) arg14 fullShare q0 ∗ owns (c : Thread nD τ) arg15 fullShare s0 ∗ owns (c : Thread nD τ) arg16 fullShare h0
        ∗ (iprop(owns (c : Thread nD τ) arg1 q t1 ∗ owns (c : Thread nD τ) arg3 q t3 ∗ owns (c : Thread nD τ) arg4 q t4 ∗ owns (c : Thread nD τ) arg5 q t5
            ∗ owns (c : Thread nD τ) arg7 fullShare x ∗ owns (c : Thread nD τ) arg8 fullShare w ∗ owns (c : Thread nD τ) arg9 fullShare ws
            ∗ owns (c : Thread nD τ) arg14 fullShare q1 ∗ owns (c : Thread nD τ) arg15 fullShare s1
            ∗ owns (c : Thread nD τ) arg16 fullShare (hstep q1 s1 w ws (wordAt t1 arg0 hchk) (wordAt t3 arg0 hchk) (wordAt t4 arg0 hchk) h0)) -∗ K ⟨hchk⟩))
      ⊢ wp frame (wpE (defs₀ (F := F)) Variants.none c none) E (k0_part30 b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part30_eq_skeleton]; unfold k0_part30_skel
  simp only [k0_part13_eq_skeleton]; unfold k0_part13_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold smemLoad smemLoadElt owns
  iintro ⟨⟨%f1, %hf1, H1⟩, ⟨%f3, %hf3, H3⟩, ⟨%f4, %hf4, H4⟩, ⟨%f5, %hf5, H5⟩, ⟨%f7, %hf7, H7⟩, ⟨%f8, %hf8, H8⟩, ⟨%f9, %hf9, H9⟩, ⟨%f14, %hf14, H14⟩, ⟨%f15, %hf15, H15⟩, ⟨%f16, %hf16, H16⟩, Hk⟩
  subst hf1 hf3 hf4 hf5 hf7 hf8 hf9 hf14 hf15 hf16
  sl_exec
  rw [wp_ret]
  imodintro
  iapply Hk
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  have hv := first_iff (wordAt (View.read (Elt F) arg5.view f5) arg0 hchk)
  isplitl [H14]
  · iexists _; isplitr
    swap; · iexact H14
    ipureintro
    subst hq1
    by_cases hw : wordAt (View.read (Elt F) arg5.view f5) arg0 hchk = 1#32
    · rw [if_pos hw]
      refine (congrArg (View.read (Elt F) arg14.view) (dif_pos (hv.mpr hw))).trans ?_
      refine (View.read_writes_eq_canon _ _ _ (cover_q _ _ _ _ _ _ _ _)).trans ?_
      rfl
    · rw [if_neg hw]
      exact congrArg (View.read (Elt F) arg14.view) (dif_neg (fun h => hw (hv.mp h)))
  isplitl [H15]
  · iexists _; isplitr
    swap; · iexact H15
    ipureintro
    subst hs1
    by_cases hw : wordAt (View.read (Elt F) arg5.view f5) arg0 hchk = 1#32
    · rw [if_pos hw]
      refine (congrArg (View.read (Elt F) arg15.view) (dif_pos (hv.mpr hw))).trans ?_
      refine (View.read_writes_eq_canon _ _ _ (cover_s _ _ _ _ _ _ _ _)).trans ?_
      rfl
    · rw [if_neg hw]
      exact congrArg (View.read (Elt F) arg15.view) (dif_neg (fun h => hw (hv.mp h)))
  iexists _; isplitr
  swap; · iexact H16
  ipureintro
  refine (read_writes_whole (s := S256x1024) arg16.view f16 ![0, 0] zero2 _).trans ?_
  have hv5 : sound_item.sl.v5 c arg0 arg5 arg7 arg14 hchk f5 f7 f14 = q1 := by
    refine (readAt_whole (s := S256x2560) arg14.view _ ![0, 0] zero2).trans ?_
    subst hq1
    by_cases hw : wordAt (View.read (Elt F) arg5.view f5) arg0 hchk = 1#32
    · rw [if_pos hw]
      refine (congrArg (View.read (Elt F) arg14.view) (dif_pos (hv.mpr hw))).trans ?_
      refine (View.read_writes_eq_canon _ _ _ (cover_q _ _ _ _ _ _ _ _)).trans ?_
      rfl
    · rw [if_neg hw]
      exact congrArg (View.read (Elt F) arg14.view) (dif_neg (fun h => hw (hv.mp h)))
  have hv24 : sound_item.sl.v24 c arg0 arg5 arg7 arg15 hchk f5 f7 f15 = View.ld s1 (Rect.unit (s := S256x128) ![0, 0] S256x1.size inb_S256x128_S256x1_0_0) := by
    refine congrArg (fun z => View.ld z (Rect.unit (s := S256x128) ![0, 0] S256x1.size inb_S256x128_S256x1_0_0)) (a₁ := View.read (Elt F) arg15.view _) ?_
    subst hs1
    by_cases hw : wordAt (View.read (Elt F) arg5.view f5) arg0 hchk = 1#32
    · rw [if_pos hw]
      refine (congrArg (View.read (Elt F) arg15.view) (dif_pos (hv.mpr hw))).trans ?_
      refine (View.read_writes_eq_canon _ _ _ (cover_s _ _ _ _ _ _ _ _)).trans ?_
      rfl
    · rw [if_neg hw]
      exact congrArg (View.read (Elt F) arg15.view) (dif_neg (fun h => hw (hv.mp h)))
  have h8 := readAt_whole (F := F) (s := S1x1024x2560) arg8.view f8 ![0, 0, 0] zero3 (inb := inb_S1x1024x2560_S1x1024x2560_0_0_0)
  have h9 := readAt_whole (F := F) (s := S1x1x1024) arg9.view f9 ![0, 0, 0] zero3 (inb := inb_S1x1x1024_S1x1x1024_0_0_0)
  have h16 := readAt_whole (F := F) (s := S256x1024) arg16.view f16 ![0, 0] zero2 (inb := inb_S256x1024_S256x1024_0_0)
  unfold hstep
  rw [← h8, ← h9, ← h16, ← hv5, ← hv24]
  rfl

set_option maxHeartbeats 400000 in
/-- The whole body at one item: the scratch buffers step, and at a tile's last item the output blocks are written. -/
theorem sound_kernel (q : PosShare TreeShare) (t1 t3 t4 t5 t6 : Vec F S63 .i32) (hchk : k0_chk1 arg0)
    (x : Vec F S256x2560 .bf16) (w : Vec F S1x1024x2560 .fp8e4m3) (ws : Vec F S1x1x1024 .f32) (g u : Vec F S256x1024 .bf16)
    (q0 : Vec F S256x2560 .fp8e5m2) (s0 : Vec F S256x128 .f32) (h0 : Vec F S256x1024 .f32)
    (o0 : Vec F S2x256x1024 .fp8e5m2) (c0 : Vec F S256x1 .f32)
    (q1 : Vec F S256x2560 .fp8e5m2) (s1 : Vec F S256x128 .f32)
    (hq1 : q1 = if wordAt t5 arg0 hchk = 1#32 then qtile x else q0) (hs1 : s1 = if wordAt t5 arg0 hchk = 1#32 then stile x else s0)
    (K : PUnit.{1} → sProp 𝕄) :
    iprop(owns (c : Thread nD τ) arg1 q t1 ∗ owns (c : Thread nD τ) arg3 q t3 ∗ owns (c : Thread nD τ) arg4 q t4 ∗ owns (c : Thread nD τ) arg5 q t5 ∗ owns (c : Thread nD τ) arg6 q t6
        ∗ owns (c : Thread nD τ) arg7 fullShare x ∗ owns (c : Thread nD τ) arg8 fullShare w ∗ owns (c : Thread nD τ) arg9 fullShare ws ∗ owns (c : Thread nD τ) arg10 fullShare g ∗ owns (c : Thread nD τ) arg11 fullShare u
        ∗ owns (c : Thread nD τ) arg14 fullShare q0 ∗ owns (c : Thread nD τ) arg15 fullShare s0 ∗ owns (c : Thread nD τ) arg16 fullShare h0 ∗ owns (c : Thread nD τ) arg12 fullShare o0 ∗ owns (c : Thread nD τ) arg13 fullShare c0
        ∗ (iprop(owns (c : Thread nD τ) arg1 q t1 ∗ owns (c : Thread nD τ) arg3 q t3 ∗ owns (c : Thread nD τ) arg4 q t4 ∗ owns (c : Thread nD τ) arg5 q t5 ∗ owns (c : Thread nD τ) arg6 q t6
            ∗ owns (c : Thread nD τ) arg7 fullShare x ∗ owns (c : Thread nD τ) arg8 fullShare w ∗ owns (c : Thread nD τ) arg9 fullShare ws ∗ owns (c : Thread nD τ) arg10 fullShare g ∗ owns (c : Thread nD τ) arg11 fullShare u
            ∗ owns (c : Thread nD τ) arg14 fullShare q1 ∗ owns (c : Thread nD τ) arg15 fullShare s1 ∗ owns (c : Thread nD τ) arg16 fullShare (hstep q1 s1 w ws (wordAt t1 arg0 hchk) (wordAt t3 arg0 hchk) (wordAt t4 arg0 hchk) h0) ∗ owns (c : Thread nD τ) arg12 fullShare (if k0_cond2 (wordAt t6 arg0 hchk) = 1#1 then otile (hstep q1 s1 w ws (wordAt t1 arg0 hchk) (wordAt t3 arg0 hchk) (wordAt t4 arg0 hchk) h0) g u else o0) ∗ owns (c : Thread nD τ) arg13 fullShare (if k0_cond2 (wordAt t6 arg0 hchk) = 1#1 then sctile (hstep q1 s1 w ws (wordAt t1 arg0 hchk) (wordAt t3 arg0 hchk) (wordAt t4 arg0 hchk) h0) g u else c0))
            -∗ K ⟨⟩))
      ⊢ wp frame (wpE (defs₀ (F := F)) Variants.none c none) E (cc0_dgrad b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dgrad_eq_skeleton]; unfold cc0_dgrad_skel
  rw [wp_bind]
  iintro ⟨H1, H3, H4, H5, H6, H7, H8, H9, H10, H11, H14, H15, H16, H12, H13, Hk⟩
  iapply (sound_item c E b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q t1 t3 t4 t5 hchk x w ws q0 s0 h0 q1 s1 hq1 hs1 _)
  isplitl [H1]; · iexact H1
  isplitl [H3]; · iexact H3
  isplitl [H4]; · iexact H4
  isplitl [H5]; · iexact H5
  isplitl [H7]; · iexact H7
  isplitl [H8]; · iexact H8
  isplitl [H9]; · iexact H9
  isplitl [H14]; · iexact H14
  isplitl [H15]; · iexact H15
  isplitl [H16]; · iexact H16
  iintro ⟨H1, H3, H4, H5, H7, H8, H9, H14, H15, H16⟩
  simp only [k0_part29_eq_skeleton]; unfold k0_part29_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold smemLoad smemLoadElt owns
  generalize (hstep q1 s1 w ws (wordAt t1 arg0 hchk) (wordAt t3 arg0 hchk) (wordAt t4 arg0 hchk) h0) = h1
  icases H6 with ⟨%f6, %hf6, H6⟩
  icases H10 with ⟨%f10, %hf10, H10⟩
  icases H11 with ⟨%f11, %hf11, H11⟩
  icases H12 with ⟨%f12, %hf12, H12⟩
  icases H13 with ⟨%f13, %hf13, H13⟩
  icases H16 with ⟨%f16, %hf16, H16⟩
  subst hf6 hf10 hf11 hf12 hf13 hf16
  sl_exec
  rw [wp_ret]
  imodintro
  iapply Hk
  isplitl [H1]; · iexact H1
  isplitl [H3]; · iexact H3
  isplitl [H4]; · iexact H4
  isplitl [H5]; · iexact H5
  isplitl [H6]
  · iexists f6; isplitr; · ipureintro; rfl
    iexact H6
  isplitl [H7]; · iexact H7
  isplitl [H8]; · iexact H8
  isplitl [H9]; · iexact H9
  isplitl [H10]
  · iexists f10; isplitr; · ipureintro; rfl
    iexact H10
  isplitl [H11]
  · iexists f11; isplitr; · ipureintro; rfl
    iexact H11
  isplitl [H14]; · iexact H14
  isplitl [H15]; · iexact H15
  isplitl [H16]
  · iexists f16; isplitr; · ipureintro; rfl
    iexact H16
  isplitl [H12]
  · iexists _; isplitr
    swap; · iexact H12
    ipureintro
    by_cases hw : k0_cond2 (wordAt (View.read (Elt F) arg6.view f6) arg0 hchk) = 1#1
    · rw [if_pos hw]
      refine (congrArg (View.read (Elt F) arg12.view) (dif_pos hw)).trans ?_
      refine (View.read_writes_eq_canon _ _ _ (cover_o _ _ _ _ _ _ _ _ _ _ _ _ _ _ _ _)).trans ?_
      rfl
    · rw [if_neg hw]
      exact congrArg (View.read (Elt F) arg12.view) (dif_neg hw)
  iexists _; isplitr
  swap; · iexact H13
  ipureintro
  by_cases hw : k0_cond2 (wordAt (View.read (Elt F) arg6.view f6) arg0 hchk) = 1#1
  · rw [if_pos hw]
    refine (congrArg (View.read (Elt F) arg13.view) (dif_pos hw)).trans ?_
    refine (View.read_writes_eq_canon _ _ _ (cover_c _ _ _ _ _ _ _ _)).trans ?_
    rfl
  · rw [if_neg hw]
    exact congrArg (View.read (Elt F) arg13.view) (dif_neg hw)

end Cert.Kernel.Hand

end
-- ==== Proof.Kernel.Adm.lean ====
/-
  The item tables as the region reads them: their contents at the launch's group sizes, the side condition the
  region checks of them (the grid's bound, every window's block inside its array), and the words the kernel's
  function and the windows' index maps read at a grid point.
-/
module

public import proofs.«01_k».proof.Proof.Kernel.Words
public import proofs.«01_k».proof.Proof.Kernel.Body

@[expose] public section

set_option maxRecDepth 16384

noncomputable section

namespace Cert.Kernel.Hand

open Idealize.ShloMosaic Idealize.ShloMosaic.ValueIdx
open Cert.Kernel.Gen Cert.Plan

attribute [local irreducible] Host.reduceWindow Host.reduce Host.gather concatenate
attribute [local irreducible] nT tileT expT loT hiT firstT lastT

variable {F : FTy → Type} [FloatOps F] (gs : IVec S40 32)

/-- The tables' contents: the number of items, then each item's row tile, expert, first and end row, and whether it
    is the first and the last item of its tile. -/
def pfN : pre0.Contents (Elt F) := fun
  | ⟨0, _⟩ => nT gs
  | ⟨1, _⟩ => tileT gs
  | ⟨2, _⟩ => expT gs
  | ⟨3, _⟩ => loT gs
  | ⟨4, _⟩ => hiT gs
  | ⟨5, _⟩ => firstT gs
  | ⟨6, _⟩ => lastT gs
  | ⟨_ + 7, h⟩ => absurd h (Nat.not_lt.2 (Nat.le_add_left _ _))

theorem cast_word (k : ℕ) (hk : k < 63) : (Scalar.indexCast (BitVec.ofNat 32 k)).toNat = k := by
  show (BitVec.ofNat 32 k).toNat = k
  rw [BitVec.toNat_ofNat, Nat.mod_eq_of_lt (by omega)]

theorem chk (k : ℕ) (hk : k < 63) : k0_chk1 (BitVec.ofNat 32 k) := by
  constructor
  · intro a
    obtain rfl : a = 0 := Subsingleton.elim _ _
    show (Scalar.indexCast (BitVec.ofNat 32 k)).toNat + 1 ≤ 63
    rw [cast_word k hk]; omega
  · intro a
    obtain rfl : a = 0 := Subsingleton.elim _ _
    show (Scalar.indexCast (BitVec.ofNat 32 k)).toNat + 1 ≤ 63
    rw [cast_word k hk]; omega

/-- The word the kernel's function reads of a table at point `k` is the table's entry `k`. -/
theorem wordAt_eq (t : Vec F S63 .i32) (k : ℕ) (hk : k < 63) (h : k0_chk1 (BitVec.ofNat 32 k)) :
    wordAt t (BitVec.ofNat 32 k) h = t (ix1 (⟨k, hk⟩ : Fin 63)) := by
  refine congrArg t (funext fun a => Fin.ext ?_)
  obtain rfl : a = 0 := Subsingleton.elim _ _
  have h0 : ∀ y : Fin 1, (Scalar.indexCast (BitVec.ofNat 32 k)).toNat + 1 * y.val = k := fun y => by
    rw [cast_word k hk]; have := y.isLt; omega
  exact h0 _

/-- The same of the index maps' reads. -/
theorem atD_eq (pf : pre0.Contents (Elt F)) (j : Fin 7) (t : Vec F S63 .i32) (hj : j ≠ 0) (k : ℕ) (hk : k < 63)
    (off : Fin (pre0.ref j).ty.shape.rank → ℕ) (hoff : ∀ a, off a = k) (hs : ∀ a, (pre0.ref j).ty.shape.size a = 63)
    (f : ∀ a, Fin ((pre0.ref j).ty.shape.size a)) (hf : ∀ a, (f a).val = k) : pf.atD j off = pf j f := by
  unfold Pipeline.Prefetch.Contents.atD
  rw [dif_pos (fun a => by rw [hoff, hs]; omega)]
  exact congrArg (pf j) (funext fun a => Fin.ext ((hoff a).trans (hf a).symm))

theorem atD_tile (k : ℕ) (hk : k < 63) (off : Fin 1 → ℕ) (hoff : ∀ a, off a = k) :
    (pfN (F := F) gs).atD 1 off = tileT gs (ix1 (⟨k, hk⟩ : Fin 63)) :=
  atD_eq (pfN gs) 1 (tileT gs) (by decide) k hk off hoff (fun a => by obtain rfl : a = (0 : Fin 1) := Subsingleton.elim (α := Fin 1) _ _; rfl)
    (ix1 (⟨k, hk⟩ : Fin 63)) (fun a => by obtain rfl : a = (0 : Fin 1) := Subsingleton.elim (α := Fin 1) _ _; rfl)

theorem atD_exp (k : ℕ) (hk : k < 63) (off : Fin 1 → ℕ) (hoff : ∀ a, off a = k) :
    (pfN (F := F) gs).atD 2 off = expT gs (ix1 (⟨k, hk⟩ : Fin 63)) :=
  atD_eq (pfN gs) 2 (expT gs) (by decide) k hk off hoff (fun a => by obtain rfl : a = (0 : Fin 1) := Subsingleton.elim (α := Fin 1) _ _; rfl)
    (ix1 (⟨k, hk⟩ : Fin 63)) (fun a => by obtain rfl : a = (0 : Fin 1) := Subsingleton.elim (α := Fin 1) _ _; rfl)

theorem atD_last (k : ℕ) (hk : k < 63) (off : Fin 1 → ℕ) (hoff : ∀ a, off a = k) :
    (pfN (F := F) gs).atD 6 off = lastT gs (ix1 (⟨k, hk⟩ : Fin 63)) :=
  atD_eq (pfN gs) 6 (lastT gs) (by decide) k hk off hoff (fun a => by obtain rfl : a = (0 : Fin 1) := Subsingleton.elim (α := Fin 1) _ _; rfl)
    (ix1 (⟨k, hk⟩ : Fin 63)) (fun a => by obtain rfl : a = (0 : Fin 1) := Subsingleton.elim (α := Fin 1) _ _; rfl)

variable (hg : Good gs)

/-- The grid: one axis, of as many points as there are items. -/
abbrev gridN : Pipeline.Grid := grid0.at (dynb0 (pfN (F := F) gs))

include hg in
theorem bound_N : (gridN (F := F) gs).bound 0 = n (sz gs) := by
  refine (congrArg BitVec.toNat (nT_word gs hg _)).trans ?_
  rw [BitVec.toNat_ofNat, Nat.mod_eq_of_lt]
  have := n_le (sz gs) hg
  omega

include hg in
theorem N_eq : (gridN (F := F) gs).N = n (sz gs) := by
  have h : (gridN (F := F) gs).N = (gridN (F := F) gs).bound 0 := by
    show (List.ofFn (n := 1) _).prod = _
    simp
  rw [h, bound_N gs hg]

include hg in
theorem coord_lt (i : (gridN (F := F) gs).Coords) : (i 0).val < n (sz gs) := lt_of_lt_of_eq (i 0).isLt (bound_N gs hg)

include hg in
theorem coord_lt63 (i : (gridN (F := F) gs).Coords) : (i 0).val < 63 :=
  lt_of_lt_of_le (coord_lt gs hg i) (n_le (sz gs) hg)

include hg in
theorem coords_val (t : Fin (gridN (F := F) gs).N) : ((gridN (F := F) gs).coords t 0).val = t.val := by
  rw [Pipeline.Grid.coords_val (G := gridN (F := F) gs) t 0 (S := 1) (by show (List.ofFn (n := 1) _).prod = _; simp) (bound_N gs hg), Nat.div_one, Nat.mod_eq_of_lt]
  exact lt_of_lt_of_eq t.isLt (N_eq gs hg)

include hg in
theorem tile_nat (i : (gridN (F := F) gs).Coords) (off : Fin 1 → ℕ) (hoff : ∀ a, off a = (i 0).val) :
    ((pfN (F := F) gs).atD 1 off).toNat = tile (sz gs) (i 0).val := by
  have h := tile_lt (sz gs) hg (coord_lt gs hg i)
  rw [atD_tile gs _ (coord_lt63 gs hg i) off hoff, tileT_word gs hg]
  show (BitVec.ofNat 32 (tile (sz gs) (i 0).val)).toNat = _
  rw [BitVec.toNat_ofNat, Nat.mod_eq_of_lt (by omega)]

include hg in
theorem exp_nat (i : (gridN (F := F) gs).Coords) (off : Fin 1 → ℕ) (hoff : ∀ a, off a = (i 0).val) :
    ((pfN (F := F) gs).atD 2 off).toNat = ex (sz gs) (i 0).val := by
  have h := (ex_le (sz gs) (i 0).val).1
  rw [atD_exp gs _ (coord_lt63 gs hg i) off hoff, expT_word gs hg]
  show (BitVec.ofNat 32 (ex (sz gs) (i 0).val)).toNat = _
  rw [BitVec.toNat_ofNat, Nat.mod_eq_of_lt (by omega)]

include hg in
theorem off_at (i : (gridN (F := F) gs).Coords) : ∀ a : Fin 1, (![(Scalar.indexCast (BitVec.ofNat 32 (i 0).val)).toNat] : Fin 1 → ℕ) a = (i 0).val := fun a => by
  obtain rfl : a = 0 := Subsingleton.elim _ _
  exact cast_word _ (coord_lt63 gs hg i)

section Maps
include hg
variable (i : (gridN (F := F) gs).Coords)

theorem map0 : cc0_transform_0 (pfN (F := F) gs) (dynb0 (pfN gs)) i = ![tile (sz gs) (i 0).val, 0] :=
  congrArg (fun x => ![x, 0]) (tile_nat gs hg i _ (off_at gs hg i))
theorem map1 : cc0_transform_1 (pfN (F := F) gs) (dynb0 (pfN gs)) i = ![ex (sz gs) (i 0).val, 0, 0] :=
  congrArg (fun x => ![x, 0, 0]) (exp_nat gs hg i _ (off_at gs hg i))
theorem map2 : cc0_transform_2 (pfN (F := F) gs) (dynb0 (pfN gs)) i = ![ex (sz gs) (i 0).val, 0, 0] :=
  congrArg (fun x => ![x, 0, 0]) (exp_nat gs hg i _ (off_at gs hg i))
theorem map3 : cc0_transform_3 (pfN (F := F) gs) (dynb0 (pfN gs)) i = ![tile (sz gs) (i 0).val, 0] :=
  congrArg (fun x => ![x, 0]) (tile_nat gs hg i _ (off_at gs hg i))
theorem map4 : cc0_transform_4 (pfN (F := F) gs) (dynb0 (pfN gs)) i = ![tile (sz gs) (i 0).val, 0] :=
  congrArg (fun x => ![x, 0]) (tile_nat gs hg i _ (off_at gs hg i))
theorem map5 : cc0_transform_5 (pfN (F := F) gs) (dynb0 (pfN gs)) i = ![0, tile (sz gs) (i 0).val, 0] :=
  congrArg (fun x => ![0, x, 0]) (tile_nat gs hg i _ (off_at gs hg i))
theorem map6 : cc0_transform_6 (pfN (F := F) gs) (dynb0 (pfN gs)) i = ![tile (sz gs) (i 0).val, 0] :=
  congrArg (fun x => ![x, 0]) (tile_nat gs hg i _ (off_at gs hg i))

end Maps

include hg in
/-- The side condition holds of these tables. -/
theorem ok_pfN : ok0 (F := F) (pfN gs) := by
  have hn := n_le (sz gs) hg
  unfold ok0
  refine ⟨?_, ?_, ?_, ?_, ?_, ?_, ?_, ?_, ?_⟩
  · show (gridN (F := F) gs).N + 2 < 2 ^ 31
    rw [N_eq gs hg]; omega
  · intro i a
    obtain rfl : a = 0 := Subsingleton.elim _ _
    have h := off_at gs hg i 0
    have h2 := coord_lt63 gs hg i
    show (Scalar.indexCast (BitVec.ofNat 32 (i 0).val)).toNat + 1 ≤ 63
    rw [cast_word _ h2]; omega
  · intro i
    rw [map0 gs hg i]
    have h := tile_lt (sz gs) hg (coord_lt gs hg i)
    refine ⟨fun a => ?_, .inr ?_⟩
    · fin_cases a
      · show (tile (sz gs) (i 0).val + 1) * 256 ≤ 6144; omega
      · show (0 + 1) * 2560 ≤ 2560; omega
    · refine .inl (.inr ⟨by decide, rfl, .inl ⟨?_, ?_⟩⟩)
      · show 2 ∣ tile (sz gs) (i 0).val * 256; omega
      · show 2 ∣ 256; decide
  · intro i
    rw [map1 gs hg i]
    have h := (ex_le (sz gs) (i 0).val).1
    refine ⟨fun a => ?_, .inr ?_⟩
    · fin_cases a
      · show (ex (sz gs) (i 0).val + 1) * 1 ≤ 40; omega
      · show (0 + 1) * 1024 ≤ 1024; omega
      · show (0 + 1) * 2560 ≤ 2560; omega
    · exact .inr ⟨by decide, rfl, rfl, rfl⟩
  · intro i
    rw [map2 gs hg i]
    have h := (ex_le (sz gs) (i 0).val).1
    refine ⟨fun a => ?_, .inl rfl⟩
    fin_cases a
    · show (ex (sz gs) (i 0).val + 1) * 1 ≤ 40; omega
    · show (0 + 1) * 1 ≤ 1; omega
    · show (0 + 1) * 1024 ≤ 1024; omega
  · intro i
    rw [map3 gs hg i]
    have h := tile_lt (sz gs) hg (coord_lt gs hg i)
    refine ⟨fun a => ?_, .inr ?_⟩
    · fin_cases a
      · show (tile (sz gs) (i 0).val + 1) * 256 ≤ 6144; omega
      · show (0 + 1) * 1024 ≤ 1024; omega
    · refine .inl (.inr ⟨by decide, rfl, .inl ⟨?_, ?_⟩⟩)
      · show 2 ∣ tile (sz gs) (i 0).val * 256; omega
      · show 2 ∣ 256; decide
  · intro i
    rw [map4 gs hg i]
    have h := tile_lt (sz gs) hg (coord_lt gs hg i)
    refine ⟨fun a => ?_, .inr ?_⟩
    · fin_cases a
      · show (tile (sz gs) (i 0).val + 1) * 256 ≤ 6144; omega
      · show (0 + 1) * 1024 ≤ 1024; omega
    · refine .inl (.inr ⟨by decide, rfl, .inl ⟨?_, ?_⟩⟩)
      · show 2 ∣ tile (sz gs) (i 0).val * 256; omega
      · show 2 ∣ 256; decide
  · intro i
    rw [map5 gs hg i]
    have h := tile_lt (sz gs) hg (coord_lt gs hg i)
    refine ⟨fun a => ?_, .inr ?_⟩
    · fin_cases a
      · show (0 + 1) * 2 ≤ 2; omega
      · show (tile (sz gs) (i 0).val + 1) * 256 ≤ 6144; omega
      · show (0 + 1) * 1024 ≤ 1024; omega
    · refine .inl (.inr ⟨by decide, rfl, .inl ⟨?_, ?_⟩⟩)
      · show 4 ∣ tile (sz gs) (i 0).val * 256; omega
      · show 4 ∣ 256; decide
  · intro i
    rw [map6 gs hg i]
    have h := tile_lt (sz gs) hg (coord_lt gs hg i)
    refine ⟨fun a => ?_, .inl rfl⟩
    fin_cases a
    · show (tile (sz gs) (i 0).val + 1) * 256 ≤ 6144; omega
    · show (0 + 1) * 1 ≤ 1; omega

/-- The admissible contents the region is run at. -/
def adm : (pcfg0 (F := F)).Adm := ⟨pfN gs, ok_pfN gs hg⟩

/-- The pipeline there. -/
abbrev cfgA : Pipeline.Cfg sig Λ₀ := cfg0 (adm (F := F) gs hg)

theorem k0_cond2_iff (x : BitVec 32) : k0_cond2 x = 1#1 ↔ x = 1#32 := first_iff x

theorem cN_eq : (cfgA (F := F) gs hg).N = n (sz gs) := N_eq gs hg

theorem lt_n (t : Fin (cfgA (F := F) gs hg).N) : t.val < n (sz gs) := lt_of_lt_of_eq t.isLt (cN_eq gs hg)
theorem lt_63 (t : Fin (cfgA (F := F) gs hg).N) : t.val < 63 := lt_of_lt_of_le (lt_n gs hg t) (n_le (sz gs) hg)

end Cert.Kernel.Hand

end
-- ==== Proof.Kernel.Tile.lean ====
/-
  The row tiles: a tile's 256 rows of `dy`, `g` and `u`, its tile of `dh` (each row by its own group's weights), and
  what one item does to the `dh` scratch.
-/
module

public import proofs.«01_k».proof.Proof.Kernel.Adm

@[expose] public section

set_option maxRecDepth 16384

noncomputable section

namespace Cert.Kernel.Hand

open Idealize.ShloMosaic Idealize.ShloMosaic.ValueIdx Idealize.ShloMosaic.WordCmp
open Cert.Kernel.Gen Cert.Plan

attribute [local irreducible] Host.reduceWindow Host.reduce Host.gather concatenate
attribute [local irreducible] nT tileT expT loT hiT firstT lastT

variable {F : FTy → Type} [FloatOps F]

/-- Rows `256 k` and on of `dy`; -/
def rows (X : Vec F S6144x2560 .bf16) (k : ℕ) : Vec F S256x2560 .bf16 := fun j =>
  X (ix2 (⟨(k * 256 + (j 0).val) % 6144, Nat.mod_lt _ (by decide)⟩ : Fin 6144) (⟨(j 1).val, (j 1).isLt⟩ : Fin 2560))
/-- of `g` or `u`; -/
def rowsG (X : Vec F S6144x1024 .bf16) (k : ℕ) : Vec F S256x1024 .bf16 := fun j =>
  X (ix2 (⟨(k * 256 + (j 0).val) % 6144, Nat.mod_lt _ (by decide)⟩ : Fin 6144) (⟨(j 1).val, (j 1).isLt⟩ : Fin 1024))
/-- group `e`'s weights; -/
def wOf (X : Vec F S40x1024x2560 .fp8e4m3) (e : ℕ) : Vec F S1x1024x2560 .fp8e4m3 := fun j =>
  X (ix3 (⟨e % 40, Nat.mod_lt _ (by decide)⟩ : Fin 40) (⟨(j 1).val, (j 1).isLt⟩ : Fin 1024) (⟨(j 2).val, (j 2).isLt⟩ : Fin 2560))
/-- and their scales. -/
def wsOf (X : Vec F S40x1x1024 .f32) (e : ℕ) : Vec F S1x1x1024 .f32 := fun j =>
  X (ix3 (⟨e % 40, Nat.mod_lt _ (by decide)⟩ : Fin 40) (⟨(j 1).val, (j 1).isLt⟩ : Fin 1) (⟨(j 2).val, (j 2).isLt⟩ : Fin 1024))

/-- 256 rows of codes times a group's weights, each product scaled by its row's scale and its column's. -/
def accv (q : Vec F S256x2560 .fp8e5m2) (s : Vec F S256x128 .f32) (w : Vec F S1x1024x2560 .fp8e4m3) (ws : Vec F S1x1x1024 .f32) : FVec F S256x1024 .f32 :=
  mulf (mulf (matmul dot_S256x2560_S1024x2560_S256x1024_1_1_0_0_n_n none q (shapeCast S1024x2560 w shapeCasts_S1x1024x2560_S1024x2560) (constant S256x1024 .f32 0x00000000#32))
      (broadcastTo S256x1024 (View.ld s (Rect.unit (s := S256x128) ![0, 0] S256x1.size inb_S256x128_S256x1_0_0)) broadcasts_S256x1_S256x1024))
    (broadcastTo S256x1024 (shapeCast S1x1024 ws shapeCasts_S1x1x1024_S1x1024) broadcasts_S1x1024_S256x1024)

/-- The tile of `dh`: row `r`, of the group `eid r` it belongs to. -/
def dhTile (X : Vec F S6144x2560 .bf16) (W : Vec F S40x1024x2560 .fp8e4m3) (WS : Vec F S40x1x1024 .f32) (s : ℕ → ℕ) (k : ℕ) : Vec F S256x1024 .f32 := fun j =>
  accv (qtile (rows X k)) (stile (rows X k)) (wOf W (eid s (k * 256 + (j 0).val))) (wsOf WS (eid s (k * 256 + (j 0).val))) j

/-- One item, at an element: its rows from the product, the others kept. -/
theorem hstep_at (q : Vec F S256x2560 .fp8e5m2) (s : Vec F S256x128 .f32) (w : Vec F S1x1024x2560 .fp8e4m3) (ws : Vec F S1x1x1024 .f32)
    (T L H : ℕ) (hT : T < 24) (hL : L ≤ 6144) (hH : H ≤ 6144) (h : Vec F S256x1024 .f32) (j : S256x1024.Idx) :
    hstep q s w ws (BitVec.ofNat 32 T) (BitVec.ofNat 32 L) (BitVec.ofNat 32 H) h j
      = if L ≤ T * 256 + (j 0).val ∧ T * 256 + (j 0).val < H then accv q s w ws j else h j := by
  have hj : (j 0).val < 256 := (j 0).isLt
  have e1 : hstep q s w ws (BitVec.ofNat 32 T) (BitVec.ofNat 32 L) (BitVec.ofNat 32 H) h j
      = Scalar.select (broadcastTo S256x1024 (shapeCast S256x1 (andi (cmpi .sge (addi (broadcast S256x1 (Scalar.muli (BitVec.ofNat 32 T) 256#32)) (iota .tc S256x1 32 [0] iota_S256x1_d0_w32)) (broadcast S256x1 (BitVec.ofNat 32 L)))
          (cmpi .slt (addi (broadcast S256x1 (Scalar.muli (BitVec.ofNat 32 T) 256#32)) (iota .tc S256x1 32 [0] iota_S256x1_d0_w32)) (broadcast S256x1 (BitVec.ofNat 32 H)))) shapeCasts_S256x1_S256x1) broadcasts_S256x1_S256x1024 j)
        (accv q s w ws j) (h j) := by
    unfold hstep k0_pay140 accv
    dsimp only
    rw [shapeCast_self (s := S256x1024)]
    rfl
  rw [e1, shapeCast_self, broadcastTo_apply _ _ j (ix2 (⟨(j 0).val, hj⟩ : Fin 256) (0 : Fin 1)) (by
    intro a; fin_cases a <;> rfl)]
  have e2 : ∀ y : BitVec 1, Scalar.select y (accv q s w ws j) (h j) = if y = 1#1 then accv q s w ws j else h j := fun y => rfl
  rw [e2]
  have e3 : (addi (broadcast S256x1 (Scalar.muli (BitVec.ofNat 32 T) 256#32)) (iota .tc S256x1 32 [0] iota_S256x1_d0_w32)) (ix2 (⟨(j 0).val, hj⟩ : Fin 256) (0 : Fin 1)) = BitVec.ofNat 32 (T * 256 + (j 0).val) := by
    show BitVec.ofNat 32 T * 256#32 + BitVec.ofNat 32 (0 * 256 + (j 0).val) = _
    rw [Nat.zero_mul, Nat.zero_add]
    apply BitVec.eq_of_toNat_eq
    simp [BitVec.toNat_add, BitVec.toNat_mul]
  refine if_congr ?_ rfl rfl
  rw [andi_at, cmpi_at, cmpi_at, e3]
  show IntOp.andi (IntOp.cmpi .sge (BitVec.ofNat 32 (T * 256 + (j 0).val)) (BitVec.ofNat 32 L)) (IntOp.cmpi .slt (BitVec.ofNat 32 (T * 256 + (j 0).val)) (BitVec.ofNat 32 H)) = 1#1 ↔ _
  rw [cmpi_sge_ofNat (by omega) (by omega), cmpi_slt_ofNat (by omega) (by omega)]
  by_cases a : L ≤ T * 256 + (j 0).val <;> by_cases b : T * 256 + (j 0).val < H <;> simp [a, b, IntOp.andi]

/-- The rows of a tile that the items up to one ending at row `e` have written. -/
def Upto (s : ℕ → ℕ) (X : Vec F S6144x2560 .bf16) (W : Vec F S40x1024x2560 .fp8e4m3) (WS : Vec F S40x1x1024 .f32) (k e : ℕ) (h : Vec F S256x1024 .f32) : Prop :=
  ∀ j : S256x1024.Idx, k * 256 + (j 0).val < e → h j = dhTile X W WS s k j

/-- What the scratch holds before item `i`: nothing is known before the first; afterwards the codes and scales of the
    last item's tile, and the tile's rows of `dh` up to that item's end. -/
def Known (s : ℕ → ℕ) (X : Vec F S6144x2560 .bf16) (W : Vec F S40x1024x2560 .fp8e4m3) (WS : Vec F S40x1x1024 .f32) (i : ℕ)
    (q : Vec F S256x2560 .fp8e5m2) (sc : Vec F S256x128 .f32) (h : Vec F S256x1024 .f32) : Prop :=
  i ≠ 0 → q = qtile (rows X (tile s (i - 1))) ∧ sc = stile (rows X (tile s (i - 1))) ∧ Upto s X W WS (tile s (i - 1)) (hi s (i - 1)) h

/-- One item keeps that. -/
theorem known_step (s : ℕ → ℕ) (hs : pre s 40 = 6144) (X : Vec F S6144x2560 .bf16) (W : Vec F S40x1024x2560 .fp8e4m3) (WS : Vec F S40x1x1024 .f32) (i : ℕ) (hi' : i < n s)
    (q q1 : Vec F S256x2560 .fp8e5m2) (sc s1 : Vec F S256x128 .f32) (h : Vec F S256x1024 .f32) (hK : Known s X W WS i q sc h)
    (P : Prop) [Decidable P] (hP : P ↔ (i = 0 ∨ tile s i ≠ tile s (i - 1)))
    (hq1 : q1 = if P then qtile (rows X (tile s i)) else q) (hs1 : s1 = if P then stile (rows X (tile s i)) else sc) :
    Known s X W WS (i + 1) q1 s1 (hstep q1 s1 (wOf W (ex s i)) (wsOf WS (ex s i)) (BitVec.ofNat 32 (tile s i)) (BitVec.ofNat 32 (lo s i)) (BitVec.ofNat 32 (hi s i)) h) := by
  intro _
  rw [Nat.add_sub_cancel]
  have eq1 : q1 = qtile (rows X (tile s i)) := by
    rw [hq1]; split
    · rfl
    · rename_i hn
      rw [hP, not_or, not_not] at hn
      rw [(hK hn.1).1, hn.2]
  have es1 : s1 = stile (rows X (tile s i)) := by
    rw [hs1]; split
    · rfl
    · rename_i hn
      rw [hP, not_or, not_not] at hn
      rw [(hK hn.1).2.1, hn.2]
  refine ⟨eq1, es1, fun j hj => ?_⟩
  have hT := tile_lt s hs hi'
  have hH := hi_le s hs i
  have hL : lo s i ≤ 6144 := by
    by_contra hc
    have := hi_le s hs i
    rcases Nat.eq_zero_or_pos i with h0 | h0
    · subst h0; rw [(tile_zero s hs).2] at hc; omega
    · by_cases ht : tile s i = tile s (i - 1)
      · have h1 := next_lo s hs (i := i - 1) (by omega) (by rw [Nat.sub_add_cancel h0]; exact ht)
        rw [Nat.sub_add_cancel h0] at h1
        have h2 := hi_le s hs (i - 1)
        omega
      · have := first_lo s hs hi' (.inr ht); omega
  rw [hstep_at _ _ _ _ _ _ _ hT hL hH]
  by_cases hlo : lo s i ≤ tile s i * 256 + (j 0).val
  · rw [if_pos ⟨hlo, hj⟩]
    unfold dhTile
    rw [eid_eq s hlo hj, eq1, es1]
  · rw [if_neg (fun c => hlo c.1)]
    have hn : ¬ (i = 0 ∨ tile s i ≠ tile s (i - 1)) := fun c => by
      have := first_lo s hs hi' c; omega
    rw [not_or, not_not] at hn
    have h0 : 0 < i := Nat.pos_of_ne_zero hn.1
    have h1 := next_lo s hs (i := i - 1) (by omega) (by rw [Nat.sub_add_cancel h0]; exact hn.2)
    rw [Nat.sub_add_cancel h0] at h1
    rw [hn.2]
    refine (hK hn.1).2.2 j ?_
    rw [← hn.2]; omega

/-- After a tile's last item the scratch is the tile of `dh`. -/
theorem known_last (s : ℕ → ℕ) (X : Vec F S6144x2560 .bf16) (W : Vec F S40x1024x2560 .fp8e4m3) (WS : Vec F S40x1x1024 .f32) (i : ℕ)
    (q : Vec F S256x2560 .fp8e5m2) (sc : Vec F S256x128 .f32) (h : Vec F S256x1024 .f32) (hK : Known s X W WS (i + 1) q sc h)
    (hl : (tile s i + 1) * 256 ≤ hi s i) : h = dhTile X W WS s (tile s i) := by
  have hK := (hK (Nat.succ_ne_zero _)).2.2
  rw [Nat.add_sub_cancel] at hK
  funext j
  have hj : (j 0).val < 256 := (j 0).isLt
  exact hK j (by omega)

end Cert.Kernel.Hand

end
-- ==== Proof.Kernel.Stages.lean ====
/-
  The tables' contents when the region is entered, stretch by stretch of the host lines.
-/
module

public import proofs.«01_k».proof.Proof.Kernel.Tables
public import Idealize.ShloMosaic.Lib.StableHlo.RunClose

@[expose] public section

set_option maxRecDepth 16384
set_option maxHeartbeats 1000000

noncomputable section

namespace Cert.Kernel.Hand

open Idealize.ShloMosaic Idealize.ShloMosaic.TcCoe Idealize.ShloMosaic.Tactic
open Idealize.SL.Sem
open Cert.Kernel.Gen

attribute [local irreducible] Host.reduceWindow Host.reduce Host.gather concatenate extractStridedSlice broadcastInDim select cmpi subi addi muli minsi
  maxsi extui iotaInDim constantI signi andi Host.divsi Host.remsi shapeCast

variable {F : FTy → Type} [FloatOps F]
variable (m : (ℓ : Loc nD τ sig) → Buf (Elt F) ℓ)

/-- The last stretch in two. -/
abbrev hostOps10a : List (HloOp τ sig (Elt F)) :=
  [
StableHlo.nullary main_c_13 (constantI S_ 32 0#32),
    StableHlo.unary main_c_13 main_v43 (broadcastInDim S63 ![] bcast_S_S63 : (⟨S_, .i32⟩ : BufTy).Contents (Elt F) → (⟨S63, .i32⟩ : BufTy).Contents (Elt F)),
    StableHlo.binary main_v24 main_v43 main_v44 (cmpi .slt : (⟨S63, .i32⟩ : BufTy).Contents (Elt F) → (⟨S63, .i32⟩ : BufTy).Contents (Elt F) → (⟨S63, .i1⟩ : BufTy).Contents (Elt F)),
    StableHlo.nullary main_c_14 (constantI S_ 32 40#32),
    StableHlo.unary main_c_14 main_v45 (broadcastInDim S63 ![] bcast_S_S63 : (⟨S_, .i32⟩ : BufTy).Contents (Elt F) → (⟨S63, .i32⟩ : BufTy).Contents (Elt F)),
    StableHlo.binary main_v24 main_v45 main_v46 (addi : (⟨S63, .i32⟩ : BufTy).Contents (Elt F) → (⟨S63, .i32⟩ : BufTy).Contents (Elt F) → (⟨S63, .i32⟩ : BufTy).Contents (Elt F)),
    StableHlo.ternary main_v44 main_v46 main_v24 main_v47 (select : (⟨S63, .i1⟩ : BufTy).Contents (Elt F) → (⟨S63, .i32⟩ : BufTy).Contents (Elt F) → (⟨S63, .i32⟩ : BufTy).Contents (Elt F) → (⟨S63, .i32⟩ : BufTy).Contents (Elt F)),
    StableHlo.unary main_v47 main_v48 (broadcastInDim S63x1 ![0] bcast_S63_S63x1_0 : (⟨S63, .i32⟩ : BufTy).Contents (Elt F) → (⟨S63x1, .i32⟩ : BufTy).Contents (Elt F)),
    StableHlo.binary main_v1 main_v48 main_v49 ((fun x i => Host.gather gather_S40_S63x1_S63_n_0_n_n_0_1_1 x i) : (⟨S40, .i32⟩ : BufTy).Contents (Elt F) → (⟨S63x1, .i32⟩ : BufTy).Contents (Elt F) → (⟨S63, .i32⟩ : BufTy).Contents (Elt F)),
    StableHlo.nullary main_c_15 (constantI S_ 32 0#32),
    StableHlo.unary main_c_15 main_v50 (broadcastInDim S63 ![] bcast_S_S63 : (⟨S_, .i32⟩ : BufTy).Contents (Elt F) → (⟨S63, .i32⟩ : BufTy).Contents (Elt F)),
    StableHlo.binary main_v24 main_v50 main_v51 (cmpi .slt : (⟨S63, .i32⟩ : BufTy).Contents (Elt F) → (⟨S63, .i32⟩ : BufTy).Contents (Elt F) → (⟨S63, .i1⟩ : BufTy).Contents (Elt F)),
    StableHlo.nullary main_c_16 (constantI S_ 32 40#32),
    StableHlo.unary main_c_16 main_v52 (broadcastInDim S63 ![] bcast_S_S63 : (⟨S_, .i32⟩ : BufTy).Contents (Elt F) → (⟨S63, .i32⟩ : BufTy).Contents (Elt F)),
    StableHlo.binary main_v24 main_v52 main_v53 (addi : (⟨S63, .i32⟩ : BufTy).Contents (Elt F) → (⟨S63, .i32⟩ : BufTy).Contents (Elt F) → (⟨S63, .i32⟩ : BufTy).Contents (Elt F)),
    StableHlo.ternary main_v51 main_v53 main_v24 main_v54 (select : (⟨S63, .i1⟩ : BufTy).Contents (Elt F) → (⟨S63, .i32⟩ : BufTy).Contents (Elt F) → (⟨S63, .i32⟩ : BufTy).Contents (Elt F) → (⟨S63, .i32⟩ : BufTy).Contents (Elt F)),
    StableHlo.unary main_v54 main_v55 (broadcastInDim S63x1 ![0] bcast_S63_S63x1_0 : (⟨S63, .i32⟩ : BufTy).Contents (Elt F) → (⟨S63x1, .i32⟩ : BufTy).Contents (Elt F)),
    StableHlo.binary main_v0 main_v55 main_v56 ((fun x i => Host.gather gather_S40_S63x1_S63_n_0_n_n_0_1_1 x i) : (⟨S40, .i32⟩ : BufTy).Contents (Elt F) → (⟨S63x1, .i32⟩ : BufTy).Contents (Elt F) → (⟨S63, .i32⟩ : BufTy).Contents (Elt F)),
    StableHlo.nullary main_c_17 (constantI S_ 32 4294967295#32),
    StableHlo.unary main_c_17 main_v57 (broadcastInDim S1 ![] bcast_S_S1 : (⟨S_, .i32⟩ : BufTy).Contents (Elt F) → (⟨S1, .i32⟩ : BufTy).Contents (Elt F)),
    StableHlo.unary main_v42 main_v58 ((extractStridedSlice S62 ![0] · slices_S63_S62_0) : (⟨S63, .i32⟩ : BufTy).Contents (Elt F) → (⟨S62, .i32⟩ : BufTy).Contents (Elt F)) ]
abbrev hostOps10b : List (HloOp τ sig (Elt F)) :=
  [ StableHlo.binary main_v57 main_v58 main_v59 ((fun a b => concatenate S63 0 [⟨S1, a⟩, ⟨S62, b⟩] concatenates_S1_S62_S63_d0) : (⟨S1, .i32⟩ : BufTy).Contents (Elt F) → (⟨S62, .i32⟩ : BufTy).Contents (Elt F) → (⟨S63, .i32⟩ : BufTy).Contents (Elt F)),
    StableHlo.binary main_v42 main_v59 main_v60 (cmpi .ne : (⟨S63, .i32⟩ : BufTy).Contents (Elt F) → (⟨S63, .i32⟩ : BufTy).Contents (Elt F) → (⟨S63, .i1⟩ : BufTy).Contents (Elt F)),
    StableHlo.unary main_v60 main_v61 ((extui 32 · natLt_1_32) : (⟨S63, .i1⟩ : BufTy).Contents (Elt F) → (⟨S63, .i32⟩ : BufTy).Contents (Elt F)),
    StableHlo.nullary main_c_18 (constantI S_ 32 1#32),
    StableHlo.unary main_c_18 main_v62 (broadcastInDim S63 ![] bcast_S_S63 : (⟨S_, .i32⟩ : BufTy).Contents (Elt F) → (⟨S63, .i32⟩ : BufTy).Contents (Elt F)),
    StableHlo.binary main_v42 main_v62 main_v63 (addi : (⟨S63, .i32⟩ : BufTy).Contents (Elt F) → (⟨S63, .i32⟩ : BufTy).Contents (Elt F) → (⟨S63, .i32⟩ : BufTy).Contents (Elt F)),
    StableHlo.nullary main_c_19 (constantI S_ 32 256#32),
    StableHlo.unary main_c_19 main_v64 (broadcastInDim S63 ![] bcast_S_S63 : (⟨S_, .i32⟩ : BufTy).Contents (Elt F) → (⟨S63, .i32⟩ : BufTy).Contents (Elt F)),
    StableHlo.binary main_v63 main_v64 main_v65 (muli : (⟨S63, .i32⟩ : BufTy).Contents (Elt F) → (⟨S63, .i32⟩ : BufTy).Contents (Elt F) → (⟨S63, .i32⟩ : BufTy).Contents (Elt F)),
    StableHlo.binary main_v56 main_v65 main_v66 (cmpi .sge : (⟨S63, .i32⟩ : BufTy).Contents (Elt F) → (⟨S63, .i32⟩ : BufTy).Contents (Elt F) → (⟨S63, .i1⟩ : BufTy).Contents (Elt F)),
    StableHlo.unary main_v66 main_v67 ((extui 32 · natLt_1_32) : (⟨S63, .i1⟩ : BufTy).Contents (Elt F) → (⟨S63, .i32⟩ : BufTy).Contents (Elt F)),
    StableHlo.unary main_arg3 main_v68 (broadcastInDim S40x1x1024 ![0, 2] bcast_S40x1024_S40x1x1024_0_2 : (⟨S40x1024, .f32⟩ : BufTy).Contents (Elt F) → (⟨S40x1x1024, .f32⟩ : BufTy).Contents (Elt F)) ]
theorem hostOps10_eq : (hostOps0_10 : List (HloOp τ sig (Elt F))) = hostOps10a ++ hostOps10b := rfl
/-- The contents at launch, then after each stretch of host lines. -/
def St0 (c : Dev nD) : Valuation τ sig (Elt F) := fun b => m (c, b)
def St1 (c : Dev nD) : Valuation τ sig (Elt F) := StableHlo.after hostOps0 (St0 m c)
def St2 (c : Dev nD) : Valuation τ sig (Elt F) := StableHlo.after hostOps0_1 (St1 m c)
def St3 (c : Dev nD) : Valuation τ sig (Elt F) := StableHlo.after hostOps0_2 (St2 m c)
def St4 (c : Dev nD) : Valuation τ sig (Elt F) := StableHlo.after hostOps0_3 (St3 m c)
def St5 (c : Dev nD) : Valuation τ sig (Elt F) := StableHlo.after hostOps0_4 (St4 m c)
def St6 (c : Dev nD) : Valuation τ sig (Elt F) := StableHlo.after hostOps0_5 (St5 m c)
def St7 (c : Dev nD) : Valuation τ sig (Elt F) := StableHlo.after hostOps0_6 (St6 m c)
def St8 (c : Dev nD) : Valuation τ sig (Elt F) := StableHlo.after hostOps0_7 (St7 m c)
def St9 (c : Dev nD) : Valuation τ sig (Elt F) := StableHlo.after hostOps0_8 (St8 m c)
def St10 (c : Dev nD) : Valuation τ sig (Elt F) := StableHlo.after hostOps0_9 (St9 m c)
def St11 (c : Dev nD) : Valuation τ sig (Elt F) := StableHlo.after hostOps10a (St10 m c)
def St12 (c : Dev nD) : Valuation τ sig (Elt F) := StableHlo.after hostOps10b (St11 m c)
theorem V_eq (c : Dev nD) (b : Ref sig .tc) : V m c b = St12 m c b := by
  unfold V
  simp only [List.flatten_cons, List.flatten_nil, List.append_nil]
  rw [hostOps10_eq]
  rw [StableHlo.after_append, StableHlo.after_append, StableHlo.after_append, StableHlo.after_append, StableHlo.after_append, StableHlo.after_append, StableHlo.after_append, StableHlo.after_append, StableHlo.after_append, StableHlo.after_append, StableHlo.after_append]
  rfl

theorem St0_main_arg1 (c : Dev nD) : St0 m c main_arg1 = gsOf m c := rfl
theorem St0_main_arg3 (c : Dev nD) : St0 m c main_arg3 = m ((c : Thread nD τ).loc main_arg3) := rfl
theorem St1_main_arg1 (c : Dev nD) : St1 m c main_arg1 = gsOf m c := by
  unfold St1
  refine (StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St0_main_arg1 m c)
theorem St1_main_arg3 (c : Dev nD) : St1 m c main_arg3 = m ((c : Thread nD τ).loc main_arg3) := by
  unfold St1
  refine (StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St0_main_arg3 m c)
theorem St1_main_v0 (c : Dev nD) : St1 m c main_v0 = endsT (gsOf m c) := by
  unfold St1
  after_results_entrywise [St0_main_arg1 m c]
theorem St2_main_arg1 (c : Dev nD) : St2 m c main_arg1 = gsOf m c := by
  unfold St2
  refine (StableHlo.after_of_forall_not_mem (b := Proc.devRef .tc main_arg1) _ _ (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St1_main_arg1 m c)
theorem St2_main_arg3 (c : Dev nD) : St2 m c main_arg3 = m ((c : Thread nD τ).loc main_arg3) := by
  unfold St2
  refine (StableHlo.after_of_forall_not_mem (b := Proc.devRef .tc main_arg3) _ _ (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St1_main_arg3 m c)
theorem St2_main_c (c : Dev nD) : St2 m c main_c = constantI S_ 32 256#32 := by
  unfold St2
  after_results_entrywise [St1_main_v0 m c, St1_main_arg1 m c]
theorem St2_main_v0 (c : Dev nD) : St2 m c main_v0 = endsT (gsOf m c) := by
  unfold St2
  refine (StableHlo.after_of_forall_not_mem (b := Proc.devRef .tc main_v0) _ _ (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St1_main_v0 m c)
theorem St2_main_v1 (c : Dev nD) : St2 m c main_v1 = startsT (gsOf m c) := by
  unfold St2
  after_results_entrywise [St1_main_v0 m c, St1_main_arg1 m c]
theorem St3_main_arg1 (c : Dev nD) : St3 m c main_arg1 = gsOf m c := by
  unfold St3
  refine (StableHlo.after_of_forall_not_mem (b := Proc.devRef .tc main_arg1) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St2_main_arg1 m c)
theorem St3_main_arg3 (c : Dev nD) : St3 m c main_arg3 = m ((c : Thread nD τ).loc main_arg3) := by
  unfold St3
  refine (StableHlo.after_of_forall_not_mem (b := Proc.devRef .tc main_arg3) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St2_main_arg3 m c)
theorem St3_main_v0 (c : Dev nD) : St3 m c main_v0 = endsT (gsOf m c) := by
  unfold St3
  refine (StableHlo.after_of_forall_not_mem (b := Proc.devRef .tc main_v0) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St2_main_v0 m c)
theorem St3_main_v1 (c : Dev nD) : St3 m c main_v1 = startsT (gsOf m c) := by
  unfold St3
  refine (StableHlo.after_of_forall_not_mem (b := Proc.devRef .tc main_v1) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St2_main_v1 m c)
theorem St3_main_v2 (c : Dev nD) : St3 m c main_v2 = ftT (gsOf m c) := by
  unfold St3
  after_results_entrywise [St2_main_v1 m c, St2_main_c m c]
theorem St4_main_arg3 (c : Dev nD) : St4 m c main_arg3 = m ((c : Thread nD τ).loc main_arg3) := by
  unfold St4
  refine (StableHlo.after_of_forall_not_mem (b := Proc.devRef .tc main_arg3) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St3_main_arg3 m c)
theorem St4_main_c_2 (c : Dev nD) : St4 m c main_c_2 = constantI S_ 32 256#32 := by
  unfold St4
  after_results_entrywise [St3_main_arg1 m c, St3_main_v0 m c]
theorem St4_main_v0 (c : Dev nD) : St4 m c main_v0 = endsT (gsOf m c) := by
  unfold St4
  refine (StableHlo.after_of_forall_not_mem (b := Proc.devRef .tc main_v0) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St3_main_v0 m c)
theorem St4_main_v1 (c : Dev nD) : St4 m c main_v1 = startsT (gsOf m c) := by
  unfold St4
  refine (StableHlo.after_of_forall_not_mem (b := Proc.devRef .tc main_v1) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St3_main_v1 m c)
theorem St4_main_v2 (c : Dev nD) : St4 m c main_v2 = ftT (gsOf m c) := by
  unfold St4
  refine (StableHlo.after_of_forall_not_mem (b := Proc.devRef .tc main_v2) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St3_main_v2 m c)
theorem St4_main_v4 (c : Dev nD) : St4 m c main_v4 = cmpi .sgt (gsOf m c) (k40 0#32) := by
  unfold St4
  after_results_entrywise [St3_main_arg1 m c, St3_main_v0 m c]
theorem St4_main_v6 (c : Dev nD) : St4 m c main_v6 = subi (endsT (gsOf m c)) (k40 1#32) := by
  unfold St4
  after_results_entrywise [St3_main_arg1 m c, St3_main_v0 m c]
theorem St5_main_arg3 (c : Dev nD) : St5 m c main_arg3 = m ((c : Thread nD τ).loc main_arg3) := by
  unfold St5
  refine (StableHlo.after_of_forall_not_mem (b := Proc.devRef .tc main_arg3) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_arg3 m c)
theorem St5_main_v0 (c : Dev nD) : St5 m c main_v0 = endsT (gsOf m c) := by
  unfold St5
  refine (StableHlo.after_of_forall_not_mem (b := Proc.devRef .tc main_v0) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_v0 m c)
theorem St5_main_v1 (c : Dev nD) : St5 m c main_v1 = startsT (gsOf m c) := by
  unfold St5
  refine (StableHlo.after_of_forall_not_mem (b := Proc.devRef .tc main_v1) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_v1 m c)
theorem St5_main_v2 (c : Dev nD) : St5 m c main_v2 = ftT (gsOf m c) := by
  unfold St5
  refine (StableHlo.after_of_forall_not_mem (b := Proc.devRef .tc main_v2) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_v2 m c)
theorem St5_main_v4 (c : Dev nD) : St5 m c main_v4 = cmpi .sgt (gsOf m c) (k40 0#32) := by
  unfold St5
  refine (StableHlo.after_of_forall_not_mem (b := Proc.devRef .tc main_v4) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_v4 m c)
theorem St5_main_v7 (c : Dev nD) : St5 m c main_v7 = divT (subi (endsT (gsOf m c)) (k40 1#32)) := by
  unfold St5
  after_results_entrywise [St4_main_v6 m c, St4_main_c_2 m c]
theorem St6_main_arg3 (c : Dev nD) : St6 m c main_arg3 = m ((c : Thread nD τ).loc main_arg3) := by
  unfold St6
  refine (StableHlo.after_of_forall_not_mem (b := Proc.devRef .tc main_arg3) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_arg3 m c)
theorem St6_main_c_4 (c : Dev nD) : St6 m c main_c_4 = constantI S_ 32 0#32 := by
  unfold St6
  after_results_entrywise [St5_main_v7 m c, St5_main_v2 m c]
theorem St6_main_v0 (c : Dev nD) : St6 m c main_v0 = endsT (gsOf m c) := by
  unfold St6
  refine (StableHlo.after_of_forall_not_mem (b := Proc.devRef .tc main_v0) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_v0 m c)
theorem St6_main_v1 (c : Dev nD) : St6 m c main_v1 = startsT (gsOf m c) := by
  unfold St6
  refine (StableHlo.after_of_forall_not_mem (b := Proc.devRef .tc main_v1) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_v1 m c)
theorem St6_main_v10 (c : Dev nD) : St6 m c main_v10 = addi (subi (divT (subi (endsT (gsOf m c)) (k40 1#32))) (ftT (gsOf m c))) (k40 1#32) := by
  unfold St6
  after_results_entrywise [St5_main_v7 m c, St5_main_v2 m c]
theorem St6_main_v2 (c : Dev nD) : St6 m c main_v2 = ftT (gsOf m c) := by
  unfold St6
  refine (StableHlo.after_of_forall_not_mem (b := Proc.devRef .tc main_v2) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_v2 m c)
theorem St6_main_v4 (c : Dev nD) : St6 m c main_v4 = cmpi .sgt (gsOf m c) (k40 0#32) := by
  unfold St6
  refine (StableHlo.after_of_forall_not_mem (b := Proc.devRef .tc main_v4) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_v4 m c)
theorem St7_main_arg3 (c : Dev nD) : St7 m c main_arg3 = m ((c : Thread nD τ).loc main_arg3) := by
  unfold St7
  refine (StableHlo.after_of_forall_not_mem (b := Proc.devRef .tc main_arg3) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St6_main_arg3 m c)
theorem St7_main_v0 (c : Dev nD) : St7 m c main_v0 = endsT (gsOf m c) := by
  unfold St7
  refine (StableHlo.after_of_forall_not_mem (b := Proc.devRef .tc main_v0) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St6_main_v0 m c)
theorem St7_main_v1 (c : Dev nD) : St7 m c main_v1 = startsT (gsOf m c) := by
  unfold St7
  refine (StableHlo.after_of_forall_not_mem (b := Proc.devRef .tc main_v1) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St6_main_v1 m c)
theorem St7_main_v11 (c : Dev nD) : St7 m c main_v11 = nvT (gsOf m c) := by
  unfold St7
  after_results_entrywise [St6_main_v4 m c, St6_main_v10 m c, St6_main_c_4 m c]
theorem St7_main_v2 (c : Dev nD) : St7 m c main_v2 = ftT (gsOf m c) := by
  unfold St7
  refine (StableHlo.after_of_forall_not_mem (b := Proc.devRef .tc main_v2) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St6_main_v2 m c)
theorem St8_main_arg3 (c : Dev nD) : St8 m c main_arg3 = m ((c : Thread nD τ).loc main_arg3) := by
  unfold St8
  refine (StableHlo.after_of_forall_not_mem (b := Proc.devRef .tc main_arg3) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_arg3 m c)
theorem St8_main_v0 (c : Dev nD) : St8 m c main_v0 = endsT (gsOf m c) := by
  unfold St8
  refine (StableHlo.after_of_forall_not_mem (b := Proc.devRef .tc main_v0) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_v0 m c)
theorem St8_main_v1 (c : Dev nD) : St8 m c main_v1 = startsT (gsOf m c) := by
  unfold St8
  refine (StableHlo.after_of_forall_not_mem (b := Proc.devRef .tc main_v1) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_v1 m c)
theorem St8_main_v11 (c : Dev nD) : St8 m c main_v11 = nvT (gsOf m c) := by
  unfold St8
  refine (StableHlo.after_of_forall_not_mem (b := Proc.devRef .tc main_v11) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_v11 m c)
theorem St8_main_v12 (c : Dev nD) : St8 m c main_v12 = vendT (gsOf m c) := by
  unfold St8
  after_results_entrywise [St7_main_v11 m c]
theorem St8_main_v2 (c : Dev nD) : St8 m c main_v2 = ftT (gsOf m c) := by
  unfold St8
  refine (StableHlo.after_of_forall_not_mem (b := Proc.devRef .tc main_v2) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_v2 m c)
theorem St9_main_arg3 (c : Dev nD) : St9 m c main_arg3 = m ((c : Thread nD τ).loc main_arg3) := by
  unfold St9
  refine (StableHlo.after_of_forall_not_mem (b := Proc.devRef .tc main_arg3) _ _ (List.forall_iff_forall_mem.mp (by
    simp only [hostOps0_8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St8_main_arg3 m c)
theorem St9_main_c_11 (c : Dev nD) : St9 m c main_c_11 = constantI S_ 32 0#32 := by
  unfold St9
  after_results_entrywise [St8_main_v12 m c, St8_main_v2 m c, St8_main_v11 m c]
theorem St9_main_c_12 (c : Dev nD) : St9 m c main_c_12 = constantI S_ 32 23#32 := by
  unfold St9
  after_results_entrywise [St8_main_v12 m c, St8_main_v2 m c, St8_main_v11 m c]
theorem St9_main_v0 (c : Dev nD) : St9 m c main_v0 = endsT (gsOf m c) := by
  unfold St9
  refine (StableHlo.after_of_forall_not_mem (b := Proc.devRef .tc main_v0) _ _ (List.forall_iff_forall_mem.mp (by
    simp only [hostOps0_8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St8_main_v0 m c)
theorem St9_main_v1 (c : Dev nD) : St9 m c main_v1 = startsT (gsOf m c) := by
  unfold St9
  refine (StableHlo.after_of_forall_not_mem (b := Proc.devRef .tc main_v1) _ _ (List.forall_iff_forall_mem.mp (by
    simp only [hostOps0_8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St8_main_v1 m c)
theorem St9_main_v14 (c : Dev nD) : St9 m c main_v14 = nT (gsOf m c) := by
  unfold St9
  after_results_entrywise [St8_main_v12 m c, St8_main_v2 m c, St8_main_v11 m c]
theorem St9_main_v24 (c : Dev nD) : St9 m c main_v24 = expT (gsOf m c) := by
  unfold St9
  after_results_entrywise [St8_main_v12 m c, St8_main_v2 m c, St8_main_v11 m c]
theorem St9_main_v41 (c : Dev nD) : St9 m c main_v41 = subi (addi (takeT (ftT (gsOf m c)) (expT (gsOf m c))) (iotaInDim S63 32 0)) (takeT (subi (vendT (gsOf m c)) (nvT (gsOf m c))) (expT (gsOf m c))) := by
  unfold St9
  after_results_entrywise [St8_main_v12 m c, St8_main_v2 m c, St8_main_v11 m c]
theorem St10_main_arg3 (c : Dev nD) : St10 m c main_arg3 = m ((c : Thread nD τ).loc main_arg3) := by
  unfold St10
  refine (StableHlo.after_of_forall_not_mem (b := Proc.devRef .tc main_arg3) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_arg3 m c)
theorem St10_main_v0 (c : Dev nD) : St10 m c main_v0 = endsT (gsOf m c) := by
  unfold St10
  refine (StableHlo.after_of_forall_not_mem (b := Proc.devRef .tc main_v0) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_v0 m c)
theorem St10_main_v1 (c : Dev nD) : St10 m c main_v1 = startsT (gsOf m c) := by
  unfold St10
  refine (StableHlo.after_of_forall_not_mem (b := Proc.devRef .tc main_v1) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_v1 m c)
theorem St10_main_v14 (c : Dev nD) : St10 m c main_v14 = nT (gsOf m c) := by
  unfold St10
  refine (StableHlo.after_of_forall_not_mem (b := Proc.devRef .tc main_v14) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_v14 m c)
theorem St10_main_v24 (c : Dev nD) : St10 m c main_v24 = expT (gsOf m c) := by
  unfold St10
  refine (StableHlo.after_of_forall_not_mem (b := Proc.devRef .tc main_v24) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_v24 m c)
theorem St10_main_v42 (c : Dev nD) : St10 m c main_v42 = tileT (gsOf m c) := by
  unfold St10
  after_results_entrywise [St9_main_v41 m c, St9_main_c_11 m c, St9_main_c_12 m c]
theorem St11_main_arg3 (c : Dev nD) : St11 m c main_arg3 = m ((c : Thread nD τ).loc main_arg3) := by
  unfold St11
  refine (StableHlo.after_of_forall_not_mem (b := Proc.devRef .tc main_arg3) _ _ (List.forall_iff_forall_mem.mp (by
    simp only [hostOps10a, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St10_main_arg3 m c)
theorem St11_main_v14 (c : Dev nD) : St11 m c main_v14 = nT (gsOf m c) := by
  unfold St11
  refine (StableHlo.after_of_forall_not_mem (b := Proc.devRef .tc main_v14) _ _ (List.forall_iff_forall_mem.mp (by
    simp only [hostOps10a, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St10_main_v14 m c)
theorem St11_main_v24 (c : Dev nD) : St11 m c main_v24 = expT (gsOf m c) := by
  unfold St11
  refine (StableHlo.after_of_forall_not_mem (b := Proc.devRef .tc main_v24) _ _ (List.forall_iff_forall_mem.mp (by
    simp only [hostOps10a, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St10_main_v24 m c)
theorem St11_main_v42 (c : Dev nD) : St11 m c main_v42 = tileT (gsOf m c) := by
  unfold St11
  refine (StableHlo.after_of_forall_not_mem (b := Proc.devRef .tc main_v42) _ _ (List.forall_iff_forall_mem.mp (by
    simp only [hostOps10a, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St10_main_v42 m c)
theorem St11_main_v49 (c : Dev nD) : St11 m c main_v49 = loT (gsOf m c) := by
  unfold St11
  after_results_entrywise [St10_main_v24 m c, St10_main_v1 m c, St10_main_v0 m c, St10_main_v42 m c]
theorem St11_main_v56 (c : Dev nD) : St11 m c main_v56 = hiT (gsOf m c) := by
  unfold St11
  after_results_entrywise [St10_main_v24 m c, St10_main_v1 m c, St10_main_v0 m c, St10_main_v42 m c]
theorem St11_main_v57 (c : Dev nD) : St11 m c main_v57 = broadcastInDim S1 ![] bcast_S_S1 (constantI S_ 32 4294967295#32) := by
  unfold St11
  after_results_entrywise [St10_main_v24 m c, St10_main_v1 m c, St10_main_v0 m c, St10_main_v42 m c]
theorem St11_main_v58 (c : Dev nD) : St11 m c main_v58 = extractStridedSlice S62 ![0] (tileT (gsOf m c)) slices_S63_S62_0 := by
  unfold St11
  after_results_entrywise [St10_main_v24 m c, St10_main_v1 m c, St10_main_v0 m c, St10_main_v42 m c]
theorem St12_main_v14 (c : Dev nD) : St12 m c main_v14 = nT (gsOf m c) := by
  unfold St12
  refine (StableHlo.after_of_forall_not_mem (b := Proc.devRef .tc main_v14) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v14 m c)
theorem St12_main_v24 (c : Dev nD) : St12 m c main_v24 = expT (gsOf m c) := by
  unfold St12
  refine (StableHlo.after_of_forall_not_mem (b := Proc.devRef .tc main_v24) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v24 m c)
theorem St12_main_v42 (c : Dev nD) : St12 m c main_v42 = tileT (gsOf m c) := by
  unfold St12
  refine (StableHlo.after_of_forall_not_mem (b := Proc.devRef .tc main_v42) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v42 m c)
theorem St12_main_v49 (c : Dev nD) : St12 m c main_v49 = loT (gsOf m c) := by
  unfold St12
  refine (StableHlo.after_of_forall_not_mem (b := Proc.devRef .tc main_v49) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v49 m c)
theorem St12_main_v56 (c : Dev nD) : St12 m c main_v56 = hiT (gsOf m c) := by
  unfold St12
  refine (StableHlo.after_of_forall_not_mem (b := Proc.devRef .tc main_v56) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v56 m c)
theorem St12_main_v61 (c : Dev nD) : St12 m c main_v61 = firstT (gsOf m c) := by
  unfold St12
  after_results_entrywise [St11_main_v42 m c, St11_main_v56 m c, St11_main_v57 m c, St11_main_v58 m c, St11_main_arg3 m c]
theorem St12_main_v67 (c : Dev nD) : St12 m c main_v67 = lastT (gsOf m c) := by
  unfold St12
  after_results_entrywise [St11_main_v42 m c, St11_main_v56 m c, St11_main_v57 m c, St11_main_v58 m c, St11_main_arg3 m c]
theorem St12_main_v68 (c : Dev nD) : St12 m c main_v68 = broadcastInDim S40x1x1024 ![0, 2] bcast_S40x1024_S40x1x1024_0_2 (m ((c : Thread nD τ).loc main_arg3)) := by
  unfold St12
  after_results_entrywise [St11_main_v42 m c, St11_main_v56 m c, St11_main_v57 m c, St11_main_v58 m c, St11_main_arg3 m c]
theorem V_main_v14 (c : Dev nD) : V m c main_v14 = nT (gsOf m c) := (V_eq m c main_v14).trans (St12_main_v14 m c)
theorem V_main_v42 (c : Dev nD) : V m c main_v42 = tileT (gsOf m c) := (V_eq m c main_v42).trans (St12_main_v42 m c)
theorem V_main_v24 (c : Dev nD) : V m c main_v24 = expT (gsOf m c) := (V_eq m c main_v24).trans (St12_main_v24 m c)
theorem V_main_v49 (c : Dev nD) : V m c main_v49 = loT (gsOf m c) := (V_eq m c main_v49).trans (St12_main_v49 m c)
theorem V_main_v56 (c : Dev nD) : V m c main_v56 = hiT (gsOf m c) := (V_eq m c main_v56).trans (St12_main_v56 m c)
theorem V_main_v61 (c : Dev nD) : V m c main_v61 = firstT (gsOf m c) := (V_eq m c main_v61).trans (St12_main_v61 m c)
theorem V_main_v67 (c : Dev nD) : V m c main_v67 = lastT (gsOf m c) := (V_eq m c main_v67).trans (St12_main_v67 m c)
theorem V_main_v68 (c : Dev nD) : V m c main_v68 = broadcastInDim S40x1x1024 ![0, 2] bcast_S40x1024_S40x1x1024_0_2 (m ((c : Thread nD τ).loc main_arg3)) := (V_eq m c main_v68).trans (St12_main_v68 m c)

end Cert.Kernel.Hand

end
-- ==== Proof.Kernel.Blocks.lean ====
/-
  Every window's block at a grid point, and the points at which the outputs' blocks are written.
-/
module

public import proofs.«01_k».proof.Proof.Kernel.Tile
public import proofs.«01_k».proof.Proof.Kernel.Stages
public import Idealize.ShloMosaic.Lib.Pipeline.FrameBody
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx
open Cert.Kernel.Gen Cert.Plan

attribute [local irreducible] Host.reduceWindow Host.reduce Host.gather concatenate
attribute [local irreducible] nT tileT expT loT hiT firstT lastT

variable {F : FTy → Type} [FloatOps F]

local notation "𝕄" => MT nD τ sig Unit (Elt F) ℕ (UR sig nD τ) ℕ

variable (m : (ℓ : Loc nD τ sig) → Buf (Elt F) ℓ) (gs : IVec S40 32) (hg : Good gs)

/-! ## The arrays the region reads -/

def Xa (c : Dev nD) : Vec F S6144x2560 .bf16 := V m c main_arg0
def Wa (c : Dev nD) : Vec F S40x1024x2560 .fp8e4m3 := V m c main_arg2
def WSa (c : Dev nD) : Vec F S40x1x1024 .f32 := V m c main_v68
def Ga (c : Dev nD) : Vec F S6144x1024 .bf16 := V m c main_arg4
def Ua (c : Dev nD) : Vec F S6144x1024 .bf16 := V m c main_arg5

/-- Window `w`'s block at point `t`. -/
def iblk (c : Dev nD) (w : Fin (cfgA (F := F) gs hg).W) (t : Fin (cfgA (F := F) gs hg).N) : (((cfgA (F := F) gs hg).win w).xblock ((cfgA (F := F) gs hg).grid.coords t)).Idx → Elt F ((cfgA (F := F) gs hg).win w).elt :=
  (((cfgA (F := F) gs hg).win w).blk t).view.read (Elt F) (V m c (Pipeline.arrRef spec0 w))

section Index
variable (t : Fin (cfgA (F := F) gs hg).N)

theorem cv : ((cfgA (F := F) gs hg).grid.coords t 0).val = t.val := coords_val gs hg t

theorem index0 : ((cfgA (F := F) gs hg).win 0).index t = ![tile (sz gs) t.val, 0] := (map0 gs hg _).trans (congrArg (fun k => ![tile (sz gs) k, 0]) (cv gs hg t))
theorem index1 : ((cfgA (F := F) gs hg).win 1).index t = ![ex (sz gs) t.val, 0, 0] := (map1 gs hg _).trans (congrArg (fun k => ![ex (sz gs) k, 0, 0]) (cv gs hg t))
theorem index2 : ((cfgA (F := F) gs hg).win 2).index t = ![ex (sz gs) t.val, 0, 0] := (map2 gs hg _).trans (congrArg (fun k => ![ex (sz gs) k, 0, 0]) (cv gs hg t))
theorem index3 : ((cfgA (F := F) gs hg).win 3).index t = ![tile (sz gs) t.val, 0] := (map3 gs hg _).trans (congrArg (fun k => ![tile (sz gs) k, 0]) (cv gs hg t))
theorem index4 : ((cfgA (F := F) gs hg).win 4).index t = ![tile (sz gs) t.val, 0] := (map4 gs hg _).trans (congrArg (fun k => ![tile (sz gs) k, 0]) (cv gs hg t))
theorem index5 : ((cfgA (F := F) gs hg).win 5).index t = ![0, tile (sz gs) t.val, 0] := (map5 gs hg _).trans (congrArg (fun k => ![0, tile (sz gs) k, 0]) (cv gs hg t))
theorem index6 : ((cfgA (F := F) gs hg).win 6).index t = ![tile (sz gs) t.val, 0] := (map6 gs hg _).trans (congrArg (fun k => ![tile (sz gs) k, 0]) (cv gs hg t))

theorem blk0 (c : Dev nD) : iblk m gs hg c 0 t = rows (Xa m c) (tile (sz gs) t.val) := by
  refine funext fun (y : S256x2560.Idx) => ?_
  have hT := tile_lt (sz gs) hg (lt_n gs hg t)
  have h0 : (y 0).val < 256 := (y 0).isLt
  refine congrArg (Xa m c) (funext fun a => Fin.ext ?_)
  refine (Window.rect_emb_val ((cfgA (F := F) gs hg).win 0) t y a).trans ?_
  rw [index0]
  fin_cases a
  · show tile (sz gs) t.val * 256 + (y 0).val = (tile (sz gs) t.val * 256 + (y 0).val) % 6144
    rw [Nat.mod_eq_of_lt (by omega)]
  · show 0 * 2560 + (y 1).val = (y 1).val
    omega

theorem blk1 (c : Dev nD) : iblk m gs hg c 1 t = wOf (Wa m c) (ex (sz gs) t.val) := by
  refine funext fun (y : S1x1024x2560.Idx) => ?_
  have hT := (ex_le (sz gs) t.val).1
  have h0 : (y 0).val < 1 := (y 0).isLt
  refine congrArg (Wa m c) (funext fun a => Fin.ext ?_)
  refine (Window.rect_emb_val ((cfgA (F := F) gs hg).win 1) t y a).trans ?_
  rw [index1]
  fin_cases a
  · show ex (sz gs) t.val * 1 + (y 0).val = ex (sz gs) t.val % 40
    rw [Nat.mod_eq_of_lt (by omega)]; omega
  · show 0 * 1024 + (y 1).val = (y 1).val
    omega
  · show 0 * 2560 + (y 2).val = (y 2).val
    omega

theorem blk2 (c : Dev nD) : iblk m gs hg c 2 t = wsOf (WSa m c) (ex (sz gs) t.val) := by
  refine funext fun (y : S1x1x1024.Idx) => ?_
  have hT := (ex_le (sz gs) t.val).1
  have h0 : (y 0).val < 1 := (y 0).isLt
  refine congrArg (WSa m c) (funext fun a => Fin.ext ?_)
  refine (Window.rect_emb_val ((cfgA (F := F) gs hg).win 2) t y a).trans ?_
  rw [index2]
  fin_cases a
  · show ex (sz gs) t.val * 1 + (y 0).val = ex (sz gs) t.val % 40
    rw [Nat.mod_eq_of_lt (by omega)]; omega
  · show 0 * 1 + (y 1).val = (y 1).val
    omega
  · show 0 * 1024 + (y 2).val = (y 2).val
    omega

theorem blk3 (c : Dev nD) : iblk m gs hg c 3 t = rowsG (Ga m c) (tile (sz gs) t.val) := by
  refine funext fun (y : S256x1024.Idx) => ?_
  have hT := tile_lt (sz gs) hg (lt_n gs hg t)
  have h0 : (y 0).val < 256 := (y 0).isLt
  refine congrArg (Ga m c) (funext fun a => Fin.ext ?_)
  refine (Window.rect_emb_val ((cfgA (F := F) gs hg).win 3) t y a).trans ?_
  rw [index3]
  fin_cases a
  · show tile (sz gs) t.val * 256 + (y 0).val = (tile (sz gs) t.val * 256 + (y 0).val) % 6144
    rw [Nat.mod_eq_of_lt (by omega)]
  · show 0 * 1024 + (y 1).val = (y 1).val
    omega

theorem blk4 (c : Dev nD) : iblk m gs hg c 4 t = rowsG (Ua m c) (tile (sz gs) t.val) := by
  refine funext fun (y : S256x1024.Idx) => ?_
  have hT := tile_lt (sz gs) hg (lt_n gs hg t)
  have h0 : (y 0).val < 256 := (y 0).isLt
  refine congrArg (Ua m c) (funext fun a => Fin.ext ?_)
  refine (Window.rect_emb_val ((cfgA (F := F) gs hg).win 4) t y a).trans ?_
  rw [index4]
  fin_cases a
  · show tile (sz gs) t.val * 256 + (y 0).val = (tile (sz gs) t.val * 256 + (y 0).val) % 6144
    rw [Nat.mod_eq_of_lt (by omega)]
  · show 0 * 1024 + (y 1).val = (y 1).val
    omega

/-! ## When the outputs' blocks are written -/

include hg in
theorem idle_eq (k : ℕ) (hk : k < 63) (off : Fin 1 → ℕ) (hoff : ∀ a, off a = k) :
    (!(k0_cond2 ((pfN (F := F) gs).atD 6 off) == 1#1)) = !decide ((tile (sz gs) k + 1) * 256 ≤ hi (sz gs) k) := by
  refine congrArg (fun b => !b) ?_
  rw [atD_last gs k hk off hoff]
  have h := (k0_cond2_iff (lastT gs (ix1 (⟨k, hk⟩ : Fin 63)))).trans (lastT_word gs hg ⟨k, hk⟩)
  by_cases hl : (tile (sz gs) k + 1) * 256 ≤ hi (sz gs) k
  · rw [decide_eq_true hl, h.mpr hl]; rfl
  · rw [decide_eq_false hl, beq_eq_false_iff_ne]
    exact fun e => hl (h.mp e)

theorem idle5 : (cfgA (F := F) gs hg).idle 5 ((cfgA (F := F) gs hg).grid.coords t) = !decide ((tile (sz gs) t.val + 1) * 256 ≤ hi (sz gs) t.val) :=
  idle_eq gs hg t.val (lt_63 gs hg t) _ fun a => (off_at gs hg _ a).trans (cv gs hg t)
theorem idle6 : (cfgA (F := F) gs hg).idle 6 ((cfgA (F := F) gs hg).grid.coords t) = !decide ((tile (sz gs) t.val + 1) * 256 ≤ hi (sz gs) t.val) :=
  idle_eq gs hg t.val (lt_63 gs hg t) _ fun a => (off_at gs hg _ a).trans (cv gs hg t)

theorem flush5 : ((cfgA (F := F) gs hg).win 5).flush t = true ↔ (tile (sz gs) t.val + 1) * 256 ≤ hi (sz gs) t.val := by
  rw [last_iff (sz gs) hg (lt_n gs hg t)]
  unfold Pipeline.Window.flush
  rw [show ((cfgA (F := F) gs hg).win 5).isOut = true from rfl, Bool.true_and, Bool.or_eq_true, decide_eq_true_eq, decide_eq_true_eq]
  have hN : (cfgA (F := F) gs hg).grid.N = n (sz gs) := N_eq gs hg
  constructor
  · rintro (h | ⟨h, hne⟩)
    · left; rw [← hN]; exact h
    · right; intro e; apply hne; rw [index5, index5]; exact congrArg (fun k => ![0, k, 0]) e
  · rintro (h | h)
    · left; exact h.trans hN.symm
    · by_cases he : t.val + 1 = n (sz gs)
      · left; exact he.trans hN.symm
      · right
        refine ⟨lt_of_lt_of_eq (by have := lt_n gs hg t; omega) hN.symm, fun e => h ?_⟩
        rw [index5, index5] at e
        exact congrFun e 1

theorem flush6 : ((cfgA (F := F) gs hg).win 6).flush t = true ↔ (tile (sz gs) t.val + 1) * 256 ≤ hi (sz gs) t.val := by
  rw [last_iff (sz gs) hg (lt_n gs hg t)]
  unfold Pipeline.Window.flush
  rw [show ((cfgA (F := F) gs hg).win 6).isOut = true from rfl, Bool.true_and, Bool.or_eq_true, decide_eq_true_eq, decide_eq_true_eq]
  have hN : (cfgA (F := F) gs hg).grid.N = n (sz gs) := N_eq gs hg
  constructor
  · rintro (h | ⟨h, hne⟩)
    · left; rw [← hN]; exact h
    · right; intro e; apply hne; rw [index6, index6]; exact congrArg (fun k => ![k, 0]) e
  · rintro (h | h)
    · left; exact h.trans hN.symm
    · by_cases he : t.val + 1 = n (sz gs)
      · left; exact he.trans hN.symm
      · right
        refine ⟨lt_of_lt_of_eq (by have := lt_n gs hg t; omega) hN.symm, fun e => h ?_⟩
        rw [index6, index6] at e
        exact congrFun e 0

end Index

end Cert.Kernel.Hand

end
-- ==== Proof.Kernel.Region.lean ====
/-
  The region: the pipeline's proof data (what the scratch holds between
  points, what the outputs' blocks are at a tile's last item), and the body's obligation.
-/
module

public import proofs.«01_k».proof.Proof.Kernel.Blocks
public import Idealize.ShloMosaic.Lib.Pipeline.FrameBody
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx
open Cert.Kernel.Gen Cert.Plan

attribute [local irreducible] Host.reduceWindow Host.reduce Host.gather concatenate
attribute [local irreducible] nT tileT expT loT hiT firstT lastT

variable {F : FTy → Type} [FloatOps F]

local notation "𝕄" => MT nD τ sig Unit (Elt F) ℕ (UR sig nD τ) ℕ

variable (m : (ℓ : Loc nD τ sig) → Buf (Elt F) ℓ) (gs : IVec S40 32) (hg : Good gs)

/-! ## The proof data -/

/-- Between points: the scratch buffers with what is known of them (Tile.lean), the generator register, the tables. -/
def PhiS (c : Dev nD) (i : ℕ) : sProp 𝕄 :=
  iprop((∃ (q : Vec F S256x2560 .fp8e5m2) (sc : Vec F S256x128 .f32) (h : Vec F S256x1024 .f32),
      ⌜Known (sz gs) (Xa m c) (Wa m c) (WSa m c) i q sc h⌝
      ∗ owns (c : Thread nD τ) (Memref.whole cc0_scratch0) fullShare q ∗ owns (c : Thread nD τ) (Memref.whole cc0_scratch1) fullShare sc
      ∗ owns (c : Thread nD τ) (Memref.whole cc0_scratch2) fullShare h)
    ∗ (∃ r, prngReg c r) ∗ Pipeline.ΦT pre0 (pfN (F := F) gs) c)

/-- The tile of `dh` of point `t`'s row tile. -/
abbrev dhAt (c : Dev nD) (t : ℕ) : Vec F S256x1024 .f32 := dhTile (Xa m c) (Wa m c) (WSa m c) (sz gs) (tile (sz gs) t)

/-- What the body leaves in each window's buffer at point `t`: the inputs' blocks as they were, the outputs' tiles. -/
def aft (c : Dev nD) (t : ℕ) : (w : Fin 7) → (spec0 w).block.Idx → Elt F (spec0 w).elt
  | ⟨0, _⟩ => rows (Xa m c) (tile (sz gs) t)
  | ⟨1, _⟩ => wOf (Wa m c) (ex (sz gs) t)
  | ⟨2, _⟩ => wsOf (WSa m c) (ex (sz gs) t)
  | ⟨3, _⟩ => rowsG (Ga m c) (tile (sz gs) t)
  | ⟨4, _⟩ => rowsG (Ua m c) (tile (sz gs) t)
  | ⟨5, _⟩ => otile (dhAt m gs c t) (rowsG (Ga m c) (tile (sz gs) t)) (rowsG (Ua m c) (tile (sz gs) t))
  | ⟨6, _⟩ => sctile (dhAt m gs c t) (rowsG (Ga m c) (tile (sz gs) t)) (rowsG (Ua m c) (tile (sz gs) t))

/-- The proof data of the pipeline on core `c`. -/
def dats (_ : Fin 1) (c : Dev nD) : Dat τ (Elt F) Unit ℕ (UR sig nD τ) ℕ (cfgA (F := F) gs hg) c where
  A w := V m c (Pipeline.arrRef spec0 w)
  after w t := aft m gs c t.val w
  Φ t := PhiS m gs c t.val
  q _ := fullShare
  owed _ := 0

theorem A_eq (c : Dev nD) (w : Fin (cfgA (F := F) gs hg).W) : (dats m gs hg 0 c).A w = V m c (Pipeline.arrRef spec0 w) := by
  dsimp only [dats]
theorem after0_0 (c : Dev nD) (t : Fin (cfgA (F := F) gs hg).N) : (dats m gs hg 0 c).after 0 t = rows (Xa m c) (tile (sz gs) t.val) := by dsimp only [dats]; rfl
theorem after0_1 (c : Dev nD) (t : Fin (cfgA (F := F) gs hg).N) : (dats m gs hg 0 c).after 1 t = wOf (Wa m c) (ex (sz gs) t.val) := by dsimp only [dats]; rfl
theorem after0_2 (c : Dev nD) (t : Fin (cfgA (F := F) gs hg).N) : (dats m gs hg 0 c).after 2 t = wsOf (WSa m c) (ex (sz gs) t.val) := by dsimp only [dats]; rfl
theorem after0_3 (c : Dev nD) (t : Fin (cfgA (F := F) gs hg).N) : (dats m gs hg 0 c).after 3 t = rowsG (Ga m c) (tile (sz gs) t.val) := by dsimp only [dats]; rfl
theorem after0_4 (c : Dev nD) (t : Fin (cfgA (F := F) gs hg).N) : (dats m gs hg 0 c).after 4 t = rowsG (Ua m c) (tile (sz gs) t.val) := by dsimp only [dats]; rfl
theorem after0_5 (c : Dev nD) (t : Fin (cfgA (F := F) gs hg).N) : (dats m gs hg 0 c).after 5 t = otile (dhAt m gs c t.val) (rowsG (Ga m c) (tile (sz gs) t.val)) (rowsG (Ua m c) (tile (sz gs) t.val)) := by dsimp only [dats]; rfl
theorem after0_6 (c : Dev nD) (t : Fin (cfgA (F := F) gs hg).N) : (dats m gs hg 0 c).after 6 t = sctile (dhAt m gs c t.val) (rowsG (Ga m c) (tile (sz gs) t.val)) (rowsG (Ua m c) (tile (sz gs) t.val)) := by dsimp only [dats]; rfl

theorem before0_0 (c : Dev nD) (t : Fin (cfgA (F := F) gs hg).N) (d) : (dats m gs hg 0 c).before 0 t d = rows (Xa m c) (tile (sz gs) t.val) :=
  ((dats m gs hg 0 c).before_in_eq_fetched 0 rfl (fun _ => rfl) (fun _ _ _ => rfl)
    (fun t => (after0_0 m gs hg c t).trans ((blk0 m gs hg t c).symm.trans (by unfold Dat.blockOf iblk; rw [A_eq]))) t d).trans
    ((by unfold Dat.fetched Dat.blockOf iblk; rw [A_eq]; rfl : (dats m gs hg 0 c).fetched 0 t d = iblk m gs hg c 0 t).trans (blk0 m gs hg t c))

theorem before0_1 (c : Dev nD) (t : Fin (cfgA (F := F) gs hg).N) (d) : (dats m gs hg 0 c).before 1 t d = wOf (Wa m c) (ex (sz gs) t.val) :=
  ((dats m gs hg 0 c).before_in_eq_fetched 1 rfl (fun _ => rfl) (fun _ _ _ => rfl)
    (fun t => (after0_1 m gs hg c t).trans ((blk1 m gs hg t c).symm.trans (by unfold Dat.blockOf iblk; rw [A_eq]))) t d).trans
    ((by unfold Dat.fetched Dat.blockOf iblk; rw [A_eq]; rfl : (dats m gs hg 0 c).fetched 1 t d = iblk m gs hg c 1 t).trans (blk1 m gs hg t c))

theorem before0_2 (c : Dev nD) (t : Fin (cfgA (F := F) gs hg).N) (d) : (dats m gs hg 0 c).before 2 t d = wsOf (WSa m c) (ex (sz gs) t.val) :=
  ((dats m gs hg 0 c).before_in_eq_fetched 2 rfl (fun _ => rfl) (fun _ _ _ => rfl)
    (fun t => (after0_2 m gs hg c t).trans ((blk2 m gs hg t c).symm.trans (by unfold Dat.blockOf iblk; rw [A_eq]))) t d).trans
    ((by unfold Dat.fetched Dat.blockOf iblk; rw [A_eq]; rfl : (dats m gs hg 0 c).fetched 2 t d = iblk m gs hg c 2 t).trans (blk2 m gs hg t c))

theorem before0_3 (c : Dev nD) (t : Fin (cfgA (F := F) gs hg).N) (d) : (dats m gs hg 0 c).before 3 t d = rowsG (Ga m c) (tile (sz gs) t.val) :=
  ((dats m gs hg 0 c).before_in_eq_fetched 3 rfl (fun _ => rfl) (fun _ _ _ => rfl)
    (fun t => (after0_3 m gs hg c t).trans ((blk3 m gs hg t c).symm.trans (by unfold Dat.blockOf iblk; rw [A_eq]))) t d).trans
    ((by unfold Dat.fetched Dat.blockOf iblk; rw [A_eq]; rfl : (dats m gs hg 0 c).fetched 3 t d = iblk m gs hg c 3 t).trans (blk3 m gs hg t c))

theorem before0_4 (c : Dev nD) (t : Fin (cfgA (F := F) gs hg).N) (d) : (dats m gs hg 0 c).before 4 t d = rowsG (Ua m c) (tile (sz gs) t.val) :=
  ((dats m gs hg 0 c).before_in_eq_fetched 4 rfl (fun _ => rfl) (fun _ _ _ => rfl)
    (fun t => (after0_4 m gs hg c t).trans ((blk4 m gs hg t c).symm.trans (by unfold Dat.blockOf iblk; rw [A_eq]))) t d).trans
    ((by unfold Dat.fetched Dat.blockOf iblk; rw [A_eq]; rfl : (dats m gs hg 0 c).fetched 4 t d = iblk m gs hg c 4 t).trans (blk4 m gs hg t c))

/-! ## The body's obligation -/

theorem sep7 {a0 a1 a2 a3 a4 a5 a6 b0 b1 b2 b3 b4 b5 b6 : sProp 𝕄} (h0 : a0 = b0) (h1 : a1 = b1) (h2 : a2 = b2) (h3 : a3 = b3) (h4 : a4 = b4)
    (h5 : a5 = b5) (h6 : a6 = b6) : iprop(a0 ∗ a1 ∗ a2 ∗ a3 ∗ a4 ∗ a5 ∗ a6) = iprop(b0 ∗ b1 ∗ b2 ∗ b3 ∗ b4 ∗ b5 ∗ b6) := by
  subst h0 h1 h2 h3 h4 h5 h6; rfl

/-- The tables' halves, one by one. -/
theorem tables_eq (c : Dev nD) (v : pre0.Contents (Elt F)) :
    (Pipeline.ΦT pre0 v c : sProp 𝕄) = iprop(owns (c : Thread nD τ) (Memref.whole main_v14) fullShare.right (v 0)
      ∗ owns (c : Thread nD τ) (Memref.whole main_v42) fullShare.right (v 1) ∗ owns (c : Thread nD τ) (Memref.whole main_v24) fullShare.right (v 2)
      ∗ owns (c : Thread nD τ) (Memref.whole main_v49) fullShare.right (v 3) ∗ owns (c : Thread nD τ) (Memref.whole main_v56) fullShare.right (v 4)
      ∗ owns (c : Thread nD τ) (Memref.whole main_v61) fullShare.right (v 5) ∗ owns (c : Thread nD τ) (Memref.whole main_v67) fullShare.right (v 6)) := by
  refine (bigSep_W0 (M := 𝕄) (fun k => ((c.tc : Thread nD τ).loc (pre0.ref k)) ↦{fullShare.right} v k)).trans ?_
  exact sep7 (owns_whole (c : Thread nD τ) main_v14 _ (v 0)).symm (owns_whole (c : Thread nD τ) main_v42 _ (v 1)).symm (owns_whole (c : Thread nD τ) main_v24 _ (v 2)).symm
    (owns_whole (c : Thread nD τ) main_v49 _ (v 3)).symm (owns_whole (c : Thread nD τ) main_v56 _ (v 4)).symm (owns_whole (c : Thread nD τ) main_v61 _ (v 5)).symm
    (owns_whole (c : Thread nD τ) main_v67 _ (v 6)).symm

section Point
variable (c : Dev nD) (t : Fin (cfgA (F := F) gs hg).N)

abbrev st0 := ((cfgA (F := F) gs hg).win 0).stage ((cfgA (F := F) gs hg).slots t 0)
abbrev st1 := ((cfgA (F := F) gs hg).win 1).stage ((cfgA (F := F) gs hg).slots t 1)
abbrev st2 := ((cfgA (F := F) gs hg).win 2).stage ((cfgA (F := F) gs hg).slots t 2)
abbrev st3 := ((cfgA (F := F) gs hg).win 3).stage ((cfgA (F := F) gs hg).slots t 3)
abbrev st4 := ((cfgA (F := F) gs hg).win 4).stage ((cfgA (F := F) gs hg).slots t 4)
abbrev st5 := ((cfgA (F := F) gs hg).win 5).stage ((cfgA (F := F) gs hg).slots t 5)
abbrev st6 := ((cfgA (F := F) gs hg).win 6).stage ((cfgA (F := F) gs hg).slots t 6)

/-- What the body is called with at point `t`, -/
def bodyPre : sProp 𝕄 :=
  iprop((dats m gs hg 0 c).Φ t.castSucc ∗ (dats m gs hg 0 c).owesAt () t.castSucc
    ∗ (∃ d, owns (c : Thread nD τ) (st0 gs hg t) fullShare ((dats m gs hg 0 c).before 0 t d))
    ∗ (∃ d, owns (c : Thread nD τ) (st1 gs hg t) fullShare ((dats m gs hg 0 c).before 1 t d))
    ∗ (∃ d, owns (c : Thread nD τ) (st2 gs hg t) fullShare ((dats m gs hg 0 c).before 2 t d))
    ∗ (∃ d, owns (c : Thread nD τ) (st3 gs hg t) fullShare ((dats m gs hg 0 c).before 3 t d))
    ∗ (∃ d, owns (c : Thread nD τ) (st4 gs hg t) fullShare ((dats m gs hg 0 c).before 4 t d))
    ∗ (∃ d, owns (c : Thread nD τ) (st5 gs hg t) fullShare ((dats m gs hg 0 c).before 5 t d))
    ∗ (∃ d, owns (c : Thread nD τ) (st6 gs hg t) fullShare ((dats m gs hg 0 c).before 6 t d)))

/-- what it returns at a tile's last item, -/
def postLast : sProp 𝕄 :=
  iprop((dats m gs hg 0 c).Φ t.succ ∗ (dats m gs hg 0 c).owesAt () t.succ
    ∗ owns (c : Thread nD τ) (st0 gs hg t) fullShare ((dats m gs hg 0 c).after 0 t)
    ∗ owns (c : Thread nD τ) (st1 gs hg t) fullShare ((dats m gs hg 0 c).after 1 t)
    ∗ owns (c : Thread nD τ) (st2 gs hg t) fullShare ((dats m gs hg 0 c).after 2 t)
    ∗ owns (c : Thread nD τ) (st3 gs hg t) fullShare ((dats m gs hg 0 c).after 3 t)
    ∗ owns (c : Thread nD τ) (st4 gs hg t) fullShare ((dats m gs hg 0 c).after 4 t)
    ∗ owns (c : Thread nD τ) (st5 gs hg t) fullShare ((dats m gs hg 0 c).after 5 t)
    ∗ owns (c : Thread nD τ) (st6 gs hg t) fullShare ((dats m gs hg 0 c).after 6 t))

/-- and at the others. -/
def postIdle : sProp 𝕄 :=
  iprop((dats m gs hg 0 c).Φ t.succ ∗ (dats m gs hg 0 c).owesAt () t.succ
    ∗ owns (c : Thread nD τ) (st0 gs hg t) fullShare ((dats m gs hg 0 c).after 0 t)
    ∗ owns (c : Thread nD τ) (st1 gs hg t) fullShare ((dats m gs hg 0 c).after 1 t)
    ∗ owns (c : Thread nD τ) (st2 gs hg t) fullShare ((dats m gs hg 0 c).after 2 t)
    ∗ owns (c : Thread nD τ) (st3 gs hg t) fullShare ((dats m gs hg 0 c).after 3 t)
    ∗ owns (c : Thread nD τ) (st4 gs hg t) fullShare ((dats m gs hg 0 c).after 4 t)
    ∗ (∃ d, owns (c : Thread nD τ) (st5 gs hg t) fullShare ((dats m gs hg 0 c).before 5 t d))
    ∗ (∃ d, owns (c : Thread nD τ) (st6 gs hg t) fullShare ((dats m gs hg 0 c).before 6 t d)))

/-- The kernel's function as the body's table calls it at point `t`. -/
abbrev bodyAt : Prog (TpuEff nD τ sig (Elt F) Λ₀ .tc) PUnit :=
  defs₀ (F := F) .tc (cfgA (F := F) gs hg).body ((cfgA (F := F) gs hg).bodyArgs t ((cfgA (F := F) gs hg).slots t))

/-- The kernel's function at the point's own word. -/
def bodyProg (arg0 : BitVec 32) : Prog (TpuEff nD τ sig (Elt F) Λ₀ .tc) PUnit :=
  cc0_dgrad (F := F) (dynb0 (pfN (F := F) gs)) (Pipeline.Grid.Coords.static grid0 ((cfgA (F := F) gs hg).grid.coords t)) arg0
    (Memref.whole main_v42) (Memref.isWhole_whole _) (Memref.whole main_v24) (Memref.isWhole_whole _) (Memref.whole main_v49) (Memref.isWhole_whole _)
    (Memref.whole main_v56) (Memref.isWhole_whole _) (Memref.whole main_v61) (Memref.isWhole_whole _) (Memref.whole main_v67) (Memref.isWhole_whole _)
    (st0 gs hg t) (hstage0_0 (((cfgA (F := F) gs hg).slots t 0).cast nbuf0_0)) (st1 gs hg t) (hstage0_1 (((cfgA (F := F) gs hg).slots t 1).cast nbuf0_1))
    (st2 gs hg t) (hstage0_2 (((cfgA (F := F) gs hg).slots t 2).cast nbuf0_2)) (st3 gs hg t) (hstage0_3 (((cfgA (F := F) gs hg).slots t 3).cast nbuf0_3))
    (st4 gs hg t) (hstage0_4 (((cfgA (F := F) gs hg).slots t 4).cast nbuf0_4)) (st5 gs hg t) (hstage0_5 (((cfgA (F := F) gs hg).slots t 5).cast nbuf0_5))
    (st6 gs hg t) (hstage0_6 (((cfgA (F := F) gs hg).slots t 6).cast nbuf0_6))
    (Memref.whole cc0_scratch0) (Memref.isWhole_whole _) (Memref.whole cc0_scratch1) (Memref.isWhole_whole _) (Memref.whole cc0_scratch2) (Memref.isWhole_whole _)

theorem bodyAt_eq : bodyAt (F := F) gs hg t = bodyProg gs hg t (BitVec.ofNat 32 t.val) := by
  have h : bodyAt (F := F) gs hg t = bodyProg gs hg t (BitVec.ofNat 32 ((cfgA (F := F) gs hg).grid.coords t 0).val) := by
    unfold bodyAt defs₀; rw [Defs.onTc_tc]; rfl
  rw [h, cv]

theorem phi_castSucc : (dats m gs hg 0 c).Φ t.castSucc = PhiS m gs c t.val := rfl
theorem phi_succ : (dats m gs hg 0 c).Φ t.succ = PhiS m gs c (t.val + 1) := rfl
theorem owes_step : (dats m gs hg 0 c).owesAt () t.castSucc = (dats m gs hg 0 c).owesAt () t.succ := rfl

/-- The body at a tile's last item. -/
theorem body_last (E : Set ℕ) (hl : (tile (sz gs) t.val + 1) * 256 ≤ hi (sz gs) t.val) :
    bodyPre m gs hg c t ⊢ wp frame (wpE (defs₀ (F := F)) Variants.none c none) E (bodyAt (F := F) gs hg t) (fun _ => postLast m gs hg c t) := by
  have h63 := lt_63 (F := F) gs hg t
  have hlt := lt_n (F := F) gs hg t
  have hc : k0_cond2 (wordAt (F := F) (lastT gs) (BitVec.ofNat 32 t.val) (chk t.val h63)) = 1#1 := by
    rw [k0_cond2_iff, wordAt_eq _ _ h63]; exact (lastT_word gs hg ⟨t.val, h63⟩).2 hl
  rw [bodyAt_eq]
  unfold bodyPre bodyProg postLast
  simp only [before0_0, before0_1, before0_2, before0_3, before0_4, after0_0, after0_1, after0_2, after0_3, after0_4, after0_5, after0_6]
  rw [phi_castSucc, phi_succ, owes_step]
  unfold PhiS
  rw [tables_eq]
  iintro ⟨⟨⟨%q, %sc, %h, %hK, Hq, Hs, Hh⟩, Hr, T0, T1, T2, T3, T4, T5, T6⟩, Ho, ⟨%d0, H0⟩, ⟨%d1, H1⟩, ⟨%d2, H2⟩, ⟨%d3, H3⟩, ⟨%d4, H4⟩, ⟨%d5, H5⟩, ⟨%d6, H6⟩⟩
  have hst := known_step (sz gs) hg (Xa m c) (Wa m c) (WSa m c) t.val hlt q _ sc _ h hK
    (wordAt (F := F) (firstT gs) (BitVec.ofNat 32 t.val) (chk t.val h63) = 1#32)
    (by rw [wordAt_eq _ _ h63]; exact firstT_word gs hg ⟨t.val, h63⟩) rfl rfl
  iapply (sound_kernel c E _ _ (BitVec.ofNat 32 t.val) _ _ _ _ _ _ _ _ _ _ _ _ _ _ _ _ _ _ _ _ _ _ _ _ _ _ _ _ _ _ _ _
    fullShare.right (tileT gs) (loT gs) (hiT gs) (firstT gs) (lastT gs) (chk t.val h63)
    (rows (Xa m c) (tile (sz gs) t.val)) (wOf (Wa m c) (ex (sz gs) t.val)) (wsOf (WSa m c) (ex (sz gs) t.val))
    (rowsG (Ga m c) (tile (sz gs) t.val)) (rowsG (Ua m c) (tile (sz gs) t.val)) q sc h _ _ _ _ rfl rfl _)
  rw [wordAt_eq (tileT gs) _ h63, wordAt_eq (loT gs) _ h63, wordAt_eq (hiT gs) _ h63, tileT_word gs hg ⟨t.val, h63⟩, loT_word gs hg ⟨t.val, h63⟩, hiT_word gs hg ⟨t.val, h63⟩,
    if_pos hc, if_pos hc]
  have hd := known_last _ _ _ _ _ _ _ _ hst hl
  isplitl [T1]; · iexact T1
  isplitl [T3]; · iexact T3
  isplitl [T4]; · iexact T4
  isplitl [T5]; · iexact T5
  isplitl [T6]; · iexact T6
  isplitl [H0]; · iexact H0
  isplitl [H1]; · iexact H1
  isplitl [H2]; · iexact H2
  isplitl [H3]; · iexact H3
  isplitl [H4]; · iexact H4
  isplitl [Hq]; · iexact Hq
  isplitl [Hs]; · iexact Hs
  isplitl [Hh]; · iexact Hh
  isplitl [H5]; · iexact H5
  isplitl [H6]; · iexact H6
  iintro ⟨T1, T3, T4, T5, T6, H0, H1, H2, H3, H4, Hq, Hs, Hh, H5, H6⟩
  isplitl [Hq Hs Hh Hr T0 T1 T2 T3 T4 T5 T6]
  · isplitl [Hq Hs Hh]
    · iexists _; iexists _; iexists _
      isplitr; · ipureintro; exact hst
      isplitl [Hq]; · iexact Hq
      isplitl [Hs]; · iexact Hs
      iexact Hh
    isplitl [Hr]; · iexact Hr
    isplitl [T0]; · iexact T0
    isplitl [T1]; · iexact T1
    isplitl [T2]; · iexact T2
    isplitl [T3]; · iexact T3
    isplitl [T4]; · iexact T4
    isplitl [T5]; · iexact T5
    iexact T6
  isplitl [Ho]; · iexact Ho
  isplitl [H0]; · iexact H0
  isplitl [H1]; · iexact H1
  isplitl [H2]; · iexact H2
  isplitl [H3]; · iexact H3
  isplitl [H4]; · iexact H4
  rw [hd]
  isplitl [H5]; · iexact H5
  iexact H6

/-- The body at the other items. -/
theorem body_idle (E : Set ℕ) (hl : ¬ (tile (sz gs) t.val + 1) * 256 ≤ hi (sz gs) t.val) :
    bodyPre m gs hg c t ⊢ wp frame (wpE (defs₀ (F := F)) Variants.none c none) E (bodyAt (F := F) gs hg t) (fun _ => postIdle m gs hg c t) := by
  have h63 := lt_63 (F := F) gs hg t
  have hlt := lt_n (F := F) gs hg t
  have hc : ¬ (k0_cond2 (wordAt (F := F) (lastT gs) (BitVec.ofNat 32 t.val) (chk t.val h63)) = 1#1) := by
    rw [k0_cond2_iff, wordAt_eq _ _ h63]; exact fun h => hl ((lastT_word gs hg ⟨t.val, h63⟩).1 h)
  rw [bodyAt_eq]
  unfold bodyPre bodyProg postIdle
  simp only [before0_0, before0_1, before0_2, before0_3, before0_4, after0_0, after0_1, after0_2, after0_3, after0_4]
  rw [phi_castSucc, phi_succ, owes_step]
  unfold PhiS
  rw [tables_eq]
  iintro ⟨⟨⟨%q, %sc, %h, %hK, Hq, Hs, Hh⟩, Hr, T0, T1, T2, T3, T4, T5, T6⟩, Ho, ⟨%d0, H0⟩, ⟨%d1, H1⟩, ⟨%d2, H2⟩, ⟨%d3, H3⟩, ⟨%d4, H4⟩, ⟨%d5, H5⟩, ⟨%d6, H6⟩⟩
  have hst := known_step (sz gs) hg (Xa m c) (Wa m c) (WSa m c) t.val hlt q _ sc _ h hK
    (wordAt (F := F) (firstT gs) (BitVec.ofNat 32 t.val) (chk t.val h63) = 1#32)
    (by rw [wordAt_eq _ _ h63]; exact firstT_word gs hg ⟨t.val, h63⟩) rfl rfl
  iapply (sound_kernel c E _ _ (BitVec.ofNat 32 t.val) _ _ _ _ _ _ _ _ _ _ _ _ _ _ _ _ _ _ _ _ _ _ _ _ _ _ _ _ _ _ _ _
    fullShare.right (tileT gs) (loT gs) (hiT gs) (firstT gs) (lastT gs) (chk t.val h63)
    (rows (Xa m c) (tile (sz gs) t.val)) (wOf (Wa m c) (ex (sz gs) t.val)) (wsOf (WSa m c) (ex (sz gs) t.val))
    (rowsG (Ga m c) (tile (sz gs) t.val)) (rowsG (Ua m c) (tile (sz gs) t.val)) q sc h _ _ _ _ rfl rfl _)
  rw [wordAt_eq (tileT gs) _ h63, wordAt_eq (loT gs) _ h63, wordAt_eq (hiT gs) _ h63, tileT_word gs hg ⟨t.val, h63⟩, loT_word gs hg ⟨t.val, h63⟩, hiT_word gs hg ⟨t.val, h63⟩,
    if_neg hc, if_neg hc]
  isplitl [T1]; · iexact T1
  isplitl [T3]; · iexact T3
  isplitl [T4]; · iexact T4
  isplitl [T5]; · iexact T5
  isplitl [T6]; · iexact T6
  isplitl [H0]; · iexact H0
  isplitl [H1]; · iexact H1
  isplitl [H2]; · iexact H2
  isplitl [H3]; · iexact H3
  isplitl [H4]; · iexact H4
  isplitl [Hq]; · iexact Hq
  isplitl [Hs]; · iexact Hs
  isplitl [Hh]; · iexact Hh
  isplitl [H5]; · iexact H5
  isplitl [H6]; · iexact H6
  iintro ⟨T1, T3, T4, T5, T6, H0, H1, H2, H3, H4, Hq, Hs, Hh, H5, H6⟩
  isplitl [Hq Hs Hh Hr T0 T1 T2 T3 T4 T5 T6]
  · isplitl [Hq Hs Hh]
    · iexists _; iexists _; iexists _
      isplitr; · ipureintro; exact hst
      isplitl [Hq]; · iexact Hq
      isplitl [Hs]; · iexact Hs
      iexact Hh
    isplitl [Hr]; · iexact Hr
    isplitl [T0]; · iexact T0
    isplitl [T1]; · iexact T1
    isplitl [T2]; · iexact T2
    isplitl [T3]; · iexact T3
    isplitl [T4]; · iexact T4
    isplitl [T5]; · iexact T5
    iexact T6
  isplitl [Ho]; · iexact Ho
  isplitl [H0]; · iexact H0
  isplitl [H1]; · iexact H1
  isplitl [H2]; · iexact H2
  isplitl [H3]; · iexact H3
  isplitl [H4]; · iexact H4
  isplitl [H5]
  · iexists d5; iexact H5
  iexists d6; iexact H6

end Point

set_option pp.deepTerms false in
set_option pp.maxSteps 60 in
/-- The body's obligation. -/
theorem hbody (c : Dev nD) : BodyObligationLoose (dats (F := F) m gs hg 0 c) (defs₀ (F := F)) Variants.none () Set.univ := fun t => by
  by_cases hl : (tile (sz gs) t.val + 1) * 256 ≤ hi (sz gs) t.val
  · have h5 : (cfgA (F := F) gs hg).idle (5 : Fin 7) ((cfgA (F := F) gs hg).grid.coords t) = false :=
      (idle5 (F := F) gs hg t).trans (by rw [decide_eq_true hl]; rfl)
    have h6 : (cfgA (F := F) gs hg).idle (6 : Fin 7) ((cfgA (F := F) gs hg).grid.coords t) = false :=
      (idle6 (F := F) gs hg t).trans (by rw [decide_eq_true hl]; rfl)
    rw [bigSep_W0, bigSep_W0]
    rewrite [h5]
    try rewrite [h6]
    exact triple_restated (body_last m gs hg c t Set.univ hl) rfl .rfl fun _ => .rfl
  · have h5 : (cfgA (F := F) gs hg).idle (5 : Fin 7) ((cfgA (F := F) gs hg).grid.coords t) = true :=
      (idle5 (F := F) gs hg t).trans (by rw [decide_eq_false hl]; rfl)
    have h6 : (cfgA (F := F) gs hg).idle (6 : Fin 7) ((cfgA (F := F) gs hg).grid.coords t) = true :=
      (idle6 (F := F) gs hg t).trans (by rw [decide_eq_false hl]; rfl)
    have f5 : ((cfgA (F := F) gs hg).win (5 : Fin 7)).flush t = false :=
      Bool.eq_false_iff.2 fun h => hl ((flush5 (F := F) gs hg t).1 h)
    have f6 : ((cfgA (F := F) gs hg).win (6 : Fin 7)).flush t = false :=
      Bool.eq_false_iff.2 fun h => hl ((flush6 (F := F) gs hg t).1 h)
    rw [bigSep_W0, bigSep_W0]
    rewrite [h5]
    try rewrite [h6]
    rewrite [f5]
    try rewrite [f6]
    exact triple_restated (body_idle m gs hg c t Set.univ hl) rfl .rfl fun _ => .rfl

end Cert.Kernel.Hand

end
-- ==== Proof.Kernel.Run.lean ====
/-
  The run: @main to the region, the region, and what the arrays hold at the end, for a memory whose group sizes are
  admissible.
-/
module

public import proofs.«01_k».proof.Proof.Kernel.Region

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx
open Cert.Kernel.Gen Cert.Plan

attribute [local irreducible] Host.reduceWindow Host.reduce Host.gather concatenate
attribute [local irreducible] nT tileT expT loT hiT firstT lastT

variable {F : FTy → Type} [FloatOps F]

local notation "𝕄" => MT nD τ sig Unit (Elt F) ℕ (UR sig nD τ) ℕ

variable (m : (ℓ : Loc nD τ sig) → Buf (Elt F) ℓ) (ρ : Dev nD → PrngReg) (gs : IVec S40 32) (hg : Good gs)

/-- The launch's group sizes are the same on every core (there is one). -/
theorem gsOf_eq (c c' : Dev nD) : gsOf m c = gsOf m c' := by
  obtain rfl : c = c' := Subsingleton.elim (α := Fin 1) _ _
  rfl

/-- The tables at the region's entry. -/
theorem hpf (hgs : ∀ c, gsOf m c = gs) (c : Dev nD) : ∀ k : Fin 7, V m c (pre0.ref k) = pfN (F := F) gs k := by
  rw [← hgs c]
  intro k
  match k with
  | ⟨0, _⟩ => exact V_main_v14 m c
  | ⟨1, _⟩ => exact V_main_v42 m c
  | ⟨2, _⟩ => exact V_main_v24 m c
  | ⟨3, _⟩ => exact V_main_v49 m c
  | ⟨4, _⟩ => exact V_main_v56 m c
  | ⟨5, _⟩ => exact V_main_v61 m c
  | ⟨6, _⟩ => exact V_main_v67 m c

/-- The class invariant at entry is the proof data's: nothing is known of the scratch yet. -/
theorem hin (c : Dev nD) : iprop(Pipeline.ΦA spec0 c ∗ Pipeline.ΦT pre0 (pfN (F := F) gs) c) ⊢ (dats m gs hg 0 c).Φ 0 := by
  show iprop(Pipeline.ΦA spec0 c ∗ Pipeline.ΦT pre0 (pfN (F := F) gs) c) ⊢ PhiS m gs c 0
  unfold Pipeline.ΦA PhiS
  rw [scopedRest0_eq]
  simp only [owns_whole]
  iintro ⟨⟨⟨⟨%f0, H0⟩, ⟨%f1, H1⟩, ⟨%f2, H2⟩⟩, Hr⟩, Ht⟩
  isplitl [H0 H1 H2]
  · iexists f0; iexists f1; iexists f2
    isplitr; · ipureintro; exact fun h => absurd rfl h
    isplitl [H0]; · iexact H0
    isplitl [H1]; · iexact H1
    iexact H2
  isplitl [Hr]; · iexact Hr
  iexact Ht

/-- And at exit it is had back. -/
theorem hout (c : Dev nD) (i : ℕ) : (PhiS (F := F) m gs c i : sProp 𝕄) ⊢ Pipeline.ΦA spec0 c := by
  unfold Pipeline.ΦA PhiS
  rw [scopedRest0_eq]
  simp only [owns_whole]
  iintro ⟨⟨%f0, %f1, %f2, -, H0, H1, H2⟩, Hr, -⟩
  isplitl [H0 H1 H2]
  · isplitl [H0]; · iexists f0; iexact H0
    isplitl [H1]; · iexists f1; iexact H1
    iexists f2; iexact H2
  iexact Hr

set_option backward.isDefEq.respectTransparency.types false in
set_option maxHeartbeats 800000 in
/-- THE RUN: every execution of @main ends, with the windows' arrays as the write-backs leave them, every other
    buffer as it was at the region's entry, and every semaphore counter at zero. -/
theorem run_main (hgs : ∀ c, gsOf m c = gs) :
    θ_run defs (onTc (τ := τ) (main (F := F))) (s₀ m ρ)
      (fun r => Pipeline.FramePost (Pipeline.pin pcfgs (fun _ => adm gs hg)) (dats m gs hg) 0 (V m) r ∧ r.2.sem = fun _ => 0) :=
  Pipeline.θ_run_frameP_track (Q' := _) pcfgs (fun _ => adm gs hg) (dats m gs hg) (0 : Fin 1) launch0 defs₀ Variants.none m ρ main
    (fun c => hbody m gs hg c) (hshare := fun c => (dats m gs hg 0 c).share_full fun _ => rfl) (howed := fun _ _ => rfl) (V := V m)
    (hmain := hmain m Variants.none) (hA := A_eq m gs hg) (hpf := hpf m gs hgs) (hin := hin m gs hg) (hout := fun c => hout m gs c _)

include hg in
/-- THE FRAME: every execution ends, leaves the arguments' arrays as they were and every counter at zero. -/
theorem frame (hgs : ∀ c, gsOf m c = gs) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r (hr : _ ∧ _) => ⟨fun c => ⟨
      ((hr.1 c).1 (0 : Fin 7)).trans (((dats m gs hg 0 c).arrAt_in (0 : Fin 7) rfl _).trans ((A_eq m gs hg c (0 : Fin 7)).trans (V_arg0 m c))),
      ((hr.1 c).2 main_arg1 (Pipeline.mem_restRefs_of main_arg1 (by decide) (by decide : ∀ w : Fin 7, (spec0 w).arr.view.ref ≠ main_arg1))).trans (V_arg1 m c),
      ((hr.1 c).1 (1 : Fin 7)).trans (((dats m gs hg 0 c).arrAt_in (1 : Fin 7) rfl _).trans ((A_eq m gs hg c (1 : Fin 7)).trans (V_arg2 m c))),
      ((hr.1 c).2 main_arg3 (Pipeline.mem_restRefs_of main_arg3 (by decide) (by decide : ∀ w : Fin 7, (spec0 w).arr.view.ref ≠ main_arg3))).trans (V_arg3 m c),
      ((hr.1 c).1 (3 : Fin 7)).trans (((dats m gs hg 0 c).arrAt_in (3 : Fin 7) rfl _).trans ((A_eq m gs hg c (3 : Fin 7)).trans (V_arg4 m c))),
      ((hr.1 c).1 (4 : Fin 7)).trans (((dats m gs hg 0 c).arrAt_in (4 : Fin 7) rfl _).trans ((A_eq m gs hg c (4 : Fin 7)).trans (V_arg5 m c)))⟩, hr.2⟩)
    (run_main m ρ gs hg hgs)

end Cert.Kernel.Hand

end
-- ==== Proof.Kernel.Sizes.lean ====
/-
  The precondition read back: group sizes between 0 and 6144 that sum to 6144 as words sum to 6144 as numbers.
-/
module

public import proofs.«01_k».proof.Proof.Kernel.Words
public import proofs.«01_k».proof.Pre_groups_fill_rows
public import Idealize.ShloMosaic.Lib.ReduceAll
public import Idealize.ShloMosaic.Lib.WordSum

@[expose] public section

set_option maxRecDepth 16384

noncomputable section

namespace Cert.Kernel.Hand

open Idealize.ShloMosaic Idealize.ShloMosaic.ValueIdx Idealize.ShloMosaic.WordCmp
open Cert.Plan

instance : Subsingleton (⟨0, ![]⟩ : Shape).Idx := ⟨fun a b => funext fun i => i.elim0⟩

/-- A vector's sum over its indices is the running sum to its end. -/
theorem sum_idx (gs : IVec S40 32) : ∑ i : S40.Idx, (gs i).toNat = pre (sz gs) 40 := by
  have e : ∑ i : S40.Idx, (gs i).toNat = ∑ e : Fin 40, (gs (ix1 e)).toNat := by
    refine Finset.sum_bij' (fun i _ => (i 0 : Fin 40)) (fun e _ => (ix1 e : S40.Idx)) (fun _ _ => Finset.mem_univ _) (fun _ _ => Finset.mem_univ _) ?_ (fun _ _ => rfl) ?_
    · intro i _
      refine funext fun a => ?_
      obtain rfl : a = (0 : Fin 1) := Subsingleton.elim (α := Fin 1) _ _
      rfl
    · intro i _
      refine congrArg (fun j => (gs j).toNat) (funext fun a => ?_)
      obtain rfl : a = (0 : Fin 1) := Subsingleton.elim (α := Fin 1) _ _
      rfl
  have h : ∀ k, pre (sz gs) k = ∑ e ∈ Finset.range k, sz gs e := fun k => by
    induction k with
    | zero => rfl
    | succ k ih => rw [pre_succ, Finset.sum_range_succ, ih]
  rw [e, h, Finset.sum_range]
  refine Finset.sum_congr rfl fun e _ => ?_
  unfold sz
  rw [dif_pos e.isLt]

/-- THE PRECONDITION, read back. -/
theorem good_of_pre {F : FTy → Type} [FloatOps F] [Cert.Pre_groups_fill_rows.Facts] (x0 : FVec F S6144x2560 .bf16) (gs : IVec S40 32) (x2 : FVec F S40x1024x2560 .fp8e4m3)
    (x3 : FVec F S40x1024 .f32) (x4 x5 : FVec F S6144x1024 .bf16)
    (h : (Cert.Pre_groups_fill_rows.fn x0 gs x2 x3 x4 x5).1 = (fun _ => 1#1) ∧ (Cert.Pre_groups_fill_rows.fn x0 gs x2 x3 x4 x5).2.1 = (fun _ => 1#1)
      ∧ (Cert.Pre_groups_fill_rows.fn x0 gs x2 x3 x4 x5).2.2 = (fun _ => 1#1)) : Good gs := by
  obtain ⟨h1, h2, h3⟩ := h
  dsimp only [Cert.Pre_groups_fill_rows.fn] at h1 h2 h3
  have j : (⟨0, ![]⟩ : Shape).Idx := fun i => i.elim0
  have b : ∀ i : S40.Idx, (gs i).toNat ≤ 6144 := fun i => by
    have e1 : IntOp.cmpi .sge (gs i) 0#32 = 1#1 := Host.reduce_andi_all _ _ _ _ j (congrFun h1 j) i
    have e2 : IntOp.cmpi .sle (gs i) 6144#32 = 1#1 := Host.reduce_andi_all _ _ _ _ j (congrFun h2 j) i
    rw [cmpi_sge_zero, ofBool_decide_eq_one_iff] at e1
    rw [cmpi_sle_of_lt e1 (by decide), ofBool_decide_eq_one_iff] at e2
    exact e2
  have e3 := congrFun h3 j
  have hb : ∑ i : S40.Idx, (gs i).toNat < 2 ^ 32 := by
    rw [sum_idx]
    have hk : ∀ k, k ≤ 40 → pre (sz gs) k ≤ k * 6144 := fun k => by
      induction k with
      | zero => intro _; exact le_refl _
      | succ k ih =>
        intro hk
        have := ih (by omega)
        have hs : sz gs k ≤ 6144 := by unfold sz; rw [dif_pos (by omega)]; exact b _
        rw [pre_succ]; omega
    have := hk 40 (le_refl _)
    omega
  have e4 : Host.reduce IntOp.addi gs (constantI Cert.Pre_groups_fill_rows.S_ 32 0#32) Cert.Pre_groups_fill_rows.Facts.reducesTo_S40_S_d0 Cert.Pre_groups_fill_rows.Facts.h_S_ j = 6144#32 := by
    have e5 : IntOp.cmpi .eq (Host.reduce IntOp.addi gs (constantI Cert.Pre_groups_fill_rows.S_ 32 0#32) Cert.Pre_groups_fill_rows.Facts.reducesTo_S40_S_d0 Cert.Pre_groups_fill_rows.Facts.h_S_ j) 6144#32 = 1#1 := e3
    rw [cmpi_eq_eq, ofBool_decide_eq_one_iff] at e5
    exact e5
  rw [Host.reduce_eq_fold] at e4
  have e6 : ∀ S : Finset S40.Idx, Finset.fold IntOp.addi (0#32) gs S = ∑ i ∈ S, gs i := fun S => by
    induction S using Finset.cons_induction with
    | empty => rfl
    | cons a S ha ih => rw [Finset.fold_cons, Finset.sum_cons, ih]; rfl
  rw [show (constantI Cert.Pre_groups_fill_rows.S_ 32 0#32) (Shape.Idx.first Cert.Pre_groups_fill_rows.Facts.h_S_) = 0#32 from rfl, e6,
    Finset.filter_true_of_mem (fun i _ => Subsingleton.elim _ _)] at e4
  have e7 := congrArg BitVec.toNat e4
  rw [WordSum.toNat_sum _ _ hb, sum_idx] at e7
  exact e7

end Cert.Kernel.Hand

end
-- ==== Proof.KernelIdeal.Tables.lean ====
/-
  The contents of the region's tables and arrays when the region is entered: each table as a function of the group sizes, in the
  host lines' own operations.
-/
module

public import proofs.«01_k».proof.Proof.Gen.KernelIdeal.Launch
public import Idealize.ShloMosaic.Lib.Pipeline.Frame
public import Idealize.ShloMosaic.Lib.StableHlo.Run
public import Idealize.ShloMosaic.Lib.Routing.Words
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL.Sem
open Cert.KernelIdeal.Gen

/-! ## The tables, of the group sizes -/

/-- A constant at every entry of a vector of 40, of 63. -/
abbrev k40 (x : BitVec 32) : IVec S40 32 := broadcastInDim S40 ![] bcast_S_S40 (constantI S_ 32 x)
abbrev k63 (x : BitVec 32) : IVec S63 32 := broadcastInDim S63 ![] bcast_S_S63 (constantI S_ 32 x)
/-- The running sum. -/
def cumT (x : IVec S40 32) : IVec S40 32 :=
  Host.reduceWindow IntOp.addi ![40] ![1] ![39] ![0] x (broadcastInDim S_ ![] bcast_S_S_ (constantI S_ 32 0#32)) reduceWindows_S40_S40_w40s1p39_0 h_S_
/-- The floor of the quotient by 256. -/
def divT (x : IVec S40 32) : IVec S40 32 := Routing.pyDiv bcast_S_S40 x (constantI S_ 32 256#32)
/-- Where each group ends, where it starts, its first tile, the number of tiles it visits, the running sum of that. -/
def endsT (gs : IVec S40 32) : IVec S40 32 := cumT gs
def startsT (gs : IVec S40 32) : IVec S40 32 := subi (endsT gs) gs
def ftT (gs : IVec S40 32) : IVec S40 32 := divT (startsT gs)
def nvT (gs : IVec S40 32) : IVec S40 32 :=
  select (cmpi .sgt gs (k40 0#32)) (addi (subi (divT (subi (endsT gs) (k40 1#32))) (ftT gs)) (k40 1#32)) (k40 0#32)
def vendT (gs : IVec S40 32) : IVec S40 32 := cumT (nvT gs)
/-- The number of items. -/
def nT (gs : IVec S40 32) : IVec S_ 32 := shapeCast S_ (extractStridedSlice S1 ![39] (vendT gs) slices_S40_S1_39) shapeCasts_S1_S_
/-- The group of each item. -/
def expT (gs : IVec S40 32) : IVec S63 32 :=
  minsi (Host.reduce IntOp.addi (extui 32 (cmpi .sge
      (broadcastInDim S63x40 ![0, 1] bcast_S63x1_S63x40_0_1 (broadcastInDim S63x1 ![0] bcast_S63_S63x1_0 (iotaInDim S63 32 0)))
      (broadcastInDim S63x40 ![0, 1] bcast_S1x40_S63x40_0_1 (broadcastInDim S1x40 ![1] bcast_S40_S1x40_1 (vendT gs)))) natLt_1_32)
    (constantI S_ 32 0#32) reducesTo_S63x40_S63_d1 h_S_) (k63 39#32)
/-- A vector over the groups read at each item's group. -/
def takeT (x : IVec S40 32) (e : IVec S63 32) : IVec S63 32 :=
  Host.gather gather_S40_S63x1_S63_n_0_n_n_0_1_1 x (broadcastInDim S63x1 ![0] bcast_S63_S63x1_0 (select (cmpi .slt e (k63 0#32)) (addi e (k63 40#32)) e))
/-- The tile of each item, the rows its group has, whether it is its tile's first item, its last. -/
def tileT (gs : IVec S40 32) : IVec S63 32 :=
  minsi (k63 23#32) (maxsi (k63 0#32) (subi (addi (takeT (ftT gs) (expT gs)) (iotaInDim S63 32 0)) (takeT (subi (vendT gs) (nvT gs)) (expT gs))))
def loT (gs : IVec S40 32) : IVec S63 32 := takeT (startsT gs) (expT gs)
def hiT (gs : IVec S40 32) : IVec S63 32 := takeT (endsT gs) (expT gs)
def firstT (gs : IVec S40 32) : IVec S63 32 :=
  extui 32 (cmpi .ne (tileT gs) (concatenate S63 0 [⟨S1, broadcastInDim S1 ![] bcast_S_S1 (constantI S_ 32 4294967295#32)⟩,
    ⟨S62, extractStridedSlice S62 ![0] (tileT gs) slices_S63_S62_0⟩] concatenates_S1_S62_S63_d0)) natLt_1_32
def lastT (gs : IVec S40 32) : IVec S63 32 := extui 32 (cmpi .sge (hiT gs) (muli (addi (tileT gs) (k63 1#32)) (k63 256#32))) natLt_1_32

/-! ## @main up to the region -/

variable {F : FTy → Type} [FloatOps F]
variable (m : (ℓ : Loc nD τ sig) → Buf (Elt F) ℓ)

/-- Core `c`'s buffers when the region is entered: after the host lines. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10])
    (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region: the lines of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

set_option maxHeartbeats 800000 in
/-- No host line writes `main_arg0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg3`. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg4`. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- No host line writes `main_arg5`. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The group sizes at launch. -/
abbrev gsOf (c : Dev nD) : IVec S40 32 := m ((c : Thread nD τ).loc main_arg1)

end Cert.KernelIdeal.Hand

end
-- ==== Proof.KernelIdeal.Words.lean ====
/-
  The tables' words are the natural numbers of the item list (Plan.lean), when the group sizes are not negative and sum to 6144.
-/
module

public import proofs.«01_k».proof.Proof.KernelIdeal.Tables
public import proofs.«01_k».proof.Proof.Plan
public import Idealize.ShloMosaic.Lib.Routing.Ops
public import Idealize.ShloMosaic.Lib.Routing.OpsSearch
public import Idealize.ShloMosaic.Lib.Routing.OpsPair
public import Idealize.ShloMosaic.Lib.Routing.Words
public import Idealize.ShloMosaic.Lib.Routing.BitFacts
public import Idealize.ShloMosaic.Lib.WordCmp
public import Idealize.ShloMosaic.Lib.Pipeline.Value

@[expose] public section

set_option maxRecDepth 16384

noncomputable section

namespace Cert.KernelIdeal.Hand

open Idealize.ShloMosaic Idealize.ShloMosaic.Routing Idealize.ShloMosaic.ValueIdx
open Idealize.ShloMosaic.WordCmp
open Cert.KernelIdeal.Gen Cert.Plan

attribute [local irreducible] Host.reduceWindow Host.reduce Host.gather concatenate

/-- The size of group `e`. -/
def sz (gs : IVec S40 32) (e : ℕ) : ℕ := if h : e < 40 then (gs (ix1 (⟨e, h⟩ : Fin 40))).toNat else 0

variable (gs : IVec S40 32)

theorem gs_word (e : Fin 40) : gs (ix1 e) = BitVec.ofNat 32 (sz gs e.val) := by
  unfold sz
  rw [dif_pos e.isLt]
  simp

/-- The group sizes sum to the number of rows. -/
abbrev Good : Prop := pre (sz gs) 40 = 6144

variable (hg : Good gs)
include hg

theorem sz_le (e : ℕ) (he : e < 40) : sz gs e ≤ 6144 := by
  have h1 := pre_succ (sz gs) e
  have h2 := pre_le (sz gs) hg (e + 1) (by omega)
  omega

omit hg in
theorem endsT_word (e : Fin 40) : endsT gs (ix1 e) = BitVec.ofNat 32 (pre (sz gs) (e.val + 1)) :=
  cumsum1 (N := 40) (Nm1 := 39) rfl gs (sz gs) (gs_word gs) _ (bc0 _ _ _) reduceWindows_S40_S40_w40s1p39_0 h_S_ e

theorem startsT_word (e : Fin 40) : startsT gs (ix1 e) = BitVec.ofNat 32 (pre (sz gs) e.val) := by
  unfold startsT
  rw [subi_ap, endsT_word, gs_word gs e, ofNat32_sub (by rw [pre_succ]; omega), pre_succ, Nat.add_sub_cancel]

omit hg in
theorem divT_word (x : IVec S40 32) (e : Fin 40) {a : ℕ} (hx : x (ix1 e) = BitVec.ofNat 32 a) (ha : a < 2 ^ 31) :
    divT x (ix1 e) = BitVec.ofNat 32 (a / 256) :=
  pyDiv_ap _ x _ _ hx (b := 256) rfl ha (by decide) (by decide)

theorem ftT_word (e : Fin 40) : ftT gs (ix1 e) = BitVec.ofNat 32 (pre (sz gs) e.val / 256) := by
  have := pre_le (sz gs) hg e.val (by omega)
  exact divT_word _ e (startsT_word gs hg e) (by omega)

theorem nvT_word (e : Fin 40) : nvT gs (ix1 e) = BitVec.ofNat 32 (nv (sz gs) e.val) := by
  have hle := pre_le (sz gs) hg (e.val + 1) (by omega)
  have hs := pre_succ (sz gs) e.val
  unfold nvT nv
  rw [select_at, cmpi_at, gs_word gs e]
  show Scalar.select (IntOp.cmpi .sgt (BitVec.ofNat 32 (sz gs e.val)) (BitVec.ofNat 32 0)) _ _ = _
  rw [WordCmp.cmpi_sgt_ofNat (by omega) (by decide), WordCmp.select_decide]
  by_cases h : 0 < sz gs e.val
  · rw [if_pos h, if_pos h, addi_ap, subi_ap, ftT_word gs hg e,
      divT_word _ e (a := pre (sz gs) (e.val + 1) - 1) ?_ (by omega)]
    · show BitVec.ofNat 32 _ - _ + BitVec.ofNat 32 1 = _
      rw [ofNat32_sub (by omega), BitVec.ofNat_add_ofNat]
    · rw [subi_ap, endsT_word]
      exact ofNat32_sub (b := 1) (by omega)
  · rw [if_neg h, if_neg h]
    rfl

theorem vendT_word (e : Fin 40) : vendT gs (ix1 e) = BitVec.ofNat 32 (Q (sz gs) (e.val + 1)) :=
  cumsum1 (N := 40) (Nm1 := 39) rfl (nvT gs) (nv (sz gs)) (nvT_word gs hg) _ (bc0 _ _ _) reduceWindows_S40_S40_w40s1p39_0 h_S_ e

theorem nT_word (i : S_.Idx) : nT gs i = BitVec.ofNat 32 (n (sz gs)) := by
  unfold nT
  rw [shapeCast_apply _ shapeCasts_S1_S_ i (ix1 (0 : Fin 1)) (by
    have h1 := (S1.rowMajor (ix1 (0 : Fin 1))).isLt
    have h2 := (S_.rowMajor i).isLt
    have h3 : S1.numel = 1 := by decide
    have h4 : S_.numel = 1 := by decide
    omega)]
  exact (slice1 39 (vendT gs) slices_S40_S1_39 (0 : Fin 1) (by decide)).trans (vendT_word gs hg (⟨39, by decide⟩ : Fin 40))

theorem Q_lt (e : ℕ) (he : e ≤ 40) : Q (sz gs) e ≤ 63 := le_trans (Q_mono (sz gs) he) (n_le (sz gs) hg)

theorem expT_word (i : Fin 63) : expT gs (ix1 i) = BitVec.ofNat 32 (ex (sz gs) i.val) := by
  unfold expT ex
  show IntOp.minsi (Host.reduce IntOp.addi _ _ reducesTo_S63x40_S63_d1 h_S_ (ix1 i)) (BitVec.ofNat 32 39) = _
  rw [show Host.reduce IntOp.addi _ _ reducesTo_S63x40_S63_d1 h_S_ (ix1 i) = _ from
    reduce_count (by decide) _ natLt_1_32 reducesTo_S63x40_S63_d1 h_S_ i (fun e => Q (sz gs) (e + 1) ≤ i.val) (fun q => by
      rw [cmpi_at, bcRows, bcCols, vendT_word gs hg, iota1_ap]
      have := Q_lt gs hg (q.val + 1) (by omega)
      have := i.isLt
      exact WordCmp.cmpi_sge_ofNat_eq_one_iff (by omega) (by omega))]
  have hc : Nat.count (fun e => Q (sz gs) (e + 1) ≤ i.val) 40 ≤ 40 := Nat.count_le _
  generalize Nat.count (fun e => Q (sz gs) (e + 1) ≤ i.val) 40 = k at hc
  unfold IntOp.minsi
  rw [slt_ofNat32 (by omega) (by decide)]
  by_cases h : k < 39
  · rw [if_pos (decide_eq_true h), Nat.min_eq_left (by omega)]
  · rw [if_neg (by rw [decide_eq_false h]; decide), Nat.min_eq_right (by omega)]

/-- A vector over the groups, read at item `i`'s group. -/
theorem takeT_word (x : IVec S40 32) (f : ℕ → ℕ) (hx : ∀ e : Fin 40, x (ix1 e) = BitVec.ofNat 32 (f e.val)) (i : Fin 63) :
    takeT x (expT gs) (ix1 i) = BitVec.ofNat 32 (f (ex (sz gs) i.val)) := by
  have he := (ex_le (sz gs) i.val).1
  unfold takeT
  rw [show Host.gather _ x _ (ix1 i) = x (ix1 ⟨ex (sz gs) i.val, he⟩) from
    take_ap gather_S40_S63x1_S63_n_0_n_n_0_1_1 rfl rfl rfl rfl x _ i he (by omega) ?_]
  · exact hx ⟨_, he⟩
  · rw [bcCol, select_at, cmpi_at]
    show Scalar.select (IntOp.cmpi .slt (expT gs (ix1 i)) 0#32) _ _ = _
    rw [wrap_of_lt _ _ (by rw [expT_word gs hg, BitVec.toNat_ofNat]; omega), expT_word gs hg]

theorem tileT_word (i : Fin 63) : tileT gs (ix1 i) = BitVec.ofNat 32 (tile (sz gs) i.val) := by
  obtain ⟨he, hq⟩ := ex_le (sz gs) i.val
  have hp := pre_le (sz gs) hg (ex (sz gs) i.val) (by omega)
  have hi := i.isLt
  have hv : ∀ e : Fin 40, subi (vendT gs) (nvT gs) (ix1 e) = BitVec.ofNat 32 (Q (sz gs) e.val) := fun e => by
    rw [subi_ap, vendT_word gs hg, nvT_word gs hg, ofNat32_sub (by rw [Q_succ]; omega), Q_succ, Nat.add_sub_cancel]
  unfold tileT
  show IntOp.minsi (BitVec.ofNat 32 23) (IntOp.maxsi (BitVec.ofNat 32 0)
    (takeT (ftT gs) (expT gs) (ix1 i) + BitVec.ofNat 32 i.val - takeT (subi (vendT gs) (nvT gs)) (expT gs) (ix1 i))) = _
  rw [takeT_word gs hg _ (fun e => pre (sz gs) e / 256) (ftT_word gs hg), takeT_word gs hg _ (fun e => Q (sz gs) e) hv,
    BitVec.ofNat_add_ofNat, ofNat32_sub (by omega), clip_word (by omega) (by decide) (by decide)]
  exact congrArg (BitVec.ofNat 32) (by unfold tile; omega)

theorem loT_word (i : Fin 63) : loT gs (ix1 i) = BitVec.ofNat 32 (lo (sz gs) i.val) :=
  takeT_word gs hg _ (fun e => pre (sz gs) e) (startsT_word gs hg) i
theorem hiT_word (i : Fin 63) : hiT gs (ix1 i) = BitVec.ofNat 32 (hi (sz gs) i.val) :=
  takeT_word gs hg _ (fun e => pre (sz gs) (e + 1)) (endsT_word gs) i

omit hg in
theorem tile_lt' (i : ℕ) : tile (sz gs) i < 24 := by unfold tile; omega

theorem lastT_word (i : Fin 63) : lastT gs (ix1 i) = 1#32 ↔ (tile (sz gs) i.val + 1) * 256 ≤ hi (sz gs) i.val := by
  have h1 := tile_lt' gs i.val
  have h2 := hi_le (sz gs) hg i.val
  have h : lastT gs (ix1 i) = (IntOp.cmpi .sge (BitVec.ofNat 32 (hi (sz gs) i.val)) (BitVec.ofNat 32 ((tile (sz gs) i.val + 1) * 256))).setWidth 32 := by
    rw [← hiT_word gs hg, ← BitVec.ofNat_mul_ofNat, ← BitVec.ofNat_add_ofNat, ← tileT_word gs hg]
    rfl
  rw [h, WordCmp.cmpi_sge_ofNat (by omega) (by omega), setWidth_ofBool]
  by_cases hc : (tile (sz gs) i.val + 1) * 256 ≤ hi (sz gs) i.val
  · simp [hc]
  · simp [hc]

theorem firstT_word (i : Fin 63) : firstT gs (ix1 i) = 1#32 ↔ (i.val = 0 ∨ tile (sz gs) i.val ≠ tile (sz gs) (i.val - 1)) := by
  have hi := i.isLt
  have key : ∀ (a b : BitVec 32), (IntOp.cmpi .ne a b).setWidth 32 = 1#32 ↔ a ≠ b := fun a b => by
    rw [WordCmp.cmpi_ne_eq, setWidth_ofBool]
    by_cases h : a = b <;> simp [h]
  unfold firstT
  refine (key _ _).trans ?_
  rw [tileT_word gs hg]
  have h1 := tile_lt' gs i.val
  rcases Nat.eq_zero_or_pos i.val with h0 | hp
  · obtain ⟨i, hlt⟩ := i
    obtain rfl : i = 0 := h0
    refine ⟨fun _ => .inl rfl, fun _ h => ?_⟩
    have h2 : BitVec.ofNat 32 (tile (sz gs) 0) = 4294967295#32 := h.trans
      ((concatenate_pair_apply_left (t := S63) (s₁ := S1) (s₂ := S62) 0 _ _ _ _ rfl (ix1 (0 : Fin 1)) (fun b => by
        rw [Subsingleton.elim (α := Fin 1) b 0]; rfl)).trans (bc0 _ _ _))
    have h3 := congrArg BitVec.toNat h2
    rw [BitVec.toNat_ofNat] at h3
    have : (4294967295#32 : BitVec 32).toNat = 4294967295 := by decide
    have h5 := tile_lt' gs 0
    omega
  · have hc : concatenate S63 0 [⟨S1, broadcastInDim S1 ![] bcast_S_S1 (constantI S_ 32 4294967295#32)⟩,
        ⟨S62, extractStridedSlice S62 ![0] (tileT gs) slices_S63_S62_0⟩] concatenates_S1_S62_S63_d0 (ix1 i)
        = tileT gs (ix1 (⟨i.val - 1, by omega⟩ : Fin 63)) := by
      refine concatenate_pair_apply_right (t := S63) (s₁ := S1) (s₂ := S62) 0 _ _ _ (ix1 i) rfl rfl (ix1 (⟨i.val - 1, by omega⟩ : Fin 62)) (fun b hb => ?_) ?_ |>.trans ?_
      · exact absurd (Subsingleton.elim (α := Fin 1) _ _) hb
      · show i.val - 1 + 1 = i.val
        omega
      · refine (slice1 0 (tileT gs) slices_S63_S62_0 (⟨i.val - 1, by omega⟩ : Fin 62) (by show 0 + (i.val - 1) < 63; omega)).trans ?_
        exact congrArg (fun q => tileT gs (ix1 q)) (Fin.ext (Nat.zero_add _))
    rw [hc, tileT_word gs hg]
    have h4 := tile_lt' gs (i.val - 1)
    have hne : i.val ≠ 0 := by omega
    simp only [hne, false_or]
    constructor
    · intro h h'; exact h (by rw [h'])
    · intro h h'
      have h3 := congrArg BitVec.toNat h'
      rw [BitVec.toNat_ofNat, BitVec.toNat_ofNat] at h3
      exact h (by omega)

end Cert.KernelIdeal.Hand

end
-- ==== Proof.KernelIdeal.Body.lean ====
/-
  The kernel body, as pure values and as triples: what the body leaves in its three scratch buffers and its two output
  blocks, in terms of what it finds. Everything here is about one grid point and any staging buffers, at any float semantics.
-/
module

public import proofs.«01_k».proof.Proof.Gen.KernelIdeal.Skeleton
public import proofs.«01_k».proof.Proof.Gen.KernelIdeal.Launch
public import Idealize.ShloMosaic.Lib.Exec
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The values -/

/-- The 32 rows of quantised codes of 32 rows of `dy`. -/
def qblk (x : Vec F S32x2560 .bf16) : FVec F S32x2560 .fp8e5m2 := k0_pay6 x (k0_pay2 x) (k0_pay3 x)
/-- Their scales, each row's repeated along the lanes. -/
def sblk (x : Vec F S32x2560 .bf16) : FVec F S32x128 .f32 := k0_pay5 (F := F) (k0_pay4 x)

abbrev rq0 : Rect S256x2560 := Rect.unit (s := S256x2560) ![0, 0] S32x2560.size inb_S256x2560_S32x2560_0_0
abbrev rs0 : Rect S256x128 := Rect.unit (s := S256x128) ![0, 0] S32x128.size inb_S256x128_S32x128_0_0
abbrev rh0 : Rect S256x1024 := Rect.unit (s := S256x1024) ![0, 0] S32x1024.size inb_S256x1024_S32x1024_0_0
abbrev rc0 : Rect S256x1 := Rect.unit (s := S256x1) ![0, 0] S32x1.size inb_S256x1_S32x1_0_0
abbrev ro0_0 : Rect S2x256x1024 := Rect.unit (s := S2x256x1024) ![0, 0, 0] S1x32x1024.size inb_S2x256x1024_S1x32x1024_0_0_0
abbrev ro1_0 : Rect S2x256x1024 := Rect.unit (s := S2x256x1024) ![1, 0, 0] S1x32x1024.size inb_S2x256x1024_S1x32x1024_1_0_0
abbrev rq1 : Rect S256x2560 := Rect.unit (s := S256x2560) ![32, 0] S32x2560.size inb_S256x2560_S32x2560_32_0
abbrev rs1 : Rect S256x128 := Rect.unit (s := S256x128) ![32, 0] S32x128.size inb_S256x128_S32x128_32_0
abbrev rh1 : Rect S256x1024 := Rect.unit (s := S256x1024) ![32, 0] S32x1024.size inb_S256x1024_S32x1024_32_0
abbrev rc1 : Rect S256x1 := Rect.unit (s := S256x1) ![32, 0] S32x1.size inb_S256x1_S32x1_32_0
abbrev ro0_1 : Rect S2x256x1024 := Rect.unit (s := S2x256x1024) ![0, 32, 0] S1x32x1024.size inb_S2x256x1024_S1x32x1024_0_32_0
abbrev ro1_1 : Rect S2x256x1024 := Rect.unit (s := S2x256x1024) ![1, 32, 0] S1x32x1024.size inb_S2x256x1024_S1x32x1024_1_32_0
abbrev rq2 : Rect S256x2560 := Rect.unit (s := S256x2560) ![64, 0] S32x2560.size inb_S256x2560_S32x2560_64_0
abbrev rs2 : Rect S256x128 := Rect.unit (s := S256x128) ![64, 0] S32x128.size inb_S256x128_S32x128_64_0
abbrev rh2 : Rect S256x1024 := Rect.unit (s := S256x1024) ![64, 0] S32x1024.size inb_S256x1024_S32x1024_64_0
abbrev rc2 : Rect S256x1 := Rect.unit (s := S256x1) ![64, 0] S32x1.size inb_S256x1_S32x1_64_0
abbrev ro0_2 : Rect S2x256x1024 := Rect.unit (s := S2x256x1024) ![0, 64, 0] S1x32x1024.size inb_S2x256x1024_S1x32x1024_0_64_0
abbrev ro1_2 : Rect S2x256x1024 := Rect.unit (s := S2x256x1024) ![1, 64, 0] S1x32x1024.size inb_S2x256x1024_S1x32x1024_1_64_0
abbrev rq3 : Rect S256x2560 := Rect.unit (s := S256x2560) ![96, 0] S32x2560.size inb_S256x2560_S32x2560_96_0
abbrev rs3 : Rect S256x128 := Rect.unit (s := S256x128) ![96, 0] S32x128.size inb_S256x128_S32x128_96_0
abbrev rh3 : Rect S256x1024 := Rect.unit (s := S256x1024) ![96, 0] S32x1024.size inb_S256x1024_S32x1024_96_0
abbrev rc3 : Rect S256x1 := Rect.unit (s := S256x1) ![96, 0] S32x1.size inb_S256x1_S32x1_96_0
abbrev ro0_3 : Rect S2x256x1024 := Rect.unit (s := S2x256x1024) ![0, 96, 0] S1x32x1024.size inb_S2x256x1024_S1x32x1024_0_96_0
abbrev ro1_3 : Rect S2x256x1024 := Rect.unit (s := S2x256x1024) ![1, 96, 0] S1x32x1024.size inb_S2x256x1024_S1x32x1024_1_96_0
abbrev rq4 : Rect S256x2560 := Rect.unit (s := S256x2560) ![128, 0] S32x2560.size inb_S256x2560_S32x2560_128_0
abbrev rs4 : Rect S256x128 := Rect.unit (s := S256x128) ![128, 0] S32x128.size inb_S256x128_S32x128_128_0
abbrev rh4 : Rect S256x1024 := Rect.unit (s := S256x1024) ![128, 0] S32x1024.size inb_S256x1024_S32x1024_128_0
abbrev rc4 : Rect S256x1 := Rect.unit (s := S256x1) ![128, 0] S32x1.size inb_S256x1_S32x1_128_0
abbrev ro0_4 : Rect S2x256x1024 := Rect.unit (s := S2x256x1024) ![0, 128, 0] S1x32x1024.size inb_S2x256x1024_S1x32x1024_0_128_0
abbrev ro1_4 : Rect S2x256x1024 := Rect.unit (s := S2x256x1024) ![1, 128, 0] S1x32x1024.size inb_S2x256x1024_S1x32x1024_1_128_0
abbrev rq5 : Rect S256x2560 := Rect.unit (s := S256x2560) ![160, 0] S32x2560.size inb_S256x2560_S32x2560_160_0
abbrev rs5 : Rect S256x128 := Rect.unit (s := S256x128) ![160, 0] S32x128.size inb_S256x128_S32x128_160_0
abbrev rh5 : Rect S256x1024 := Rect.unit (s := S256x1024) ![160, 0] S32x1024.size inb_S256x1024_S32x1024_160_0
abbrev rc5 : Rect S256x1 := Rect.unit (s := S256x1) ![160, 0] S32x1.size inb_S256x1_S32x1_160_0
abbrev ro0_5 : Rect S2x256x1024 := Rect.unit (s := S2x256x1024) ![0, 160, 0] S1x32x1024.size inb_S2x256x1024_S1x32x1024_0_160_0
abbrev ro1_5 : Rect S2x256x1024 := Rect.unit (s := S2x256x1024) ![1, 160, 0] S1x32x1024.size inb_S2x256x1024_S1x32x1024_1_160_0
abbrev rq6 : Rect S256x2560 := Rect.unit (s := S256x2560) ![192, 0] S32x2560.size inb_S256x2560_S32x2560_192_0
abbrev rs6 : Rect S256x128 := Rect.unit (s := S256x128) ![192, 0] S32x128.size inb_S256x128_S32x128_192_0
abbrev rh6 : Rect S256x1024 := Rect.unit (s := S256x1024) ![192, 0] S32x1024.size inb_S256x1024_S32x1024_192_0
abbrev rc6 : Rect S256x1 := Rect.unit (s := S256x1) ![192, 0] S32x1.size inb_S256x1_S32x1_192_0
abbrev ro0_6 : Rect S2x256x1024 := Rect.unit (s := S2x256x1024) ![0, 192, 0] S1x32x1024.size inb_S2x256x1024_S1x32x1024_0_192_0
abbrev ro1_6 : Rect S2x256x1024 := Rect.unit (s := S2x256x1024) ![1, 192, 0] S1x32x1024.size inb_S2x256x1024_S1x32x1024_1_192_0
abbrev rq7 : Rect S256x2560 := Rect.unit (s := S256x2560) ![224, 0] S32x2560.size inb_S256x2560_S32x2560_224_0
abbrev rs7 : Rect S256x128 := Rect.unit (s := S256x128) ![224, 0] S32x128.size inb_S256x128_S32x128_224_0
abbrev rh7 : Rect S256x1024 := Rect.unit (s := S256x1024) ![224, 0] S32x1024.size inb_S256x1024_S32x1024_224_0
abbrev rc7 : Rect S256x1 := Rect.unit (s := S256x1) ![224, 0] S32x1.size inb_S256x1_S32x1_224_0
abbrev ro0_7 : Rect S2x256x1024 := Rect.unit (s := S2x256x1024) ![0, 224, 0] S1x32x1024.size inb_S2x256x1024_S1x32x1024_0_224_0
abbrev ro1_7 : Rect S2x256x1024 := Rect.unit (s := S2x256x1024) ![1, 224, 0] S1x32x1024.size inb_S2x256x1024_S1x32x1024_1_224_0

/-- The codes of a 256-row block of `dy`, 32 rows a piece. -/
def qtile (x : Vec F S256x2560 .bf16) : Vec F S256x2560 .fp8e5m2 :=
  View.canon [⟨rq7, qblk (View.ld x rq7)⟩, ⟨rq6, qblk (View.ld x rq6)⟩, ⟨rq5, qblk (View.ld x rq5)⟩, ⟨rq4, qblk (View.ld x rq4)⟩, ⟨rq3, qblk (View.ld x rq3)⟩, ⟨rq2, qblk (View.ld x rq2)⟩, ⟨rq1, qblk (View.ld x rq1)⟩, ⟨rq0, qblk (View.ld x rq0)⟩]
/-- Its scales. -/
def stile (x : Vec F S256x2560 .bf16) : Vec F S256x128 .f32 :=
  View.canon [⟨rs7, sblk (View.ld x rq7)⟩, ⟨rs6, sblk (View.ld x rq6)⟩, ⟨rs5, sblk (View.ld x rq5)⟩, ⟨rs4, sblk (View.ld x rq4)⟩, ⟨rs3, sblk (View.ld x rq3)⟩, ⟨rs2, sblk (View.ld x rq2)⟩, ⟨rs1, sblk (View.ld x rq1)⟩, ⟨rs0, sblk (View.ld x rq0)⟩]

/-- The 32 rows of quantised gradients of the gate, from 32 rows of `dh`, `g` and `u`; -/
def dgblk (h : Vec F S32x1024 .f32) (g u : Vec F S32x1024 .bf16) : FVec F S1x32x1024 .fp8e5m2 :=
  k0_pay60 (k0_pay53 h g u) (k0_pay55 h g u) (k0_pay56 h g u) 255#32
/-- of the up projection; -/
def dublk (h : Vec F S32x1024 .f32) (g u : Vec F S32x1024 .bf16) : FVec F S1x32x1024 .fp8e5m2 :=
  k0_pay61 (k0_pay54 h g) (k0_pay55 h g u) (k0_pay56 h g u) 255#32
/-- and their scales. -/
def scblk (h : Vec F S32x1024 .f32) (g u : Vec F S32x1024 .bf16) : FVec F S32x1 .f32 :=
  k0_pay58 (F := F) (k0_pay55 h g u) (k0_pay56 h g u) 255#32

/-- The block of codes of a row tile, from the tile of `dh`, `g` and `u`. -/
def otile (h : Vec F S256x1024 .f32) (g u : Vec F S256x1024 .bf16) : Vec F S2x256x1024 .fp8e5m2 :=
  View.canon [⟨ro1_7, dublk (View.ld h rh7) (View.ld g rh7) (View.ld u rh7)⟩, ⟨ro0_7, dgblk (View.ld h rh7) (View.ld g rh7) (View.ld u rh7)⟩, ⟨ro1_6, dublk (View.ld h rh6) (View.ld g rh6) (View.ld u rh6)⟩, ⟨ro0_6, dgblk (View.ld h rh6) (View.ld g rh6) (View.ld u rh6)⟩, ⟨ro1_5, dublk (View.ld h rh5) (View.ld g rh5) (View.ld u rh5)⟩, ⟨ro0_5, dgblk (View.ld h rh5) (View.ld g rh5) (View.ld u rh5)⟩, ⟨ro1_4, dublk (View.ld h rh4) (View.ld g rh4) (View.ld u rh4)⟩, ⟨ro0_4, dgblk (View.ld h rh4) (View.ld g rh4) (View.ld u rh4)⟩, ⟨ro1_3, dublk (View.ld h rh3) (View.ld g rh3) (View.ld u rh3)⟩, ⟨ro0_3, dgblk (View.ld h rh3) (View.ld g rh3) (View.ld u rh3)⟩, ⟨ro1_2, dublk (View.ld h rh2) (View.ld g rh2) (View.ld u rh2)⟩, ⟨ro0_2, dgblk (View.ld h rh2) (View.ld g rh2) (View.ld u rh2)⟩, ⟨ro1_1, dublk (View.ld h rh1) (View.ld g rh1) (View.ld u rh1)⟩, ⟨ro0_1, dgblk (View.ld h rh1) (View.ld g rh1) (View.ld u rh1)⟩, ⟨ro1_0, dublk (View.ld h rh0) (View.ld g rh0) (View.ld u rh0)⟩, ⟨ro0_0, dgblk (View.ld h rh0) (View.ld g rh0) (View.ld u rh0)⟩]
/-- Its scales. -/
def sctile (h : Vec F S256x1024 .f32) (g u : Vec F S256x1024 .bf16) : Vec F S256x1 .f32 :=
  View.canon [⟨rc7, scblk (View.ld h rh7) (View.ld g rh7) (View.ld u rh7)⟩, ⟨rc6, scblk (View.ld h rh6) (View.ld g rh6) (View.ld u rh6)⟩, ⟨rc5, scblk (View.ld h rh5) (View.ld g rh5) (View.ld u rh5)⟩, ⟨rc4, scblk (View.ld h rh4) (View.ld g rh4) (View.ld u rh4)⟩, ⟨rc3, scblk (View.ld h rh3) (View.ld g rh3) (View.ld u rh3)⟩, ⟨rc2, scblk (View.ld h rh2) (View.ld g rh2) (View.ld u rh2)⟩, ⟨rc1, scblk (View.ld h rh1) (View.ld g rh1) (View.ld u rh1)⟩, ⟨rc0, scblk (View.ld h rh0) (View.ld g rh0) (View.ld u rh0)⟩]

/-- The tile of `dh` after one item: its own rows replaced. -/
def hstep (q : Vec F S256x2560 .fp8e5m2) (s : Vec F S256x128 .f32) (w : Vec F S1x1024x2560 .fp8e4m3) (ws : Vec F S1x1x1024 .f32)
    (tile lo hi : BitVec 32) (h : Vec F S256x1024 .f32) : Vec F S256x1024 .f32 :=
  k0_pay140 q w tile lo hi (View.ld s (Rect.unit (s := S256x128) ![0, 0] S256x1.size inb_S256x128_S256x1_0_0)) ws h

/-! The pieces cover the buffers. -/
theorem cover_q (p0 : Vec F S32x2560 .fp8e5m2) (p1 : Vec F S32x2560 .fp8e5m2) (p2 : Vec F S32x2560 .fp8e5m2) (p3 : Vec F S32x2560 .fp8e5m2) (p4 : Vec F S32x2560 .fp8e5m2) (p5 : Vec F S32x2560 .fp8e5m2) (p6 : Vec F S32x2560 .fp8e5m2) (p7 : Vec F S32x2560 .fp8e5m2) (y : S256x2560.Idx) :
    ∃ pc ∈ ([⟨rq7, p0⟩, ⟨rq6, p1⟩, ⟨rq5, p2⟩, ⟨rq4, p3⟩, ⟨rq3, p4⟩, ⟨rq2, p5⟩, ⟨rq1, p6⟩, ⟨rq0, p7⟩] : List (View.Piece (Elt F) S256x2560 .fp8e5m2)), y ∈ pc.1.set :=
  View.cover_of_tiled [⟨rq7, p0⟩, ⟨rq6, p1⟩, ⟨rq5, p2⟩, ⟨rq4, p3⟩, ⟨rq3, p4⟩, ⟨rq2, p5⟩, ⟨rq1, p6⟩, ⟨rq0, p7⟩] S32x2560.size (by rfl) y
theorem cover_s (p0 : Vec F S32x128 .f32) (p1 : Vec F S32x128 .f32) (p2 : Vec F S32x128 .f32) (p3 : Vec F S32x128 .f32) (p4 : Vec F S32x128 .f32) (p5 : Vec F S32x128 .f32) (p6 : Vec F S32x128 .f32) (p7 : Vec F S32x128 .f32) (y : S256x128.Idx) :
    ∃ pc ∈ ([⟨rs7, p0⟩, ⟨rs6, p1⟩, ⟨rs5, p2⟩, ⟨rs4, p3⟩, ⟨rs3, p4⟩, ⟨rs2, p5⟩, ⟨rs1, p6⟩, ⟨rs0, p7⟩] : List (View.Piece (Elt F) S256x128 .f32)), y ∈ pc.1.set :=
  View.cover_of_tiled [⟨rs7, p0⟩, ⟨rs6, p1⟩, ⟨rs5, p2⟩, ⟨rs4, p3⟩, ⟨rs3, p4⟩, ⟨rs2, p5⟩, ⟨rs1, p6⟩, ⟨rs0, p7⟩] S32x128.size (by rfl) y
theorem cover_o (p0 : Vec F S1x32x1024 .fp8e5m2) (p1 : Vec F S1x32x1024 .fp8e5m2) (p2 : Vec F S1x32x1024 .fp8e5m2) (p3 : Vec F S1x32x1024 .fp8e5m2) (p4 : Vec F S1x32x1024 .fp8e5m2) (p5 : Vec F S1x32x1024 .fp8e5m2) (p6 : Vec F S1x32x1024 .fp8e5m2) (p7 : Vec F S1x32x1024 .fp8e5m2) (p8 : Vec F S1x32x1024 .fp8e5m2) (p9 : Vec F S1x32x1024 .fp8e5m2) (p10 : Vec F S1x32x1024 .fp8e5m2) (p11 : Vec F S1x32x1024 .fp8e5m2) (p12 : Vec F S1x32x1024 .fp8e5m2) (p13 : Vec F S1x32x1024 .fp8e5m2) (p14 : Vec F S1x32x1024 .fp8e5m2) (p15 : Vec F S1x32x1024 .fp8e5m2) (y : S2x256x1024.Idx) :
    ∃ pc ∈ ([⟨ro1_7, p0⟩, ⟨ro0_7, p1⟩, ⟨ro1_6, p2⟩, ⟨ro0_6, p3⟩, ⟨ro1_5, p4⟩, ⟨ro0_5, p5⟩, ⟨ro1_4, p6⟩, ⟨ro0_4, p7⟩, ⟨ro1_3, p8⟩, ⟨ro0_3, p9⟩, ⟨ro1_2, p10⟩, ⟨ro0_2, p11⟩, ⟨ro1_1, p12⟩, ⟨ro0_1, p13⟩, ⟨ro1_0, p14⟩, ⟨ro0_0, p15⟩] : List (View.Piece (Elt F) S2x256x1024 .fp8e5m2)), y ∈ pc.1.set :=
  View.cover_of_tiled [⟨ro1_7, p0⟩, ⟨ro0_7, p1⟩, ⟨ro1_6, p2⟩, ⟨ro0_6, p3⟩, ⟨ro1_5, p4⟩, ⟨ro0_5, p5⟩, ⟨ro1_4, p6⟩, ⟨ro0_4, p7⟩, ⟨ro1_3, p8⟩, ⟨ro0_3, p9⟩, ⟨ro1_2, p10⟩, ⟨ro0_2, p11⟩, ⟨ro1_1, p12⟩, ⟨ro0_1, p13⟩, ⟨ro1_0, p14⟩, ⟨ro0_0, p15⟩] S1x32x1024.size (by rfl) y
theorem cover_c (p0 : Vec F S32x1 .f32) (p1 : Vec F S32x1 .f32) (p2 : Vec F S32x1 .f32) (p3 : Vec F S32x1 .f32) (p4 : Vec F S32x1 .f32) (p5 : Vec F S32x1 .f32) (p6 : Vec F S32x1 .f32) (p7 : Vec F S32x1 .f32) (y : S256x1.Idx) :
    ∃ pc ∈ ([⟨rc7, p0⟩, ⟨rc6, p1⟩, ⟨rc5, p2⟩, ⟨rc4, p3⟩, ⟨rc3, p4⟩, ⟨rc2, p5⟩, ⟨rc1, p6⟩, ⟨rc0, p7⟩] : List (View.Piece (Elt F) S256x1 .f32)), y ∈ pc.1.set :=
  View.cover_of_tiled [⟨rc7, p0⟩, ⟨rc6, p1⟩, ⟨rc5, p2⟩, ⟨rc4, p3⟩, ⟨rc3, p4⟩, ⟨rc2, p5⟩, ⟨rc1, p6⟩, ⟨rc0, p7⟩] S32x1.size (by rfl) y
variable (c : Dev nD) (E : Set ℕ) (b : grid0.Bounds) (i : grid0.Static) (arg0 : BitVec 32) (arg1 : Memref sig .tc .smem S63 .i32) (harg1 : arg1.IsWhole) (arg2 : Memref sig .tc .smem S63 .i32) (harg2 : arg2.IsWhole) (arg3 : Memref sig .tc .smem S63 .i32) (harg3 : arg3.IsWhole) (arg4 : Memref sig .tc .smem S63 .i32) (harg4 : arg4.IsWhole) (arg5 : Memref sig .tc .smem S63 .i32) (harg5 : arg5.IsWhole) (arg6 : Memref sig .tc .smem S63 .i32) (harg6 : arg6.IsWhole) (arg7 : Memref sig .tc .vmem S256x2560 .bf16) (harg7 : arg7.IsWhole) (arg8 : Memref sig .tc .vmem S1x1024x2560 .fp8e4m3) (harg8 : arg8.IsWhole) (arg9 : Memref sig .tc .vmem S1x1x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S2x256x1024 .fp8e5m2) (harg12 : arg12.IsWhole) (arg13 : Memref sig .tc .vmem S256x1 .f32) (harg13 : arg13.IsWhole) (arg14 : Memref sig .tc .vmem S256x2560 .fp8e5m2) (harg14 : arg14.IsWhole) (arg15 : Memref sig .tc .vmem S256x128 .f32) (harg15 : arg15.IsWhole) (arg16 : Memref sig .tc .vmem S256x1024 .f32) (harg16 : arg16.IsWhole)

/-- The branch of a tile's first item: the block of `dy` is quantised. -/
abbrev firstProg {α : Type} (k : PUnit.{1} → Prog (TpuEff nD τ sig (Elt F) Λ₀ .tc) α) : Prog (TpuEff nD τ sig (Elt F) Λ₀ .tc) α := do
  let ⟨v627, v629⟩ : Σ' (v627 : FVec F S32x2560 .bf16), FVec F S32x2560 .bf16 ← k0_part13 b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v632 : Vec F S32x2560 .fp8e5m2 ← Prog.lift (.load arg14 (Rect.unit (s := S256x2560) ![224, 0] S32x2560.size inb_S256x2560_S32x2560_224_0).toLoadRect (View.loadsAt_vmem h_S32x2560))
  Prog.lift (.store arg14 (Rect.unit (s := S256x2560) ![224, 0] S32x2560.size inb_S256x2560_S32x2560_224_0) (k0_pay139 v627 v629) Finset.univ (View.stores_vmem h_S32x2560 (harg14.storeExact_slice rfl _ packedfp8e5m2_S256x2560_S32x2560_224_0) (fun _ => rfl)) (.inl rfl))
  k ⟨⟩

set_option maxHeartbeats 4000000 in
theorem sound_first (x : Vec F S256x2560 .bf16) {α : Type} (k : PUnit.{1} → Prog (TpuEff nD τ sig (Elt F) Λ₀ .tc) α) (K : α → sProp 𝕄) :
    iprop(owns (c : Thread nD τ) arg7 fullShare x ∗ (∃ d, owns (c : Thread nD τ) arg14 fullShare d) ∗ (∃ d, owns (c : Thread nD τ) arg15 fullShare d)
        ∗ (iprop(owns (c : Thread nD τ) arg7 fullShare x ∗ owns (c : Thread nD τ) arg14 fullShare (qtile x) ∗ owns (c : Thread nD τ) arg15 fullShare (stile x))
            -∗ wp frame (wpE (defs₀ (F := F)) Variants.none c none) E (k ⟨⟩) K))
      ⊢ wp frame (wpE (defs₀ (F := F)) Variants.none c none) E (firstProg b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k) K := by
  unfold firstProg
  simp only [k0_part13_eq_skeleton]; unfold k0_part13_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f7, %hf7, H7⟩, ⟨%d14, %f14, -, H14⟩, ⟨%d15, %f15, -, H15⟩, Hk⟩
  subst hf7
  sl_exec
  iapply Hk
  isplitl [H7]
  · iexists f7; isplitr; · ipureintro; rfl
    iexact H7
  isplitl [H14]
  · iexists _; isplitr
    swap; · iexact H14
    ipureintro
    refine (View.read_writes_eq_canon _ _ _ (cover_q _ _ _ _ _ _ _ _)).trans ?_
    rfl
  iexists _; isplitr
  swap; · iexact H15
  ipureintro
  refine (View.read_writes_eq_canon _ _ _ (cover_s _ _ _ _ _ _ _ _)).trans ?_
  rfl

/-- The branch of a tile's last item: the output blocks are written. -/
abbrev lastProg {α : Type} (k : PUnit.{1} → Prog (TpuEff nD τ sig (Elt F) Λ₀ .tc) α) : Prog (TpuEff nD τ sig (Elt F) Λ₀ .tc) α := do
  let v679 : FVec F S32x1024 .fp8e5m2 ← k0_part29 b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v680 : Vec F S1x32x1024 .fp8e5m2 ← Prog.lift (.load arg12 (Rect.unit (s := S2x256x1024) ![1, 224, 0] S1x32x1024.size inb_S2x256x1024_S1x32x1024_1_224_0).toLoadRect (View.loadsAt_vmem h_S1x32x1024))
  Prog.lift (.store arg12 (Rect.unit (s := S2x256x1024) ![1, 224, 0] S1x32x1024.size inb_S2x256x1024_S1x32x1024_1_224_0) (k0_pay1 v679) Finset.univ (View.stores_vmem h_S1x32x1024 (harg12.storeExact_slice rfl _ packedfp8e5m2_S2x256x1024_S1x32x1024_1_224_0) (fun _ => rfl)) (.inl rfl))
  k ⟨⟩

set_option maxHeartbeats 4000000 in
theorem sound_last (h : Vec F S256x1024 .f32) (g u : Vec F S256x1024 .bf16) {α : Type} (k : PUnit.{1} → Prog (TpuEff nD τ sig (Elt F) Λ₀ .tc) α) (K : α → sProp 𝕄) :
    iprop(owns (c : Thread nD τ) arg10 fullShare g ∗ owns (c : Thread nD τ) arg11 fullShare u ∗ owns (c : Thread nD τ) arg16 fullShare h
        ∗ (∃ d, owns (c : Thread nD τ) arg12 fullShare d) ∗ (∃ d, owns (c : Thread nD τ) arg13 fullShare d)
        ∗ (iprop(owns (c : Thread nD τ) arg10 fullShare g ∗ owns (c : Thread nD τ) arg11 fullShare u ∗ owns (c : Thread nD τ) arg16 fullShare h
              ∗ owns (c : Thread nD τ) arg12 fullShare (otile h g u) ∗ owns (c : Thread nD τ) arg13 fullShare (sctile h g u))
            -∗ wp frame (wpE (defs₀ (F := F)) Variants.none c none) E (k ⟨⟩) K))
      ⊢ wp frame (wpE (defs₀ (F := F)) Variants.none c none) E (lastProg b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k) K := by
  unfold lastProg
  simp only [k0_part29_eq_skeleton]; unfold k0_part29_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f10, %hf10, H10⟩, ⟨%f11, %hf11, H11⟩, ⟨%f16, %hf16, H16⟩, ⟨%d12, %f12, -, H12⟩, ⟨%d13, %f13, -, H13⟩, Hk⟩
  subst hf10 hf11 hf16
  sl_exec
  iapply Hk
  isplitl [H10]
  · iexists f10; isplitr; · ipureintro; rfl
    iexact H10
  isplitl [H11]
  · iexists f11; isplitr; · ipureintro; rfl
    iexact H11
  isplitl [H16]
  · iexists f16; isplitr; · ipureintro; rfl
    iexact H16
  isplitl [H12]
  · iexists _; isplitr
    swap; · iexact H12
    ipureintro
    refine (View.read_writes_eq_canon _ _ _ (cover_o _ _ _ _ _ _ _ _ _ _ _ _ _ _ _ _)).trans ?_
    rfl
  iexists _; isplitr
  swap; · iexact H13
  ipureintro
  refine (View.read_writes_eq_canon _ _ _ (cover_c _ _ _ _ _ _ _ _)).trans ?_
  rfl

/-- The word of a table at the item's position. -/
abbrev wordAt (t : Vec F S63 .i32) (arg0 : BitVec 32) (h : k0_chk1 arg0) : BitVec 32 :=
  View.ld t (Rect.unit (s := S63) (k0_off3 arg0) S1.size (k0_off3_inb arg0 h)) (Shape.Idx.first (s := S1) (numel1_S1.symm ▸ Nat.one_pos))

theorem zero2 (a : Fin 2) : (![0, 0] : Fin 2 → ℕ) a = 0 := by fin_cases a <;> rfl

theorem zero3 (a : Fin 3) : (![0, 0, 0] : Fin 3 → ℕ) a = 0 := by fin_cases a <;> rfl

theorem first_iff (x : BitVec 32) : Scalar.cmpi CmpIPredicate.ne (Scalar.extui (Scalar.cmpi CmpIPredicate.eq x 1#32) : BitVec 32) 0#32 = 1#1 ↔ x = 1#32 := by
  by_cases h : x = 1#32
  · subst h; decide
  · have h' : Scalar.cmpi CmpIPredicate.eq x 1#32 = 0#1 := by
      show BitVec.ofBool (x == 1#32) = 0#1
      rw [beq_eq_false_iff_ne.mpr h]; rfl
    rw [h']; simp [h]; decide

/-- The rectangle of a whole buffer leaves positions alone. -/
theorem idx_whole {s : Shape} (off : Fin s.rank → ℕ) (hoff : ∀ a, off a = 0) (inb : ∀ a, off a + s.size a ≤ s.size a) (x : s.Idx) :
    (Rect.unit (s := s) off s.size inb).idx x = x := by
  funext a; apply Fin.ext
  show off a + 1 * (x a).val = _
  rw [hoff, Nat.zero_add, Nat.one_mul]

/-- A store of a whole buffer leaves the value stored. -/
theorem read_writes_whole {sp : Space} {s : Shape} {e : EltTy} (v : View sig .tc sp s e) (f : v.ty.Contents (Elt F)) (off : Fin s.rank → ℕ) (hoff : ∀ a, off a = 0)
    {inb : ∀ a, off a + s.size a ≤ s.size a} (p : s.Idx → Elt F e) :
    v.read (Elt F) (v.writes (Elt F) f [⟨Rect.unit (s := s) off s.size inb, p⟩]) = p := by
  have hcov : ∀ y : s.Idx, y ∈ (Rect.unit (s := s) off s.size inb).set := fun y => by
    have := (Rect.unit (s := s) off s.size inb).idx_mem y
    rwa [idx_whole off hoff inb y] at this
  refine (View.read_writes_eq_canon v f _ fun y => ⟨_, List.mem_singleton_self _, hcov y⟩).trans ?_
  funext y
  have h := View.canon_cons_emb (Val := Elt F) (Rect.unit (s := s) off s.size inb) p [] y
  have e : (Rect.unit (s := s) off s.size inb).emb y = y := idx_whole off hoff inb y
  rwa [e] at h

/-- A load of a whole buffer is what it holds. -/
theorem readAt_whole {sp : Space} {s : Shape} {e : EltTy} (v : View sig .tc sp s e) (f : v.ty.Contents (Elt F)) (off : Fin s.rank → ℕ) (hoff : ∀ a, off a = 0)
    {inb : ∀ a, off a + s.size a ≤ s.size a} :
    v.readAt (Elt F) (Rect.unit (s := s) off s.size inb).toLoadRect f = v.read (Elt F) f := by
  rw [View.readAt_eq_ld]
  funext y
  exact congrArg (v.read (Elt F) f) (idx_whole off hoff inb y)

set_option maxHeartbeats 400000 in
theorem sound_item (q : PosShare TreeShare) (t1 t3 t4 t5 : Vec F S63 .i32) (hchk : k0_chk1 arg0)
    (x : Vec F S256x2560 .bf16) (w : Vec F S1x1024x2560 .fp8e4m3) (ws : Vec F S1x1x1024 .f32)
    (q0 : Vec F S256x2560 .fp8e5m2) (s0 : Vec F S256x128 .f32) (h0 : Vec F S256x1024 .f32)
    (q1 : Vec F S256x2560 .fp8e5m2) (s1 : Vec F S256x128 .f32)
    (hq1 : q1 = if wordAt t5 arg0 hchk = 1#32 then qtile x else q0) (hs1 : s1 = if wordAt t5 arg0 hchk = 1#32 then stile x else s0)
    (K : PLift (k0_chk1 arg0) → sProp 𝕄) :
    iprop(owns (c : Thread nD τ) arg1 q t1 ∗ owns (c : Thread nD τ) arg3 q t3 ∗ owns (c : Thread nD τ) arg4 q t4 ∗ owns (c : Thread nD τ) arg5 q t5
        ∗ owns (c : Thread nD τ) arg7 fullShare x ∗ owns (c : Thread nD τ) arg8 fullShare w ∗ owns (c : Thread nD τ) arg9 fullShare ws
        ∗ owns (c : Thread nD τ) arg14 fullShare q0 ∗ owns (c : Thread nD τ) arg15 fullShare s0 ∗ owns (c : Thread nD τ) arg16 fullShare h0
        ∗ (iprop(owns (c : Thread nD τ) arg1 q t1 ∗ owns (c : Thread nD τ) arg3 q t3 ∗ owns (c : Thread nD τ) arg4 q t4 ∗ owns (c : Thread nD τ) arg5 q t5
            ∗ owns (c : Thread nD τ) arg7 fullShare x ∗ owns (c : Thread nD τ) arg8 fullShare w ∗ owns (c : Thread nD τ) arg9 fullShare ws
            ∗ owns (c : Thread nD τ) arg14 fullShare q1 ∗ owns (c : Thread nD τ) arg15 fullShare s1
            ∗ owns (c : Thread nD τ) arg16 fullShare (hstep q1 s1 w ws (wordAt t1 arg0 hchk) (wordAt t3 arg0 hchk) (wordAt t4 arg0 hchk) h0)) -∗ K ⟨hchk⟩))
      ⊢ wp frame (wpE (defs₀ (F := F)) Variants.none c none) E (k0_part30 b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part30_eq_skeleton]; unfold k0_part30_skel
  simp only [k0_part13_eq_skeleton]; unfold k0_part13_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold smemLoad smemLoadElt owns
  iintro ⟨⟨%f1, %hf1, H1⟩, ⟨%f3, %hf3, H3⟩, ⟨%f4, %hf4, H4⟩, ⟨%f5, %hf5, H5⟩, ⟨%f7, %hf7, H7⟩, ⟨%f8, %hf8, H8⟩, ⟨%f9, %hf9, H9⟩, ⟨%f14, %hf14, H14⟩, ⟨%f15, %hf15, H15⟩, ⟨%f16, %hf16, H16⟩, Hk⟩
  subst hf1 hf3 hf4 hf5 hf7 hf8 hf9 hf14 hf15 hf16
  sl_exec
  rw [wp_ret]
  imodintro
  iapply Hk
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  have hv := first_iff (wordAt (View.read (Elt F) arg5.view f5) arg0 hchk)
  isplitl [H14]
  · iexists _; isplitr
    swap; · iexact H14
    ipureintro
    subst hq1
    by_cases hw : wordAt (View.read (Elt F) arg5.view f5) arg0 hchk = 1#32
    · rw [if_pos hw]
      refine (congrArg (View.read (Elt F) arg14.view) (dif_pos (hv.mpr hw))).trans ?_
      refine (View.read_writes_eq_canon _ _ _ (cover_q _ _ _ _ _ _ _ _)).trans ?_
      rfl
    · rw [if_neg hw]
      exact congrArg (View.read (Elt F) arg14.view) (dif_neg (fun h => hw (hv.mp h)))
  isplitl [H15]
  · iexists _; isplitr
    swap; · iexact H15
    ipureintro
    subst hs1
    by_cases hw : wordAt (View.read (Elt F) arg5.view f5) arg0 hchk = 1#32
    · rw [if_pos hw]
      refine (congrArg (View.read (Elt F) arg15.view) (dif_pos (hv.mpr hw))).trans ?_
      refine (View.read_writes_eq_canon _ _ _ (cover_s _ _ _ _ _ _ _ _)).trans ?_
      rfl
    · rw [if_neg hw]
      exact congrArg (View.read (Elt F) arg15.view) (dif_neg (fun h => hw (hv.mp h)))
  iexists _; isplitr
  swap; · iexact H16
  ipureintro
  refine (read_writes_whole (s := S256x1024) arg16.view f16 ![0, 0] zero2 _).trans ?_
  have hv5 : sound_item.sl.v5 c arg0 arg5 arg7 arg14 hchk f5 f7 f14 = q1 := by
    refine (readAt_whole (s := S256x2560) arg14.view _ ![0, 0] zero2).trans ?_
    subst hq1
    by_cases hw : wordAt (View.read (Elt F) arg5.view f5) arg0 hchk = 1#32
    · rw [if_pos hw]
      refine (congrArg (View.read (Elt F) arg14.view) (dif_pos (hv.mpr hw))).trans ?_
      refine (View.read_writes_eq_canon _ _ _ (cover_q _ _ _ _ _ _ _ _)).trans ?_
      rfl
    · rw [if_neg hw]
      exact congrArg (View.read (Elt F) arg14.view) (dif_neg (fun h => hw (hv.mp h)))
  have hv24 : sound_item.sl.v24 c arg0 arg5 arg7 arg15 hchk f5 f7 f15 = View.ld s1 (Rect.unit (s := S256x128) ![0, 0] S256x1.size inb_S256x128_S256x1_0_0) := by
    refine congrArg (fun z => View.ld z (Rect.unit (s := S256x128) ![0, 0] S256x1.size inb_S256x128_S256x1_0_0)) (a₁ := View.read (Elt F) arg15.view _) ?_
    subst hs1
    by_cases hw : wordAt (View.read (Elt F) arg5.view f5) arg0 hchk = 1#32
    · rw [if_pos hw]
      refine (congrArg (View.read (Elt F) arg15.view) (dif_pos (hv.mpr hw))).trans ?_
      refine (View.read_writes_eq_canon _ _ _ (cover_s _ _ _ _ _ _ _ _)).trans ?_
      rfl
    · rw [if_neg hw]
      exact congrArg (View.read (Elt F) arg15.view) (dif_neg (fun h => hw (hv.mp h)))
  have h8 := readAt_whole (F := F) (s := S1x1024x2560) arg8.view f8 ![0, 0, 0] zero3 (inb := inb_S1x1024x2560_S1x1024x2560_0_0_0)
  have h9 := readAt_whole (F := F) (s := S1x1x1024) arg9.view f9 ![0, 0, 0] zero3 (inb := inb_S1x1x1024_S1x1x1024_0_0_0)
  have h16 := readAt_whole (F := F) (s := S256x1024) arg16.view f16 ![0, 0] zero2 (inb := inb_S256x1024_S256x1024_0_0)
  unfold hstep
  rw [← h8, ← h9, ← h16, ← hv5, ← hv24]
  rfl

set_option maxHeartbeats 400000 in
/-- The whole body at one item: the scratch buffers step, and at a tile's last item the output blocks are written. -/
theorem sound_kernel (q : PosShare TreeShare) (t1 t3 t4 t5 t6 : Vec F S63 .i32) (hchk : k0_chk1 arg0)
    (x : Vec F S256x2560 .bf16) (w : Vec F S1x1024x2560 .fp8e4m3) (ws : Vec F S1x1x1024 .f32) (g u : Vec F S256x1024 .bf16)
    (q0 : Vec F S256x2560 .fp8e5m2) (s0 : Vec F S256x128 .f32) (h0 : Vec F S256x1024 .f32)
    (o0 : Vec F S2x256x1024 .fp8e5m2) (c0 : Vec F S256x1 .f32)
    (q1 : Vec F S256x2560 .fp8e5m2) (s1 : Vec F S256x128 .f32)
    (hq1 : q1 = if wordAt t5 arg0 hchk = 1#32 then qtile x else q0) (hs1 : s1 = if wordAt t5 arg0 hchk = 1#32 then stile x else s0)
    (K : PUnit.{1} → sProp 𝕄) :
    iprop(owns (c : Thread nD τ) arg1 q t1 ∗ owns (c : Thread nD τ) arg3 q t3 ∗ owns (c : Thread nD τ) arg4 q t4 ∗ owns (c : Thread nD τ) arg5 q t5 ∗ owns (c : Thread nD τ) arg6 q t6
        ∗ owns (c : Thread nD τ) arg7 fullShare x ∗ owns (c : Thread nD τ) arg8 fullShare w ∗ owns (c : Thread nD τ) arg9 fullShare ws ∗ owns (c : Thread nD τ) arg10 fullShare g ∗ owns (c : Thread nD τ) arg11 fullShare u
        ∗ owns (c : Thread nD τ) arg14 fullShare q0 ∗ owns (c : Thread nD τ) arg15 fullShare s0 ∗ owns (c : Thread nD τ) arg16 fullShare h0 ∗ owns (c : Thread nD τ) arg12 fullShare o0 ∗ owns (c : Thread nD τ) arg13 fullShare c0
        ∗ (iprop(owns (c : Thread nD τ) arg1 q t1 ∗ owns (c : Thread nD τ) arg3 q t3 ∗ owns (c : Thread nD τ) arg4 q t4 ∗ owns (c : Thread nD τ) arg5 q t5 ∗ owns (c : Thread nD τ) arg6 q t6
            ∗ owns (c : Thread nD τ) arg7 fullShare x ∗ owns (c : Thread nD τ) arg8 fullShare w ∗ owns (c : Thread nD τ) arg9 fullShare ws ∗ owns (c : Thread nD τ) arg10 fullShare g ∗ owns (c : Thread nD τ) arg11 fullShare u
            ∗ owns (c : Thread nD τ) arg14 fullShare q1 ∗ owns (c : Thread nD τ) arg15 fullShare s1 ∗ owns (c : Thread nD τ) arg16 fullShare (hstep q1 s1 w ws (wordAt t1 arg0 hchk) (wordAt t3 arg0 hchk) (wordAt t4 arg0 hchk) h0) ∗ owns (c : Thread nD τ) arg12 fullShare (if k0_cond2 (wordAt t6 arg0 hchk) = 1#1 then otile (hstep q1 s1 w ws (wordAt t1 arg0 hchk) (wordAt t3 arg0 hchk) (wordAt t4 arg0 hchk) h0) g u else o0) ∗ owns (c : Thread nD τ) arg13 fullShare (if k0_cond2 (wordAt t6 arg0 hchk) = 1#1 then sctile (hstep q1 s1 w ws (wordAt t1 arg0 hchk) (wordAt t3 arg0 hchk) (wordAt t4 arg0 hchk) h0) g u else c0))
            -∗ K ⟨⟩))
      ⊢ wp frame (wpE (defs₀ (F := F)) Variants.none c none) E (cc0_dgrad b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dgrad_eq_skeleton]; unfold cc0_dgrad_skel
  rw [wp_bind]
  iintro ⟨H1, H3, H4, H5, H6, H7, H8, H9, H10, H11, H14, H15, H16, H12, H13, Hk⟩
  iapply (sound_item c E b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 q t1 t3 t4 t5 hchk x w ws q0 s0 h0 q1 s1 hq1 hs1 _)
  isplitl [H1]; · iexact H1
  isplitl [H3]; · iexact H3
  isplitl [H4]; · iexact H4
  isplitl [H5]; · iexact H5
  isplitl [H7]; · iexact H7
  isplitl [H8]; · iexact H8
  isplitl [H9]; · iexact H9
  isplitl [H14]; · iexact H14
  isplitl [H15]; · iexact H15
  isplitl [H16]; · iexact H16
  iintro ⟨H1, H3, H4, H5, H7, H8, H9, H14, H15, H16⟩
  simp only [k0_part29_eq_skeleton]; unfold k0_part29_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold smemLoad smemLoadElt owns
  generalize (hstep q1 s1 w ws (wordAt t1 arg0 hchk) (wordAt t3 arg0 hchk) (wordAt t4 arg0 hchk) h0) = h1
  icases H6 with ⟨%f6, %hf6, H6⟩
  icases H10 with ⟨%f10, %hf10, H10⟩
  icases H11 with ⟨%f11, %hf11, H11⟩
  icases H12 with ⟨%f12, %hf12, H12⟩
  icases H13 with ⟨%f13, %hf13, H13⟩
  icases H16 with ⟨%f16, %hf16, H16⟩
  subst hf6 hf10 hf11 hf12 hf13 hf16
  sl_exec
  rw [wp_ret]
  imodintro
  iapply Hk
  isplitl [H1]; · iexact H1
  isplitl [H3]; · iexact H3
  isplitl [H4]; · iexact H4
  isplitl [H5]; · iexact H5
  isplitl [H6]
  · iexists f6; isplitr; · ipureintro; rfl
    iexact H6
  isplitl [H7]; · iexact H7
  isplitl [H8]; · iexact H8
  isplitl [H9]; · iexact H9
  isplitl [H10]
  · iexists f10; isplitr; · ipureintro; rfl
    iexact H10
  isplitl [H11]
  · iexists f11; isplitr; · ipureintro; rfl
    iexact H11
  isplitl [H14]; · iexact H14
  isplitl [H15]; · iexact H15
  isplitl [H16]
  · iexists f16; isplitr; · ipureintro; rfl
    iexact H16
  isplitl [H12]
  · iexists _; isplitr
    swap; · iexact H12
    ipureintro
    by_cases hw : k0_cond2 (wordAt (View.read (Elt F) arg6.view f6) arg0 hchk) = 1#1
    · rw [if_pos hw]
      refine (congrArg (View.read (Elt F) arg12.view) (dif_pos hw)).trans ?_
      refine (View.read_writes_eq_canon _ _ _ (cover_o _ _ _ _ _ _ _ _ _ _ _ _ _ _ _ _)).trans ?_
      rfl
    · rw [if_neg hw]
      exact congrArg (View.read (Elt F) arg12.view) (dif_neg hw)
  iexists _; isplitr
  swap; · iexact H13
  ipureintro
  by_cases hw : k0_cond2 (wordAt (View.read (Elt F) arg6.view f6) arg0 hchk) = 1#1
  · rw [if_pos hw]
    refine (congrArg (View.read (Elt F) arg13.view) (dif_pos hw)).trans ?_
    refine (View.read_writes_eq_canon _ _ _ (cover_c _ _ _ _ _ _ _ _)).trans ?_
    rfl
  · rw [if_neg hw]
    exact congrArg (View.read (Elt F) arg13.view) (dif_neg hw)

end Cert.KernelIdeal.Hand

end
-- ==== Proof.KernelIdeal.Adm.lean ====
/-
  The item tables as the region reads them: their contents at the launch's group sizes, the side condition the
  region checks of them (the grid's bound, every window's block inside its array), and the words the kernel's
  function and the windows' index maps read at a grid point.
-/
module

public import proofs.«01_k».proof.Proof.KernelIdeal.Words
public import proofs.«01_k».proof.Proof.KernelIdeal.Body

@[expose] public section

set_option maxRecDepth 16384

noncomputable section

namespace Cert.KernelIdeal.Hand

open Idealize.ShloMosaic Idealize.ShloMosaic.ValueIdx
open Cert.KernelIdeal.Gen Cert.Plan

attribute [local irreducible] Host.reduceWindow Host.reduce Host.gather concatenate
attribute [local irreducible] nT tileT expT loT hiT firstT lastT

variable {F : FTy → Type} [FloatOps F] (gs : IVec S40 32)

/-- The tables' contents: the number of items, then each item's row tile, expert, first and end row, and whether it
    is the first and the last item of its tile. -/
def pfN : pre0.Contents (Elt F) := fun
  | ⟨0, _⟩ => nT gs
  | ⟨1, _⟩ => tileT gs
  | ⟨2, _⟩ => expT gs
  | ⟨3, _⟩ => loT gs
  | ⟨4, _⟩ => hiT gs
  | ⟨5, _⟩ => firstT gs
  | ⟨6, _⟩ => lastT gs
  | ⟨_ + 7, h⟩ => absurd h (Nat.not_lt.2 (Nat.le_add_left _ _))

theorem cast_word (k : ℕ) (hk : k < 63) : (Scalar.indexCast (BitVec.ofNat 32 k)).toNat = k := by
  show (BitVec.ofNat 32 k).toNat = k
  rw [BitVec.toNat_ofNat, Nat.mod_eq_of_lt (by omega)]

theorem chk (k : ℕ) (hk : k < 63) : k0_chk1 (BitVec.ofNat 32 k) := by
  constructor
  · intro a
    obtain rfl : a = 0 := Subsingleton.elim _ _
    show (Scalar.indexCast (BitVec.ofNat 32 k)).toNat + 1 ≤ 63
    rw [cast_word k hk]; omega
  · intro a
    obtain rfl : a = 0 := Subsingleton.elim _ _
    show (Scalar.indexCast (BitVec.ofNat 32 k)).toNat + 1 ≤ 63
    rw [cast_word k hk]; omega

/-- The word the kernel's function reads of a table at point `k` is the table's entry `k`. -/
theorem wordAt_eq (t : Vec F S63 .i32) (k : ℕ) (hk : k < 63) (h : k0_chk1 (BitVec.ofNat 32 k)) :
    wordAt t (BitVec.ofNat 32 k) h = t (ix1 (⟨k, hk⟩ : Fin 63)) := by
  refine congrArg t (funext fun a => Fin.ext ?_)
  obtain rfl : a = 0 := Subsingleton.elim _ _
  have h0 : ∀ y : Fin 1, (Scalar.indexCast (BitVec.ofNat 32 k)).toNat + 1 * y.val = k := fun y => by
    rw [cast_word k hk]; have := y.isLt; omega
  exact h0 _

/-- The same of the index maps' reads. -/
theorem atD_eq (pf : pre0.Contents (Elt F)) (j : Fin 7) (t : Vec F S63 .i32) (hj : j ≠ 0) (k : ℕ) (hk : k < 63)
    (off : Fin (pre0.ref j).ty.shape.rank → ℕ) (hoff : ∀ a, off a = k) (hs : ∀ a, (pre0.ref j).ty.shape.size a = 63)
    (f : ∀ a, Fin ((pre0.ref j).ty.shape.size a)) (hf : ∀ a, (f a).val = k) : pf.atD j off = pf j f := by
  unfold Pipeline.Prefetch.Contents.atD
  rw [dif_pos (fun a => by rw [hoff, hs]; omega)]
  exact congrArg (pf j) (funext fun a => Fin.ext ((hoff a).trans (hf a).symm))

theorem atD_tile (k : ℕ) (hk : k < 63) (off : Fin 1 → ℕ) (hoff : ∀ a, off a = k) :
    (pfN (F := F) gs).atD 1 off = tileT gs (ix1 (⟨k, hk⟩ : Fin 63)) :=
  atD_eq (pfN gs) 1 (tileT gs) (by decide) k hk off hoff (fun a => by obtain rfl : a = (0 : Fin 1) := Subsingleton.elim (α := Fin 1) _ _; rfl)
    (ix1 (⟨k, hk⟩ : Fin 63)) (fun a => by obtain rfl : a = (0 : Fin 1) := Subsingleton.elim (α := Fin 1) _ _; rfl)

theorem atD_exp (k : ℕ) (hk : k < 63) (off : Fin 1 → ℕ) (hoff : ∀ a, off a = k) :
    (pfN (F := F) gs).atD 2 off = expT gs (ix1 (⟨k, hk⟩ : Fin 63)) :=
  atD_eq (pfN gs) 2 (expT gs) (by decide) k hk off hoff (fun a => by obtain rfl : a = (0 : Fin 1) := Subsingleton.elim (α := Fin 1) _ _; rfl)
    (ix1 (⟨k, hk⟩ : Fin 63)) (fun a => by obtain rfl : a = (0 : Fin 1) := Subsingleton.elim (α := Fin 1) _ _; rfl)

theorem atD_last (k : ℕ) (hk : k < 63) (off : Fin 1 → ℕ) (hoff : ∀ a, off a = k) :
    (pfN (F := F) gs).atD 6 off = lastT gs (ix1 (⟨k, hk⟩ : Fin 63)) :=
  atD_eq (pfN gs) 6 (lastT gs) (by decide) k hk off hoff (fun a => by obtain rfl : a = (0 : Fin 1) := Subsingleton.elim (α := Fin 1) _ _; rfl)
    (ix1 (⟨k, hk⟩ : Fin 63)) (fun a => by obtain rfl : a = (0 : Fin 1) := Subsingleton.elim (α := Fin 1) _ _; rfl)

variable (hg : Good gs)

/-- The grid: one axis, of as many points as there are items. -/
abbrev gridN : Pipeline.Grid := grid0.at (dynb0 (pfN (F := F) gs))

include hg in
theorem bound_N : (gridN (F := F) gs).bound 0 = n (sz gs) := by
  refine (congrArg BitVec.toNat (nT_word gs hg _)).trans ?_
  rw [BitVec.toNat_ofNat, Nat.mod_eq_of_lt]
  have := n_le (sz gs) hg
  omega

include hg in
theorem N_eq : (gridN (F := F) gs).N = n (sz gs) := by
  have h : (gridN (F := F) gs).N = (gridN (F := F) gs).bound 0 := by
    show (List.ofFn (n := 1) _).prod = _
    simp
  rw [h, bound_N gs hg]

include hg in
theorem coord_lt (i : (gridN (F := F) gs).Coords) : (i 0).val < n (sz gs) := lt_of_lt_of_eq (i 0).isLt (bound_N gs hg)

include hg in
theorem coord_lt63 (i : (gridN (F := F) gs).Coords) : (i 0).val < 63 :=
  lt_of_lt_of_le (coord_lt gs hg i) (n_le (sz gs) hg)

include hg in
theorem coords_val (t : Fin (gridN (F := F) gs).N) : ((gridN (F := F) gs).coords t 0).val = t.val := by
  rw [Pipeline.Grid.coords_val (G := gridN (F := F) gs) t 0 (S := 1) (by show (List.ofFn (n := 1) _).prod = _; simp) (bound_N gs hg), Nat.div_one, Nat.mod_eq_of_lt]
  exact lt_of_lt_of_eq t.isLt (N_eq gs hg)

include hg in
theorem tile_nat (i : (gridN (F := F) gs).Coords) (off : Fin 1 → ℕ) (hoff : ∀ a, off a = (i 0).val) :
    ((pfN (F := F) gs).atD 1 off).toNat = tile (sz gs) (i 0).val := by
  have h := tile_lt (sz gs) hg (coord_lt gs hg i)
  rw [atD_tile gs _ (coord_lt63 gs hg i) off hoff, tileT_word gs hg]
  show (BitVec.ofNat 32 (tile (sz gs) (i 0).val)).toNat = _
  rw [BitVec.toNat_ofNat, Nat.mod_eq_of_lt (by omega)]

include hg in
theorem exp_nat (i : (gridN (F := F) gs).Coords) (off : Fin 1 → ℕ) (hoff : ∀ a, off a = (i 0).val) :
    ((pfN (F := F) gs).atD 2 off).toNat = ex (sz gs) (i 0).val := by
  have h := (ex_le (sz gs) (i 0).val).1
  rw [atD_exp gs _ (coord_lt63 gs hg i) off hoff, expT_word gs hg]
  show (BitVec.ofNat 32 (ex (sz gs) (i 0).val)).toNat = _
  rw [BitVec.toNat_ofNat, Nat.mod_eq_of_lt (by omega)]

include hg in
theorem off_at (i : (gridN (F := F) gs).Coords) : ∀ a : Fin 1, (![(Scalar.indexCast (BitVec.ofNat 32 (i 0).val)).toNat] : Fin 1 → ℕ) a = (i 0).val := fun a => by
  obtain rfl : a = 0 := Subsingleton.elim _ _
  exact cast_word _ (coord_lt63 gs hg i)

section Maps
include hg
variable (i : (gridN (F := F) gs).Coords)

theorem map0 : cc0_transform_0 (pfN (F := F) gs) (dynb0 (pfN gs)) i = ![tile (sz gs) (i 0).val, 0] :=
  congrArg (fun x => ![x, 0]) (tile_nat gs hg i _ (off_at gs hg i))
theorem map1 : cc0_transform_1 (pfN (F := F) gs) (dynb0 (pfN gs)) i = ![ex (sz gs) (i 0).val, 0, 0] :=
  congrArg (fun x => ![x, 0, 0]) (exp_nat gs hg i _ (off_at gs hg i))
theorem map2 : cc0_transform_2 (pfN (F := F) gs) (dynb0 (pfN gs)) i = ![ex (sz gs) (i 0).val, 0, 0] :=
  congrArg (fun x => ![x, 0, 0]) (exp_nat gs hg i _ (off_at gs hg i))
theorem map3 : cc0_transform_3 (pfN (F := F) gs) (dynb0 (pfN gs)) i = ![tile (sz gs) (i 0).val, 0] :=
  congrArg (fun x => ![x, 0]) (tile_nat gs hg i _ (off_at gs hg i))
theorem map4 : cc0_transform_4 (pfN (F := F) gs) (dynb0 (pfN gs)) i = ![tile (sz gs) (i 0).val, 0] :=
  congrArg (fun x => ![x, 0]) (tile_nat gs hg i _ (off_at gs hg i))
theorem map5 : cc0_transform_5 (pfN (F := F) gs) (dynb0 (pfN gs)) i = ![0, tile (sz gs) (i 0).val, 0] :=
  congrArg (fun x => ![0, x, 0]) (tile_nat gs hg i _ (off_at gs hg i))
theorem map6 : cc0_transform_6 (pfN (F := F) gs) (dynb0 (pfN gs)) i = ![tile (sz gs) (i 0).val, 0] :=
  congrArg (fun x => ![x, 0]) (tile_nat gs hg i _ (off_at gs hg i))

end Maps

include hg in
/-- The side condition holds of these tables. -/
theorem ok_pfN : ok0 (F := F) (pfN gs) := by
  have hn := n_le (sz gs) hg
  unfold ok0
  refine ⟨?_, ?_, ?_, ?_, ?_, ?_, ?_, ?_, ?_⟩
  · show (gridN (F := F) gs).N + 2 < 2 ^ 31
    rw [N_eq gs hg]; omega
  · intro i a
    obtain rfl : a = 0 := Subsingleton.elim _ _
    have h := off_at gs hg i 0
    have h2 := coord_lt63 gs hg i
    show (Scalar.indexCast (BitVec.ofNat 32 (i 0).val)).toNat + 1 ≤ 63
    rw [cast_word _ h2]; omega
  · intro i
    rw [map0 gs hg i]
    have h := tile_lt (sz gs) hg (coord_lt gs hg i)
    refine ⟨fun a => ?_, .inr ?_⟩
    · fin_cases a
      · show (tile (sz gs) (i 0).val + 1) * 256 ≤ 6144; omega
      · show (0 + 1) * 2560 ≤ 2560; omega
    · refine .inl (.inr ⟨by decide, rfl, .inl ⟨?_, ?_⟩⟩)
      · show 2 ∣ tile (sz gs) (i 0).val * 256; omega
      · show 2 ∣ 256; decide
  · intro i
    rw [map1 gs hg i]
    have h := (ex_le (sz gs) (i 0).val).1
    refine ⟨fun a => ?_, .inr ?_⟩
    · fin_cases a
      · show (ex (sz gs) (i 0).val + 1) * 1 ≤ 40; omega
      · show (0 + 1) * 1024 ≤ 1024; omega
      · show (0 + 1) * 2560 ≤ 2560; omega
    · exact .inr ⟨by decide, rfl, rfl, rfl⟩
  · intro i
    rw [map2 gs hg i]
    have h := (ex_le (sz gs) (i 0).val).1
    refine ⟨fun a => ?_, .inl rfl⟩
    fin_cases a
    · show (ex (sz gs) (i 0).val + 1) * 1 ≤ 40; omega
    · show (0 + 1) * 1 ≤ 1; omega
    · show (0 + 1) * 1024 ≤ 1024; omega
  · intro i
    rw [map3 gs hg i]
    have h := tile_lt (sz gs) hg (coord_lt gs hg i)
    refine ⟨fun a => ?_, .inr ?_⟩
    · fin_cases a
      · show (tile (sz gs) (i 0).val + 1) * 256 ≤ 6144; omega
      · show (0 + 1) * 1024 ≤ 1024; omega
    · refine .inl (.inr ⟨by decide, rfl, .inl ⟨?_, ?_⟩⟩)
      · show 2 ∣ tile (sz gs) (i 0).val * 256; omega
      · show 2 ∣ 256; decide
  · intro i
    rw [map4 gs hg i]
    have h := tile_lt (sz gs) hg (coord_lt gs hg i)
    refine ⟨fun a => ?_, .inr ?_⟩
    · fin_cases a
      · show (tile (sz gs) (i 0).val + 1) * 256 ≤ 6144; omega
      · show (0 + 1) * 1024 ≤ 1024; omega
    · refine .inl (.inr ⟨by decide, rfl, .inl ⟨?_, ?_⟩⟩)
      · show 2 ∣ tile (sz gs) (i 0).val * 256; omega
      · show 2 ∣ 256; decide
  · intro i
    rw [map5 gs hg i]
    have h := tile_lt (sz gs) hg (coord_lt gs hg i)
    refine ⟨fun a => ?_, .inr ?_⟩
    · fin_cases a
      · show (0 + 1) * 2 ≤ 2; omega
      · show (tile (sz gs) (i 0).val + 1) * 256 ≤ 6144; omega
      · show (0 + 1) * 1024 ≤ 1024; omega
    · refine .inl (.inr ⟨by decide, rfl, .inl ⟨?_, ?_⟩⟩)
      · show 4 ∣ tile (sz gs) (i 0).val * 256; omega
      · show 4 ∣ 256; decide
  · intro i
    rw [map6 gs hg i]
    have h := tile_lt (sz gs) hg (coord_lt gs hg i)
    refine ⟨fun a => ?_, .inl rfl⟩
    fin_cases a
    · show (tile (sz gs) (i 0).val + 1) * 256 ≤ 6144; omega
    · show (0 + 1) * 1 ≤ 1; omega

/-- The admissible contents the region is run at. -/
def adm : (pcfg0 (F := F)).Adm := ⟨pfN gs, ok_pfN gs hg⟩

/-- The pipeline there. -/
abbrev cfgA : Pipeline.Cfg sig Λ₀ := cfg0 (adm (F := F) gs hg)

theorem k0_cond2_iff (x : BitVec 32) : k0_cond2 x = 1#1 ↔ x = 1#32 := first_iff x

theorem cN_eq : (cfgA (F := F) gs hg).N = n (sz gs) := N_eq gs hg

theorem lt_n (t : Fin (cfgA (F := F) gs hg).N) : t.val < n (sz gs) := lt_of_lt_of_eq t.isLt (cN_eq gs hg)
theorem lt_63 (t : Fin (cfgA (F := F) gs hg).N) : t.val < 63 := lt_of_lt_of_le (lt_n gs hg t) (n_le (sz gs) hg)

end Cert.KernelIdeal.Hand

end
-- ==== Proof.KernelIdeal.Tile.lean ====
/-
  The row tiles: a tile's 256 rows of `dy`, `g` and `u`, its tile of `dh` (each row by its own group's weights), and
  what one item does to the `dh` scratch.
-/
module

public import proofs.«01_k».proof.Proof.KernelIdeal.Adm

@[expose] public section

set_option maxRecDepth 16384

noncomputable section

namespace Cert.KernelIdeal.Hand

open Idealize.ShloMosaic Idealize.ShloMosaic.ValueIdx Idealize.ShloMosaic.WordCmp
open Cert.KernelIdeal.Gen Cert.Plan

attribute [local irreducible] Host.reduceWindow Host.reduce Host.gather concatenate
attribute [local irreducible] nT tileT expT loT hiT firstT lastT

variable {F : FTy → Type} [FloatOps F]

/-- Rows `256 k` and on of `dy`; -/
def rows (X : Vec F S6144x2560 .bf16) (k : ℕ) : Vec F S256x2560 .bf16 := fun j =>
  X (ix2 (⟨(k * 256 + (j 0).val) % 6144, Nat.mod_lt _ (by decide)⟩ : Fin 6144) (⟨(j 1).val, (j 1).isLt⟩ : Fin 2560))
/-- of `g` or `u`; -/
def rowsG (X : Vec F S6144x1024 .bf16) (k : ℕ) : Vec F S256x1024 .bf16 := fun j =>
  X (ix2 (⟨(k * 256 + (j 0).val) % 6144, Nat.mod_lt _ (by decide)⟩ : Fin 6144) (⟨(j 1).val, (j 1).isLt⟩ : Fin 1024))
/-- group `e`'s weights; -/
def wOf (X : Vec F S40x1024x2560 .fp8e4m3) (e : ℕ) : Vec F S1x1024x2560 .fp8e4m3 := fun j =>
  X (ix3 (⟨e % 40, Nat.mod_lt _ (by decide)⟩ : Fin 40) (⟨(j 1).val, (j 1).isLt⟩ : Fin 1024) (⟨(j 2).val, (j 2).isLt⟩ : Fin 2560))
/-- and their scales. -/
def wsOf (X : Vec F S40x1x1024 .f32) (e : ℕ) : Vec F S1x1x1024 .f32 := fun j =>
  X (ix3 (⟨e % 40, Nat.mod_lt _ (by decide)⟩ : Fin 40) (⟨(j 1).val, (j 1).isLt⟩ : Fin 1) (⟨(j 2).val, (j 2).isLt⟩ : Fin 1024))

/-- 256 rows of codes times a group's weights, each product scaled by its row's scale and its column's. -/
def accv (q : Vec F S256x2560 .fp8e5m2) (s : Vec F S256x128 .f32) (w : Vec F S1x1024x2560 .fp8e4m3) (ws : Vec F S1x1x1024 .f32) : FVec F S256x1024 .f32 :=
  mulf (mulf (matmul dot_S256x2560_S1024x2560_S256x1024_1_1_0_0_n_n none q (shapeCast S1024x2560 w shapeCasts_S1x1024x2560_S1024x2560) (constant S256x1024 .f32 0x00000000#32))
      (broadcastTo S256x1024 (View.ld s (Rect.unit (s := S256x128) ![0, 0] S256x1.size inb_S256x128_S256x1_0_0)) broadcasts_S256x1_S256x1024))
    (broadcastTo S256x1024 (shapeCast S1x1024 ws shapeCasts_S1x1x1024_S1x1024) broadcasts_S1x1024_S256x1024)

/-- The tile of `dh`: row `r`, of the group `eid r` it belongs to. -/
def dhTile (X : Vec F S6144x2560 .bf16) (W : Vec F S40x1024x2560 .fp8e4m3) (WS : Vec F S40x1x1024 .f32) (s : ℕ → ℕ) (k : ℕ) : Vec F S256x1024 .f32 := fun j =>
  accv (qtile (rows X k)) (stile (rows X k)) (wOf W (eid s (k * 256 + (j 0).val))) (wsOf WS (eid s (k * 256 + (j 0).val))) j

/-- One item, at an element: its rows from the product, the others kept. -/
theorem hstep_at (q : Vec F S256x2560 .fp8e5m2) (s : Vec F S256x128 .f32) (w : Vec F S1x1024x2560 .fp8e4m3) (ws : Vec F S1x1x1024 .f32)
    (T L H : ℕ) (hT : T < 24) (hL : L ≤ 6144) (hH : H ≤ 6144) (h : Vec F S256x1024 .f32) (j : S256x1024.Idx) :
    hstep q s w ws (BitVec.ofNat 32 T) (BitVec.ofNat 32 L) (BitVec.ofNat 32 H) h j
      = if L ≤ T * 256 + (j 0).val ∧ T * 256 + (j 0).val < H then accv q s w ws j else h j := by
  have hj : (j 0).val < 256 := (j 0).isLt
  have e1 : hstep q s w ws (BitVec.ofNat 32 T) (BitVec.ofNat 32 L) (BitVec.ofNat 32 H) h j
      = Scalar.select (broadcastTo S256x1024 (shapeCast S256x1 (andi (cmpi .sge (addi (broadcast S256x1 (Scalar.muli (BitVec.ofNat 32 T) 256#32)) (iota .tc S256x1 32 [0] iota_S256x1_d0_w32)) (broadcast S256x1 (BitVec.ofNat 32 L)))
          (cmpi .slt (addi (broadcast S256x1 (Scalar.muli (BitVec.ofNat 32 T) 256#32)) (iota .tc S256x1 32 [0] iota_S256x1_d0_w32)) (broadcast S256x1 (BitVec.ofNat 32 H)))) shapeCasts_S256x1_S256x1) broadcasts_S256x1_S256x1024 j)
        (accv q s w ws j) (h j) := by
    unfold hstep k0_pay140 accv
    dsimp only
    rw [shapeCast_self (s := S256x1024)]
    rfl
  rw [e1, shapeCast_self, broadcastTo_apply _ _ j (ix2 (⟨(j 0).val, hj⟩ : Fin 256) (0 : Fin 1)) (by
    intro a; fin_cases a <;> rfl)]
  have e2 : ∀ y : BitVec 1, Scalar.select y (accv q s w ws j) (h j) = if y = 1#1 then accv q s w ws j else h j := fun y => rfl
  rw [e2]
  have e3 : (addi (broadcast S256x1 (Scalar.muli (BitVec.ofNat 32 T) 256#32)) (iota .tc S256x1 32 [0] iota_S256x1_d0_w32)) (ix2 (⟨(j 0).val, hj⟩ : Fin 256) (0 : Fin 1)) = BitVec.ofNat 32 (T * 256 + (j 0).val) := by
    show BitVec.ofNat 32 T * 256#32 + BitVec.ofNat 32 (0 * 256 + (j 0).val) = _
    rw [Nat.zero_mul, Nat.zero_add]
    apply BitVec.eq_of_toNat_eq
    simp [BitVec.toNat_add, BitVec.toNat_mul]
  refine if_congr ?_ rfl rfl
  rw [andi_at, cmpi_at, cmpi_at, e3]
  show IntOp.andi (IntOp.cmpi .sge (BitVec.ofNat 32 (T * 256 + (j 0).val)) (BitVec.ofNat 32 L)) (IntOp.cmpi .slt (BitVec.ofNat 32 (T * 256 + (j 0).val)) (BitVec.ofNat 32 H)) = 1#1 ↔ _
  rw [cmpi_sge_ofNat (by omega) (by omega), cmpi_slt_ofNat (by omega) (by omega)]
  by_cases a : L ≤ T * 256 + (j 0).val <;> by_cases b : T * 256 + (j 0).val < H <;> simp [a, b, IntOp.andi]

/-- The rows of a tile that the items up to one ending at row `e` have written. -/
def Upto (s : ℕ → ℕ) (X : Vec F S6144x2560 .bf16) (W : Vec F S40x1024x2560 .fp8e4m3) (WS : Vec F S40x1x1024 .f32) (k e : ℕ) (h : Vec F S256x1024 .f32) : Prop :=
  ∀ j : S256x1024.Idx, k * 256 + (j 0).val < e → h j = dhTile X W WS s k j

/-- What the scratch holds before item `i`: nothing is known before the first; afterwards the codes and scales of the
    last item's tile, and the tile's rows of `dh` up to that item's end. -/
def Known (s : ℕ → ℕ) (X : Vec F S6144x2560 .bf16) (W : Vec F S40x1024x2560 .fp8e4m3) (WS : Vec F S40x1x1024 .f32) (i : ℕ)
    (q : Vec F S256x2560 .fp8e5m2) (sc : Vec F S256x128 .f32) (h : Vec F S256x1024 .f32) : Prop :=
  i ≠ 0 → q = qtile (rows X (tile s (i - 1))) ∧ sc = stile (rows X (tile s (i - 1))) ∧ Upto s X W WS (tile s (i - 1)) (hi s (i - 1)) h

/-- One item keeps that. -/
theorem known_step (s : ℕ → ℕ) (hs : pre s 40 = 6144) (X : Vec F S6144x2560 .bf16) (W : Vec F S40x1024x2560 .fp8e4m3) (WS : Vec F S40x1x1024 .f32) (i : ℕ) (hi' : i < n s)
    (q q1 : Vec F S256x2560 .fp8e5m2) (sc s1 : Vec F S256x128 .f32) (h : Vec F S256x1024 .f32) (hK : Known s X W WS i q sc h)
    (P : Prop) [Decidable P] (hP : P ↔ (i = 0 ∨ tile s i ≠ tile s (i - 1)))
    (hq1 : q1 = if P then qtile (rows X (tile s i)) else q) (hs1 : s1 = if P then stile (rows X (tile s i)) else sc) :
    Known s X W WS (i + 1) q1 s1 (hstep q1 s1 (wOf W (ex s i)) (wsOf WS (ex s i)) (BitVec.ofNat 32 (tile s i)) (BitVec.ofNat 32 (lo s i)) (BitVec.ofNat 32 (hi s i)) h) := by
  intro _
  rw [Nat.add_sub_cancel]
  have eq1 : q1 = qtile (rows X (tile s i)) := by
    rw [hq1]; split
    · rfl
    · rename_i hn
      rw [hP, not_or, not_not] at hn
      rw [(hK hn.1).1, hn.2]
  have es1 : s1 = stile (rows X (tile s i)) := by
    rw [hs1]; split
    · rfl
    · rename_i hn
      rw [hP, not_or, not_not] at hn
      rw [(hK hn.1).2.1, hn.2]
  refine ⟨eq1, es1, fun j hj => ?_⟩
  have hT := tile_lt s hs hi'
  have hH := hi_le s hs i
  have hL : lo s i ≤ 6144 := by
    by_contra hc
    have := hi_le s hs i
    rcases Nat.eq_zero_or_pos i with h0 | h0
    · subst h0; rw [(tile_zero s hs).2] at hc; omega
    · by_cases ht : tile s i = tile s (i - 1)
      · have h1 := next_lo s hs (i := i - 1) (by omega) (by rw [Nat.sub_add_cancel h0]; exact ht)
        rw [Nat.sub_add_cancel h0] at h1
        have h2 := hi_le s hs (i - 1)
        omega
      · have := first_lo s hs hi' (.inr ht); omega
  rw [hstep_at _ _ _ _ _ _ _ hT hL hH]
  by_cases hlo : lo s i ≤ tile s i * 256 + (j 0).val
  · rw [if_pos ⟨hlo, hj⟩]
    unfold dhTile
    rw [eid_eq s hlo hj, eq1, es1]
  · rw [if_neg (fun c => hlo c.1)]
    have hn : ¬ (i = 0 ∨ tile s i ≠ tile s (i - 1)) := fun c => by
      have := first_lo s hs hi' c; omega
    rw [not_or, not_not] at hn
    have h0 : 0 < i := Nat.pos_of_ne_zero hn.1
    have h1 := next_lo s hs (i := i - 1) (by omega) (by rw [Nat.sub_add_cancel h0]; exact hn.2)
    rw [Nat.sub_add_cancel h0] at h1
    rw [hn.2]
    refine (hK hn.1).2.2 j ?_
    rw [← hn.2]; omega

/-- After a tile's last item the scratch is the tile of `dh`. -/
theorem known_last (s : ℕ → ℕ) (X : Vec F S6144x2560 .bf16) (W : Vec F S40x1024x2560 .fp8e4m3) (WS : Vec F S40x1x1024 .f32) (i : ℕ)
    (q : Vec F S256x2560 .fp8e5m2) (sc : Vec F S256x128 .f32) (h : Vec F S256x1024 .f32) (hK : Known s X W WS (i + 1) q sc h)
    (hl : (tile s i + 1) * 256 ≤ hi s i) : h = dhTile X W WS s (tile s i) := by
  have hK := (hK (Nat.succ_ne_zero _)).2.2
  rw [Nat.add_sub_cancel] at hK
  funext j
  have hj : (j 0).val < 256 := (j 0).isLt
  exact hK j (by omega)

end Cert.KernelIdeal.Hand

end
-- ==== Proof.KernelIdeal.Stages.lean ====
/-
  The tables' contents when the region is entered, stretch by stretch of the host lines.
-/
module

public import proofs.«01_k».proof.Proof.KernelIdeal.Tables
public import Idealize.ShloMosaic.Lib.StableHlo.RunClose

@[expose] public section

set_option maxRecDepth 16384
set_option maxHeartbeats 1000000

noncomputable section

namespace Cert.KernelIdeal.Hand

open Idealize.ShloMosaic Idealize.ShloMosaic.TcCoe Idealize.ShloMosaic.Tactic
open Idealize.SL.Sem
open Cert.KernelIdeal.Gen

attribute [local irreducible] Host.reduceWindow Host.reduce Host.gather concatenate extractStridedSlice broadcastInDim select cmpi subi addi muli minsi
  maxsi extui iotaInDim constantI signi andi Host.divsi Host.remsi shapeCast

variable {F : FTy → Type} [FloatOps F]
variable (m : (ℓ : Loc nD τ sig) → Buf (Elt F) ℓ)

/-- The last stretch in two. -/
abbrev hostOps10a : List (HloOp τ sig (Elt F)) :=
  [
StableHlo.nullary main_c_13 (constantI S_ 32 0#32),
    StableHlo.unary main_c_13 main_v43 (broadcastInDim S63 ![] bcast_S_S63 : (⟨S_, .i32⟩ : BufTy).Contents (Elt F) → (⟨S63, .i32⟩ : BufTy).Contents (Elt F)),
    StableHlo.binary main_v24 main_v43 main_v44 (cmpi .slt : (⟨S63, .i32⟩ : BufTy).Contents (Elt F) → (⟨S63, .i32⟩ : BufTy).Contents (Elt F) → (⟨S63, .i1⟩ : BufTy).Contents (Elt F)),
    StableHlo.nullary main_c_14 (constantI S_ 32 40#32),
    StableHlo.unary main_c_14 main_v45 (broadcastInDim S63 ![] bcast_S_S63 : (⟨S_, .i32⟩ : BufTy).Contents (Elt F) → (⟨S63, .i32⟩ : BufTy).Contents (Elt F)),
    StableHlo.binary main_v24 main_v45 main_v46 (addi : (⟨S63, .i32⟩ : BufTy).Contents (Elt F) → (⟨S63, .i32⟩ : BufTy).Contents (Elt F) → (⟨S63, .i32⟩ : BufTy).Contents (Elt F)),
    StableHlo.ternary main_v44 main_v46 main_v24 main_v47 (select : (⟨S63, .i1⟩ : BufTy).Contents (Elt F) → (⟨S63, .i32⟩ : BufTy).Contents (Elt F) → (⟨S63, .i32⟩ : BufTy).Contents (Elt F) → (⟨S63, .i32⟩ : BufTy).Contents (Elt F)),
    StableHlo.unary main_v47 main_v48 (broadcastInDim S63x1 ![0] bcast_S63_S63x1_0 : (⟨S63, .i32⟩ : BufTy).Contents (Elt F) → (⟨S63x1, .i32⟩ : BufTy).Contents (Elt F)),
    StableHlo.binary main_v1 main_v48 main_v49 ((fun x i => Host.gather gather_S40_S63x1_S63_n_0_n_n_0_1_1 x i) : (⟨S40, .i32⟩ : BufTy).Contents (Elt F) → (⟨S63x1, .i32⟩ : BufTy).Contents (Elt F) → (⟨S63, .i32⟩ : BufTy).Contents (Elt F)),
    StableHlo.nullary main_c_15 (constantI S_ 32 0#32),
    StableHlo.unary main_c_15 main_v50 (broadcastInDim S63 ![] bcast_S_S63 : (⟨S_, .i32⟩ : BufTy).Contents (Elt F) → (⟨S63, .i32⟩ : BufTy).Contents (Elt F)),
    StableHlo.binary main_v24 main_v50 main_v51 (cmpi .slt : (⟨S63, .i32⟩ : BufTy).Contents (Elt F) → (⟨S63, .i32⟩ : BufTy).Contents (Elt F) → (⟨S63, .i1⟩ : BufTy).Contents (Elt F)),
    StableHlo.nullary main_c_16 (constantI S_ 32 40#32),
    StableHlo.unary main_c_16 main_v52 (broadcastInDim S63 ![] bcast_S_S63 : (⟨S_, .i32⟩ : BufTy).Contents (Elt F) → (⟨S63, .i32⟩ : BufTy).Contents (Elt F)),
    StableHlo.binary main_v24 main_v52 main_v53 (addi : (⟨S63, .i32⟩ : BufTy).Contents (Elt F) → (⟨S63, .i32⟩ : BufTy).Contents (Elt F) → (⟨S63, .i32⟩ : BufTy).Contents (Elt F)),
    StableHlo.ternary main_v51 main_v53 main_v24 main_v54 (select : (⟨S63, .i1⟩ : BufTy).Contents (Elt F) → (⟨S63, .i32⟩ : BufTy).Contents (Elt F) → (⟨S63, .i32⟩ : BufTy).Contents (Elt F) → (⟨S63, .i32⟩ : BufTy).Contents (Elt F)),
    StableHlo.unary main_v54 main_v55 (broadcastInDim S63x1 ![0] bcast_S63_S63x1_0 : (⟨S63, .i32⟩ : BufTy).Contents (Elt F) → (⟨S63x1, .i32⟩ : BufTy).Contents (Elt F)),
    StableHlo.binary main_v0 main_v55 main_v56 ((fun x i => Host.gather gather_S40_S63x1_S63_n_0_n_n_0_1_1 x i) : (⟨S40, .i32⟩ : BufTy).Contents (Elt F) → (⟨S63x1, .i32⟩ : BufTy).Contents (Elt F) → (⟨S63, .i32⟩ : BufTy).Contents (Elt F)),
    StableHlo.nullary main_c_17 (constantI S_ 32 4294967295#32),
    StableHlo.unary main_c_17 main_v57 (broadcastInDim S1 ![] bcast_S_S1 : (⟨S_, .i32⟩ : BufTy).Contents (Elt F) → (⟨S1, .i32⟩ : BufTy).Contents (Elt F)),
    StableHlo.unary main_v42 main_v58 ((extractStridedSlice S62 ![0] · slices_S63_S62_0) : (⟨S63, .i32⟩ : BufTy).Contents (Elt F) → (⟨S62, .i32⟩ : BufTy).Contents (Elt F)) ]
abbrev hostOps10b : List (HloOp τ sig (Elt F)) :=
  [ StableHlo.binary main_v57 main_v58 main_v59 ((fun a b => concatenate S63 0 [⟨S1, a⟩, ⟨S62, b⟩] concatenates_S1_S62_S63_d0) : (⟨S1, .i32⟩ : BufTy).Contents (Elt F) → (⟨S62, .i32⟩ : BufTy).Contents (Elt F) → (⟨S63, .i32⟩ : BufTy).Contents (Elt F)),
    StableHlo.binary main_v42 main_v59 main_v60 (cmpi .ne : (⟨S63, .i32⟩ : BufTy).Contents (Elt F) → (⟨S63, .i32⟩ : BufTy).Contents (Elt F) → (⟨S63, .i1⟩ : BufTy).Contents (Elt F)),
    StableHlo.unary main_v60 main_v61 ((extui 32 · natLt_1_32) : (⟨S63, .i1⟩ : BufTy).Contents (Elt F) → (⟨S63, .i32⟩ : BufTy).Contents (Elt F)),
    StableHlo.nullary main_c_18 (constantI S_ 32 1#32),
    StableHlo.unary main_c_18 main_v62 (broadcastInDim S63 ![] bcast_S_S63 : (⟨S_, .i32⟩ : BufTy).Contents (Elt F) → (⟨S63, .i32⟩ : BufTy).Contents (Elt F)),
    StableHlo.binary main_v42 main_v62 main_v63 (addi : (⟨S63, .i32⟩ : BufTy).Contents (Elt F) → (⟨S63, .i32⟩ : BufTy).Contents (Elt F) → (⟨S63, .i32⟩ : BufTy).Contents (Elt F)),
    StableHlo.nullary main_c_19 (constantI S_ 32 256#32),
    StableHlo.unary main_c_19 main_v64 (broadcastInDim S63 ![] bcast_S_S63 : (⟨S_, .i32⟩ : BufTy).Contents (Elt F) → (⟨S63, .i32⟩ : BufTy).Contents (Elt F)),
    StableHlo.binary main_v63 main_v64 main_v65 (muli : (⟨S63, .i32⟩ : BufTy).Contents (Elt F) → (⟨S63, .i32⟩ : BufTy).Contents (Elt F) → (⟨S63, .i32⟩ : BufTy).Contents (Elt F)),
    StableHlo.binary main_v56 main_v65 main_v66 (cmpi .sge : (⟨S63, .i32⟩ : BufTy).Contents (Elt F) → (⟨S63, .i32⟩ : BufTy).Contents (Elt F) → (⟨S63, .i1⟩ : BufTy).Contents (Elt F)),
    StableHlo.unary main_v66 main_v67 ((extui 32 · natLt_1_32) : (⟨S63, .i1⟩ : BufTy).Contents (Elt F) → (⟨S63, .i32⟩ : BufTy).Contents (Elt F)),
    StableHlo.unary main_arg3 main_v68 (broadcastInDim S40x1x1024 ![0, 2] bcast_S40x1024_S40x1x1024_0_2 : (⟨S40x1024, .f32⟩ : BufTy).Contents (Elt F) → (⟨S40x1x1024, .f32⟩ : BufTy).Contents (Elt F)) ]
theorem hostOps10_eq : (hostOps0_10 : List (HloOp τ sig (Elt F))) = hostOps10a ++ hostOps10b := rfl
/-- The contents at launch, then after each stretch of host lines. -/
def St0 (c : Dev nD) : Valuation τ sig (Elt F) := fun b => m (c, b)
def St1 (c : Dev nD) : Valuation τ sig (Elt F) := StableHlo.after hostOps0 (St0 m c)
def St2 (c : Dev nD) : Valuation τ sig (Elt F) := StableHlo.after hostOps0_1 (St1 m c)
def St3 (c : Dev nD) : Valuation τ sig (Elt F) := StableHlo.after hostOps0_2 (St2 m c)
def St4 (c : Dev nD) : Valuation τ sig (Elt F) := StableHlo.after hostOps0_3 (St3 m c)
def St5 (c : Dev nD) : Valuation τ sig (Elt F) := StableHlo.after hostOps0_4 (St4 m c)
def St6 (c : Dev nD) : Valuation τ sig (Elt F) := StableHlo.after hostOps0_5 (St5 m c)
def St7 (c : Dev nD) : Valuation τ sig (Elt F) := StableHlo.after hostOps0_6 (St6 m c)
def St8 (c : Dev nD) : Valuation τ sig (Elt F) := StableHlo.after hostOps0_7 (St7 m c)
def St9 (c : Dev nD) : Valuation τ sig (Elt F) := StableHlo.after hostOps0_8 (St8 m c)
def St10 (c : Dev nD) : Valuation τ sig (Elt F) := StableHlo.after hostOps0_9 (St9 m c)
def St11 (c : Dev nD) : Valuation τ sig (Elt F) := StableHlo.after hostOps10a (St10 m c)
def St12 (c : Dev nD) : Valuation τ sig (Elt F) := StableHlo.after hostOps10b (St11 m c)
theorem V_eq (c : Dev nD) (b : Ref sig .tc) : V m c b = St12 m c b := by
  unfold V
  simp only [List.flatten_cons, List.flatten_nil, List.append_nil]
  rw [hostOps10_eq]
  rw [StableHlo.after_append, StableHlo.after_append, StableHlo.after_append, StableHlo.after_append, StableHlo.after_append, StableHlo.after_append, StableHlo.after_append, StableHlo.after_append, StableHlo.after_append, StableHlo.after_append, StableHlo.after_append]
  rfl

theorem St0_main_arg1 (c : Dev nD) : St0 m c main_arg1 = gsOf m c := rfl
theorem St0_main_arg3 (c : Dev nD) : St0 m c main_arg3 = m ((c : Thread nD τ).loc main_arg3) := rfl
theorem St1_main_arg1 (c : Dev nD) : St1 m c main_arg1 = gsOf m c := by
  unfold St1
  refine (StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St0_main_arg1 m c)
theorem St1_main_arg3 (c : Dev nD) : St1 m c main_arg3 = m ((c : Thread nD τ).loc main_arg3) := by
  unfold St1
  refine (StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St0_main_arg3 m c)
theorem St1_main_v0 (c : Dev nD) : St1 m c main_v0 = endsT (gsOf m c) := by
  unfold St1
  after_results_entrywise [St0_main_arg1 m c]
theorem St2_main_arg1 (c : Dev nD) : St2 m c main_arg1 = gsOf m c := by
  unfold St2
  refine (StableHlo.after_of_forall_not_mem (b := Proc.devRef .tc main_arg1) _ _ (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St1_main_arg1 m c)
theorem St2_main_arg3 (c : Dev nD) : St2 m c main_arg3 = m ((c : Thread nD τ).loc main_arg3) := by
  unfold St2
  refine (StableHlo.after_of_forall_not_mem (b := Proc.devRef .tc main_arg3) _ _ (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St1_main_arg3 m c)
theorem St2_main_c (c : Dev nD) : St2 m c main_c = constantI S_ 32 256#32 := by
  unfold St2
  after_results_entrywise [St1_main_v0 m c, St1_main_arg1 m c]
theorem St2_main_v0 (c : Dev nD) : St2 m c main_v0 = endsT (gsOf m c) := by
  unfold St2
  refine (StableHlo.after_of_forall_not_mem (b := Proc.devRef .tc main_v0) _ _ (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St1_main_v0 m c)
theorem St2_main_v1 (c : Dev nD) : St2 m c main_v1 = startsT (gsOf m c) := by
  unfold St2
  after_results_entrywise [St1_main_v0 m c, St1_main_arg1 m c]
theorem St3_main_arg1 (c : Dev nD) : St3 m c main_arg1 = gsOf m c := by
  unfold St3
  refine (StableHlo.after_of_forall_not_mem (b := Proc.devRef .tc main_arg1) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St2_main_arg1 m c)
theorem St3_main_arg3 (c : Dev nD) : St3 m c main_arg3 = m ((c : Thread nD τ).loc main_arg3) := by
  unfold St3
  refine (StableHlo.after_of_forall_not_mem (b := Proc.devRef .tc main_arg3) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St2_main_arg3 m c)
theorem St3_main_v0 (c : Dev nD) : St3 m c main_v0 = endsT (gsOf m c) := by
  unfold St3
  refine (StableHlo.after_of_forall_not_mem (b := Proc.devRef .tc main_v0) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St2_main_v0 m c)
theorem St3_main_v1 (c : Dev nD) : St3 m c main_v1 = startsT (gsOf m c) := by
  unfold St3
  refine (StableHlo.after_of_forall_not_mem (b := Proc.devRef .tc main_v1) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St2_main_v1 m c)
theorem St3_main_v2 (c : Dev nD) : St3 m c main_v2 = ftT (gsOf m c) := by
  unfold St3
  after_results_entrywise [St2_main_v1 m c, St2_main_c m c]
theorem St4_main_arg3 (c : Dev nD) : St4 m c main_arg3 = m ((c : Thread nD τ).loc main_arg3) := by
  unfold St4
  refine (StableHlo.after_of_forall_not_mem (b := Proc.devRef .tc main_arg3) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St3_main_arg3 m c)
theorem St4_main_c_2 (c : Dev nD) : St4 m c main_c_2 = constantI S_ 32 256#32 := by
  unfold St4
  after_results_entrywise [St3_main_arg1 m c, St3_main_v0 m c]
theorem St4_main_v0 (c : Dev nD) : St4 m c main_v0 = endsT (gsOf m c) := by
  unfold St4
  refine (StableHlo.after_of_forall_not_mem (b := Proc.devRef .tc main_v0) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St3_main_v0 m c)
theorem St4_main_v1 (c : Dev nD) : St4 m c main_v1 = startsT (gsOf m c) := by
  unfold St4
  refine (StableHlo.after_of_forall_not_mem (b := Proc.devRef .tc main_v1) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St3_main_v1 m c)
theorem St4_main_v2 (c : Dev nD) : St4 m c main_v2 = ftT (gsOf m c) := by
  unfold St4
  refine (StableHlo.after_of_forall_not_mem (b := Proc.devRef .tc main_v2) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St3_main_v2 m c)
theorem St4_main_v4 (c : Dev nD) : St4 m c main_v4 = cmpi .sgt (gsOf m c) (k40 0#32) := by
  unfold St4
  after_results_entrywise [St3_main_arg1 m c, St3_main_v0 m c]
theorem St4_main_v6 (c : Dev nD) : St4 m c main_v6 = subi (endsT (gsOf m c)) (k40 1#32) := by
  unfold St4
  after_results_entrywise [St3_main_arg1 m c, St3_main_v0 m c]
theorem St5_main_arg3 (c : Dev nD) : St5 m c main_arg3 = m ((c : Thread nD τ).loc main_arg3) := by
  unfold St5
  refine (StableHlo.after_of_forall_not_mem (b := Proc.devRef .tc main_arg3) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_arg3 m c)
theorem St5_main_v0 (c : Dev nD) : St5 m c main_v0 = endsT (gsOf m c) := by
  unfold St5
  refine (StableHlo.after_of_forall_not_mem (b := Proc.devRef .tc main_v0) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_v0 m c)
theorem St5_main_v1 (c : Dev nD) : St5 m c main_v1 = startsT (gsOf m c) := by
  unfold St5
  refine (StableHlo.after_of_forall_not_mem (b := Proc.devRef .tc main_v1) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_v1 m c)
theorem St5_main_v2 (c : Dev nD) : St5 m c main_v2 = ftT (gsOf m c) := by
  unfold St5
  refine (StableHlo.after_of_forall_not_mem (b := Proc.devRef .tc main_v2) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_v2 m c)
theorem St5_main_v4 (c : Dev nD) : St5 m c main_v4 = cmpi .sgt (gsOf m c) (k40 0#32) := by
  unfold St5
  refine (StableHlo.after_of_forall_not_mem (b := Proc.devRef .tc main_v4) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St4_main_v4 m c)
theorem St5_main_v7 (c : Dev nD) : St5 m c main_v7 = divT (subi (endsT (gsOf m c)) (k40 1#32)) := by
  unfold St5
  after_results_entrywise [St4_main_v6 m c, St4_main_c_2 m c]
theorem St6_main_arg3 (c : Dev nD) : St6 m c main_arg3 = m ((c : Thread nD τ).loc main_arg3) := by
  unfold St6
  refine (StableHlo.after_of_forall_not_mem (b := Proc.devRef .tc main_arg3) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_arg3 m c)
theorem St6_main_c_4 (c : Dev nD) : St6 m c main_c_4 = constantI S_ 32 0#32 := by
  unfold St6
  after_results_entrywise [St5_main_v7 m c, St5_main_v2 m c]
theorem St6_main_v0 (c : Dev nD) : St6 m c main_v0 = endsT (gsOf m c) := by
  unfold St6
  refine (StableHlo.after_of_forall_not_mem (b := Proc.devRef .tc main_v0) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_v0 m c)
theorem St6_main_v1 (c : Dev nD) : St6 m c main_v1 = startsT (gsOf m c) := by
  unfold St6
  refine (StableHlo.after_of_forall_not_mem (b := Proc.devRef .tc main_v1) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_v1 m c)
theorem St6_main_v10 (c : Dev nD) : St6 m c main_v10 = addi (subi (divT (subi (endsT (gsOf m c)) (k40 1#32))) (ftT (gsOf m c))) (k40 1#32) := by
  unfold St6
  after_results_entrywise [St5_main_v7 m c, St5_main_v2 m c]
theorem St6_main_v2 (c : Dev nD) : St6 m c main_v2 = ftT (gsOf m c) := by
  unfold St6
  refine (StableHlo.after_of_forall_not_mem (b := Proc.devRef .tc main_v2) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_v2 m c)
theorem St6_main_v4 (c : Dev nD) : St6 m c main_v4 = cmpi .sgt (gsOf m c) (k40 0#32) := by
  unfold St6
  refine (StableHlo.after_of_forall_not_mem (b := Proc.devRef .tc main_v4) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St5_main_v4 m c)
theorem St7_main_arg3 (c : Dev nD) : St7 m c main_arg3 = m ((c : Thread nD τ).loc main_arg3) := by
  unfold St7
  refine (StableHlo.after_of_forall_not_mem (b := Proc.devRef .tc main_arg3) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St6_main_arg3 m c)
theorem St7_main_v0 (c : Dev nD) : St7 m c main_v0 = endsT (gsOf m c) := by
  unfold St7
  refine (StableHlo.after_of_forall_not_mem (b := Proc.devRef .tc main_v0) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St6_main_v0 m c)
theorem St7_main_v1 (c : Dev nD) : St7 m c main_v1 = startsT (gsOf m c) := by
  unfold St7
  refine (StableHlo.after_of_forall_not_mem (b := Proc.devRef .tc main_v1) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St6_main_v1 m c)
theorem St7_main_v11 (c : Dev nD) : St7 m c main_v11 = nvT (gsOf m c) := by
  unfold St7
  after_results_entrywise [St6_main_v4 m c, St6_main_v10 m c, St6_main_c_4 m c]
theorem St7_main_v2 (c : Dev nD) : St7 m c main_v2 = ftT (gsOf m c) := by
  unfold St7
  refine (StableHlo.after_of_forall_not_mem (b := Proc.devRef .tc main_v2) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St6_main_v2 m c)
theorem St8_main_arg3 (c : Dev nD) : St8 m c main_arg3 = m ((c : Thread nD τ).loc main_arg3) := by
  unfold St8
  refine (StableHlo.after_of_forall_not_mem (b := Proc.devRef .tc main_arg3) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_arg3 m c)
theorem St8_main_v0 (c : Dev nD) : St8 m c main_v0 = endsT (gsOf m c) := by
  unfold St8
  refine (StableHlo.after_of_forall_not_mem (b := Proc.devRef .tc main_v0) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_v0 m c)
theorem St8_main_v1 (c : Dev nD) : St8 m c main_v1 = startsT (gsOf m c) := by
  unfold St8
  refine (StableHlo.after_of_forall_not_mem (b := Proc.devRef .tc main_v1) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_v1 m c)
theorem St8_main_v11 (c : Dev nD) : St8 m c main_v11 = nvT (gsOf m c) := by
  unfold St8
  refine (StableHlo.after_of_forall_not_mem (b := Proc.devRef .tc main_v11) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_v11 m c)
theorem St8_main_v12 (c : Dev nD) : St8 m c main_v12 = vendT (gsOf m c) := by
  unfold St8
  after_results_entrywise [St7_main_v11 m c]
theorem St8_main_v2 (c : Dev nD) : St8 m c main_v2 = ftT (gsOf m c) := by
  unfold St8
  refine (StableHlo.after_of_forall_not_mem (b := Proc.devRef .tc main_v2) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St7_main_v2 m c)
theorem St9_main_arg3 (c : Dev nD) : St9 m c main_arg3 = m ((c : Thread nD τ).loc main_arg3) := by
  unfold St9
  refine (StableHlo.after_of_forall_not_mem (b := Proc.devRef .tc main_arg3) _ _ (List.forall_iff_forall_mem.mp (by
    simp only [hostOps0_8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St8_main_arg3 m c)
theorem St9_main_c_11 (c : Dev nD) : St9 m c main_c_11 = constantI S_ 32 0#32 := by
  unfold St9
  after_results_entrywise [St8_main_v12 m c, St8_main_v2 m c, St8_main_v11 m c]
theorem St9_main_c_12 (c : Dev nD) : St9 m c main_c_12 = constantI S_ 32 23#32 := by
  unfold St9
  after_results_entrywise [St8_main_v12 m c, St8_main_v2 m c, St8_main_v11 m c]
theorem St9_main_v0 (c : Dev nD) : St9 m c main_v0 = endsT (gsOf m c) := by
  unfold St9
  refine (StableHlo.after_of_forall_not_mem (b := Proc.devRef .tc main_v0) _ _ (List.forall_iff_forall_mem.mp (by
    simp only [hostOps0_8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St8_main_v0 m c)
theorem St9_main_v1 (c : Dev nD) : St9 m c main_v1 = startsT (gsOf m c) := by
  unfold St9
  refine (StableHlo.after_of_forall_not_mem (b := Proc.devRef .tc main_v1) _ _ (List.forall_iff_forall_mem.mp (by
    simp only [hostOps0_8, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St8_main_v1 m c)
theorem St9_main_v14 (c : Dev nD) : St9 m c main_v14 = nT (gsOf m c) := by
  unfold St9
  after_results_entrywise [St8_main_v12 m c, St8_main_v2 m c, St8_main_v11 m c]
theorem St9_main_v24 (c : Dev nD) : St9 m c main_v24 = expT (gsOf m c) := by
  unfold St9
  after_results_entrywise [St8_main_v12 m c, St8_main_v2 m c, St8_main_v11 m c]
theorem St9_main_v41 (c : Dev nD) : St9 m c main_v41 = subi (addi (takeT (ftT (gsOf m c)) (expT (gsOf m c))) (iotaInDim S63 32 0)) (takeT (subi (vendT (gsOf m c)) (nvT (gsOf m c))) (expT (gsOf m c))) := by
  unfold St9
  after_results_entrywise [St8_main_v12 m c, St8_main_v2 m c, St8_main_v11 m c]
theorem St10_main_arg3 (c : Dev nD) : St10 m c main_arg3 = m ((c : Thread nD τ).loc main_arg3) := by
  unfold St10
  refine (StableHlo.after_of_forall_not_mem (b := Proc.devRef .tc main_arg3) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_arg3 m c)
theorem St10_main_v0 (c : Dev nD) : St10 m c main_v0 = endsT (gsOf m c) := by
  unfold St10
  refine (StableHlo.after_of_forall_not_mem (b := Proc.devRef .tc main_v0) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_v0 m c)
theorem St10_main_v1 (c : Dev nD) : St10 m c main_v1 = startsT (gsOf m c) := by
  unfold St10
  refine (StableHlo.after_of_forall_not_mem (b := Proc.devRef .tc main_v1) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_v1 m c)
theorem St10_main_v14 (c : Dev nD) : St10 m c main_v14 = nT (gsOf m c) := by
  unfold St10
  refine (StableHlo.after_of_forall_not_mem (b := Proc.devRef .tc main_v14) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_v14 m c)
theorem St10_main_v24 (c : Dev nD) : St10 m c main_v24 = expT (gsOf m c) := by
  unfold St10
  refine (StableHlo.after_of_forall_not_mem (b := Proc.devRef .tc main_v24) _ _ (List.forall_iff_forall_mem.mp (by
    simp only [hostOps0_9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St9_main_v24 m c)
theorem St10_main_v42 (c : Dev nD) : St10 m c main_v42 = tileT (gsOf m c) := by
  unfold St10
  after_results_entrywise [St9_main_v41 m c, St9_main_c_11 m c, St9_main_c_12 m c]
theorem St11_main_arg3 (c : Dev nD) : St11 m c main_arg3 = m ((c : Thread nD τ).loc main_arg3) := by
  unfold St11
  refine (StableHlo.after_of_forall_not_mem (b := Proc.devRef .tc main_arg3) _ _ (List.forall_iff_forall_mem.mp (by
    simp only [hostOps10a, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St10_main_arg3 m c)
theorem St11_main_v14 (c : Dev nD) : St11 m c main_v14 = nT (gsOf m c) := by
  unfold St11
  refine (StableHlo.after_of_forall_not_mem (b := Proc.devRef .tc main_v14) _ _ (List.forall_iff_forall_mem.mp (by
    simp only [hostOps10a, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St10_main_v14 m c)
theorem St11_main_v24 (c : Dev nD) : St11 m c main_v24 = expT (gsOf m c) := by
  unfold St11
  refine (StableHlo.after_of_forall_not_mem (b := Proc.devRef .tc main_v24) _ _ (List.forall_iff_forall_mem.mp (by
    simp only [hostOps10a, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St10_main_v24 m c)
theorem St11_main_v42 (c : Dev nD) : St11 m c main_v42 = tileT (gsOf m c) := by
  unfold St11
  refine (StableHlo.after_of_forall_not_mem (b := Proc.devRef .tc main_v42) _ _ (List.forall_iff_forall_mem.mp (by
    simp only [hostOps10a, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St10_main_v42 m c)
theorem St11_main_v49 (c : Dev nD) : St11 m c main_v49 = loT (gsOf m c) := by
  unfold St11
  after_results_entrywise [St10_main_v24 m c, St10_main_v1 m c, St10_main_v0 m c, St10_main_v42 m c]
theorem St11_main_v56 (c : Dev nD) : St11 m c main_v56 = hiT (gsOf m c) := by
  unfold St11
  after_results_entrywise [St10_main_v24 m c, St10_main_v1 m c, St10_main_v0 m c, St10_main_v42 m c]
theorem St11_main_v57 (c : Dev nD) : St11 m c main_v57 = broadcastInDim S1 ![] bcast_S_S1 (constantI S_ 32 4294967295#32) := by
  unfold St11
  after_results_entrywise [St10_main_v24 m c, St10_main_v1 m c, St10_main_v0 m c, St10_main_v42 m c]
theorem St11_main_v58 (c : Dev nD) : St11 m c main_v58 = extractStridedSlice S62 ![0] (tileT (gsOf m c)) slices_S63_S62_0 := by
  unfold St11
  after_results_entrywise [St10_main_v24 m c, St10_main_v1 m c, St10_main_v0 m c, St10_main_v42 m c]
theorem St12_main_v14 (c : Dev nD) : St12 m c main_v14 = nT (gsOf m c) := by
  unfold St12
  refine (StableHlo.after_of_forall_not_mem (b := Proc.devRef .tc main_v14) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v14 m c)
theorem St12_main_v24 (c : Dev nD) : St12 m c main_v24 = expT (gsOf m c) := by
  unfold St12
  refine (StableHlo.after_of_forall_not_mem (b := Proc.devRef .tc main_v24) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v24 m c)
theorem St12_main_v42 (c : Dev nD) : St12 m c main_v42 = tileT (gsOf m c) := by
  unfold St12
  refine (StableHlo.after_of_forall_not_mem (b := Proc.devRef .tc main_v42) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v42 m c)
theorem St12_main_v49 (c : Dev nD) : St12 m c main_v49 = loT (gsOf m c) := by
  unfold St12
  refine (StableHlo.after_of_forall_not_mem (b := Proc.devRef .tc main_v49) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v49 m c)
theorem St12_main_v56 (c : Dev nD) : St12 m c main_v56 = hiT (gsOf m c) := by
  unfold St12
  refine (StableHlo.after_of_forall_not_mem (b := Proc.devRef .tc main_v56) _ _ (List.forall_iff_forall_mem.mp (by
    simp only [hostOps10b, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (St11_main_v56 m c)
theorem St12_main_v61 (c : Dev nD) : St12 m c main_v61 = firstT (gsOf m c) := by
  unfold St12
  after_results_entrywise [St11_main_v42 m c, St11_main_v56 m c, St11_main_v57 m c, St11_main_v58 m c, St11_main_arg3 m c]
theorem St12_main_v67 (c : Dev nD) : St12 m c main_v67 = lastT (gsOf m c) := by
  unfold St12
  after_results_entrywise [St11_main_v42 m c, St11_main_v56 m c, St11_main_v57 m c, St11_main_v58 m c, St11_main_arg3 m c]
theorem St12_main_v68 (c : Dev nD) : St12 m c main_v68 = broadcastInDim S40x1x1024 ![0, 2] bcast_S40x1024_S40x1x1024_0_2 (m ((c : Thread nD τ).loc main_arg3)) := by
  unfold St12
  after_results_entrywise [St11_main_v42 m c, St11_main_v56 m c, St11_main_v57 m c, St11_main_v58 m c, St11_main_arg3 m c]
theorem V_main_v14 (c : Dev nD) : V m c main_v14 = nT (gsOf m c) := (V_eq m c main_v14).trans (St12_main_v14 m c)
theorem V_main_v42 (c : Dev nD) : V m c main_v42 = tileT (gsOf m c) := (V_eq m c main_v42).trans (St12_main_v42 m c)
theorem V_main_v24 (c : Dev nD) : V m c main_v24 = expT (gsOf m c) := (V_eq m c main_v24).trans (St12_main_v24 m c)
theorem V_main_v49 (c : Dev nD) : V m c main_v49 = loT (gsOf m c) := (V_eq m c main_v49).trans (St12_main_v49 m c)
theorem V_main_v56 (c : Dev nD) : V m c main_v56 = hiT (gsOf m c) := (V_eq m c main_v56).trans (St12_main_v56 m c)
theorem V_main_v61 (c : Dev nD) : V m c main_v61 = firstT (gsOf m c) := (V_eq m c main_v61).trans (St12_main_v61 m c)
theorem V_main_v67 (c : Dev nD) : V m c main_v67 = lastT (gsOf m c) := (V_eq m c main_v67).trans (St12_main_v67 m c)
theorem V_main_v68 (c : Dev nD) : V m c main_v68 = broadcastInDim S40x1x1024 ![0, 2] bcast_S40x1024_S40x1x1024_0_2 (m ((c : Thread nD τ).loc main_arg3)) := (V_eq m c main_v68).trans (St12_main_v68 m c)

end Cert.KernelIdeal.Hand

end
-- ==== Proof.KernelIdeal.Blocks.lean ====
/-
  Every window's block at a grid point, and the points at which the outputs' blocks are written.
-/
module

public import proofs.«01_k».proof.Proof.KernelIdeal.Tile
public import proofs.«01_k».proof.Proof.KernelIdeal.Stages
public import Idealize.ShloMosaic.Lib.Pipeline.FrameBody
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx
open Cert.KernelIdeal.Gen Cert.Plan

attribute [local irreducible] Host.reduceWindow Host.reduce Host.gather concatenate
attribute [local irreducible] nT tileT expT loT hiT firstT lastT

variable {F : FTy → Type} [FloatOps F]

local notation "𝕄" => MT nD τ sig Unit (Elt F) ℕ (UR sig nD τ) ℕ

variable (m : (ℓ : Loc nD τ sig) → Buf (Elt F) ℓ) (gs : IVec S40 32) (hg : Good gs)

/-! ## The arrays the region reads -/

def Xa (c : Dev nD) : Vec F S6144x2560 .bf16 := V m c main_arg0
def Wa (c : Dev nD) : Vec F S40x1024x2560 .fp8e4m3 := V m c main_arg2
def WSa (c : Dev nD) : Vec F S40x1x1024 .f32 := V m c main_v68
def Ga (c : Dev nD) : Vec F S6144x1024 .bf16 := V m c main_arg4
def Ua (c : Dev nD) : Vec F S6144x1024 .bf16 := V m c main_arg5

/-- Window `w`'s block at point `t`. -/
def iblk (c : Dev nD) (w : Fin (cfgA (F := F) gs hg).W) (t : Fin (cfgA (F := F) gs hg).N) : (((cfgA (F := F) gs hg).win w).xblock ((cfgA (F := F) gs hg).grid.coords t)).Idx → Elt F ((cfgA (F := F) gs hg).win w).elt :=
  (((cfgA (F := F) gs hg).win w).blk t).view.read (Elt F) (V m c (Pipeline.arrRef spec0 w))

section Index
variable (t : Fin (cfgA (F := F) gs hg).N)

theorem cv : ((cfgA (F := F) gs hg).grid.coords t 0).val = t.val := coords_val gs hg t

theorem index0 : ((cfgA (F := F) gs hg).win 0).index t = ![tile (sz gs) t.val, 0] := (map0 gs hg _).trans (congrArg (fun k => ![tile (sz gs) k, 0]) (cv gs hg t))
theorem index1 : ((cfgA (F := F) gs hg).win 1).index t = ![ex (sz gs) t.val, 0, 0] := (map1 gs hg _).trans (congrArg (fun k => ![ex (sz gs) k, 0, 0]) (cv gs hg t))
theorem index2 : ((cfgA (F := F) gs hg).win 2).index t = ![ex (sz gs) t.val, 0, 0] := (map2 gs hg _).trans (congrArg (fun k => ![ex (sz gs) k, 0, 0]) (cv gs hg t))
theorem index3 : ((cfgA (F := F) gs hg).win 3).index t = ![tile (sz gs) t.val, 0] := (map3 gs hg _).trans (congrArg (fun k => ![tile (sz gs) k, 0]) (cv gs hg t))
theorem index4 : ((cfgA (F := F) gs hg).win 4).index t = ![tile (sz gs) t.val, 0] := (map4 gs hg _).trans (congrArg (fun k => ![tile (sz gs) k, 0]) (cv gs hg t))
theorem index5 : ((cfgA (F := F) gs hg).win 5).index t = ![0, tile (sz gs) t.val, 0] := (map5 gs hg _).trans (congrArg (fun k => ![0, tile (sz gs) k, 0]) (cv gs hg t))
theorem index6 : ((cfgA (F := F) gs hg).win 6).index t = ![tile (sz gs) t.val, 0] := (map6 gs hg _).trans (congrArg (fun k => ![tile (sz gs) k, 0]) (cv gs hg t))

theorem blk0 (c : Dev nD) : iblk m gs hg c 0 t = rows (Xa m c) (tile (sz gs) t.val) := by
  refine funext fun (y : S256x2560.Idx) => ?_
  have hT := tile_lt (sz gs) hg (lt_n gs hg t)
  have h0 : (y 0).val < 256 := (y 0).isLt
  refine congrArg (Xa m c) (funext fun a => Fin.ext ?_)
  refine (Window.rect_emb_val ((cfgA (F := F) gs hg).win 0) t y a).trans ?_
  rw [index0]
  fin_cases a
  · show tile (sz gs) t.val * 256 + (y 0).val = (tile (sz gs) t.val * 256 + (y 0).val) % 6144
    rw [Nat.mod_eq_of_lt (by omega)]
  · show 0 * 2560 + (y 1).val = (y 1).val
    omega

theorem blk1 (c : Dev nD) : iblk m gs hg c 1 t = wOf (Wa m c) (ex (sz gs) t.val) := by
  refine funext fun (y : S1x1024x2560.Idx) => ?_
  have hT := (ex_le (sz gs) t.val).1
  have h0 : (y 0).val < 1 := (y 0).isLt
  refine congrArg (Wa m c) (funext fun a => Fin.ext ?_)
  refine (Window.rect_emb_val ((cfgA (F := F) gs hg).win 1) t y a).trans ?_
  rw [index1]
  fin_cases a
  · show ex (sz gs) t.val * 1 + (y 0).val = ex (sz gs) t.val % 40
    rw [Nat.mod_eq_of_lt (by omega)]; omega
  · show 0 * 1024 + (y 1).val = (y 1).val
    omega
  · show 0 * 2560 + (y 2).val = (y 2).val
    omega

theorem blk2 (c : Dev nD) : iblk m gs hg c 2 t = wsOf (WSa m c) (ex (sz gs) t.val) := by
  refine funext fun (y : S1x1x1024.Idx) => ?_
  have hT := (ex_le (sz gs) t.val).1
  have h0 : (y 0).val < 1 := (y 0).isLt
  refine congrArg (WSa m c) (funext fun a => Fin.ext ?_)
  refine (Window.rect_emb_val ((cfgA (F := F) gs hg).win 2) t y a).trans ?_
  rw [index2]
  fin_cases a
  · show ex (sz gs) t.val * 1 + (y 0).val = ex (sz gs) t.val % 40
    rw [Nat.mod_eq_of_lt (by omega)]; omega
  · show 0 * 1 + (y 1).val = (y 1).val
    omega
  · show 0 * 1024 + (y 2).val = (y 2).val
    omega

theorem blk3 (c : Dev nD) : iblk m gs hg c 3 t = rowsG (Ga m c) (tile (sz gs) t.val) := by
  refine funext fun (y : S256x1024.Idx) => ?_
  have hT := tile_lt (sz gs) hg (lt_n gs hg t)
  have h0 : (y 0).val < 256 := (y 0).isLt
  refine congrArg (Ga m c) (funext fun a => Fin.ext ?_)
  refine (Window.rect_emb_val ((cfgA (F := F) gs hg).win 3) t y a).trans ?_
  rw [index3]
  fin_cases a
  · show tile (sz gs) t.val * 256 + (y 0).val = (tile (sz gs) t.val * 256 + (y 0).val) % 6144
    rw [Nat.mod_eq_of_lt (by omega)]
  · show 0 * 1024 + (y 1).val = (y 1).val
    omega

theorem blk4 (c : Dev nD) : iblk m gs hg c 4 t = rowsG (Ua m c) (tile (sz gs) t.val) := by
  refine funext fun (y : S256x1024.Idx) => ?_
  have hT := tile_lt (sz gs) hg (lt_n gs hg t)
  have h0 : (y 0).val < 256 := (y 0).isLt
  refine congrArg (Ua m c) (funext fun a => Fin.ext ?_)
  refine (Window.rect_emb_val ((cfgA (F := F) gs hg).win 4) t y a).trans ?_
  rw [index4]
  fin_cases a
  · show tile (sz gs) t.val * 256 + (y 0).val = (tile (sz gs) t.val * 256 + (y 0).val) % 6144
    rw [Nat.mod_eq_of_lt (by omega)]
  · show 0 * 1024 + (y 1).val = (y 1).val
    omega

/-! ## When the outputs' blocks are written -/

include hg in
theorem idle_eq (k : ℕ) (hk : k < 63) (off : Fin 1 → ℕ) (hoff : ∀ a, off a = k) :
    (!(k0_cond2 ((pfN (F := F) gs).atD 6 off) == 1#1)) = !decide ((tile (sz gs) k + 1) * 256 ≤ hi (sz gs) k) := by
  refine congrArg (fun b => !b) ?_
  rw [atD_last gs k hk off hoff]
  have h := (k0_cond2_iff (lastT gs (ix1 (⟨k, hk⟩ : Fin 63)))).trans (lastT_word gs hg ⟨k, hk⟩)
  by_cases hl : (tile (sz gs) k + 1) * 256 ≤ hi (sz gs) k
  · rw [decide_eq_true hl, h.mpr hl]; rfl
  · rw [decide_eq_false hl, beq_eq_false_iff_ne]
    exact fun e => hl (h.mp e)

theorem idle5 : (cfgA (F := F) gs hg).idle 5 ((cfgA (F := F) gs hg).grid.coords t) = !decide ((tile (sz gs) t.val + 1) * 256 ≤ hi (sz gs) t.val) :=
  idle_eq gs hg t.val (lt_63 gs hg t) _ fun a => (off_at gs hg _ a).trans (cv gs hg t)
theorem idle6 : (cfgA (F := F) gs hg).idle 6 ((cfgA (F := F) gs hg).grid.coords t) = !decide ((tile (sz gs) t.val + 1) * 256 ≤ hi (sz gs) t.val) :=
  idle_eq gs hg t.val (lt_63 gs hg t) _ fun a => (off_at gs hg _ a).trans (cv gs hg t)

theorem flush5 : ((cfgA (F := F) gs hg).win 5).flush t = true ↔ (tile (sz gs) t.val + 1) * 256 ≤ hi (sz gs) t.val := by
  rw [last_iff (sz gs) hg (lt_n gs hg t)]
  unfold Pipeline.Window.flush
  rw [show ((cfgA (F := F) gs hg).win 5).isOut = true from rfl, Bool.true_and, Bool.or_eq_true, decide_eq_true_eq, decide_eq_true_eq]
  have hN : (cfgA (F := F) gs hg).grid.N = n (sz gs) := N_eq gs hg
  constructor
  · rintro (h | ⟨h, hne⟩)
    · left; rw [← hN]; exact h
    · right; intro e; apply hne; rw [index5, index5]; exact congrArg (fun k => ![0, k, 0]) e
  · rintro (h | h)
    · left; exact h.trans hN.symm
    · by_cases he : t.val + 1 = n (sz gs)
      · left; exact he.trans hN.symm
      · right
        refine ⟨lt_of_lt_of_eq (by have := lt_n gs hg t; omega) hN.symm, fun e => h ?_⟩
        rw [index5, index5] at e
        exact congrFun e 1

theorem flush6 : ((cfgA (F := F) gs hg).win 6).flush t = true ↔ (tile (sz gs) t.val + 1) * 256 ≤ hi (sz gs) t.val := by
  rw [last_iff (sz gs) hg (lt_n gs hg t)]
  unfold Pipeline.Window.flush
  rw [show ((cfgA (F := F) gs hg).win 6).isOut = true from rfl, Bool.true_and, Bool.or_eq_true, decide_eq_true_eq, decide_eq_true_eq]
  have hN : (cfgA (F := F) gs hg).grid.N = n (sz gs) := N_eq gs hg
  constructor
  · rintro (h | ⟨h, hne⟩)
    · left; rw [← hN]; exact h
    · right; intro e; apply hne; rw [index6, index6]; exact congrArg (fun k => ![k, 0]) e
  · rintro (h | h)
    · left; exact h.trans hN.symm
    · by_cases he : t.val + 1 = n (sz gs)
      · left; exact he.trans hN.symm
      · right
        refine ⟨lt_of_lt_of_eq (by have := lt_n gs hg t; omega) hN.symm, fun e => h ?_⟩
        rw [index6, index6] at e
        exact congrFun e 0

end Index

end Cert.KernelIdeal.Hand

end
-- ==== Proof.KernelIdeal.Region.lean ====
/-
  The region: the pipeline's proof data (what the scratch holds between
  points, what the outputs' blocks are at a tile's last item), and the body's obligation.
-/
module

public import proofs.«01_k».proof.Proof.KernelIdeal.Blocks
public import Idealize.ShloMosaic.Lib.Pipeline.FrameBody
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx
open Cert.KernelIdeal.Gen Cert.Plan

attribute [local irreducible] Host.reduceWindow Host.reduce Host.gather concatenate
attribute [local irreducible] nT tileT expT loT hiT firstT lastT

variable {F : FTy → Type} [FloatOps F]

local notation "𝕄" => MT nD τ sig Unit (Elt F) ℕ (UR sig nD τ) ℕ

variable (m : (ℓ : Loc nD τ sig) → Buf (Elt F) ℓ) (gs : IVec S40 32) (hg : Good gs)

/-! ## The proof data -/

/-- Between points: the scratch buffers with what is known of them (Tile.lean), the generator register, the tables. -/
def PhiS (c : Dev nD) (i : ℕ) : sProp 𝕄 :=
  iprop((∃ (q : Vec F S256x2560 .fp8e5m2) (sc : Vec F S256x128 .f32) (h : Vec F S256x1024 .f32),
      ⌜Known (sz gs) (Xa m c) (Wa m c) (WSa m c) i q sc h⌝
      ∗ owns (c : Thread nD τ) (Memref.whole cc0_scratch0) fullShare q ∗ owns (c : Thread nD τ) (Memref.whole cc0_scratch1) fullShare sc
      ∗ owns (c : Thread nD τ) (Memref.whole cc0_scratch2) fullShare h)
    ∗ (∃ r, prngReg c r) ∗ Pipeline.ΦT pre0 (pfN (F := F) gs) c)

/-- The tile of `dh` of point `t`'s row tile. -/
abbrev dhAt (c : Dev nD) (t : ℕ) : Vec F S256x1024 .f32 := dhTile (Xa m c) (Wa m c) (WSa m c) (sz gs) (tile (sz gs) t)

/-- What the body leaves in each window's buffer at point `t`: the inputs' blocks as they were, the outputs' tiles. -/
def aft (c : Dev nD) (t : ℕ) : (w : Fin 7) → (spec0 w).block.Idx → Elt F (spec0 w).elt
  | ⟨0, _⟩ => rows (Xa m c) (tile (sz gs) t)
  | ⟨1, _⟩ => wOf (Wa m c) (ex (sz gs) t)
  | ⟨2, _⟩ => wsOf (WSa m c) (ex (sz gs) t)
  | ⟨3, _⟩ => rowsG (Ga m c) (tile (sz gs) t)
  | ⟨4, _⟩ => rowsG (Ua m c) (tile (sz gs) t)
  | ⟨5, _⟩ => otile (dhAt m gs c t) (rowsG (Ga m c) (tile (sz gs) t)) (rowsG (Ua m c) (tile (sz gs) t))
  | ⟨6, _⟩ => sctile (dhAt m gs c t) (rowsG (Ga m c) (tile (sz gs) t)) (rowsG (Ua m c) (tile (sz gs) t))

/-- The proof data of the pipeline on core `c`. -/
def dats (_ : Fin 1) (c : Dev nD) : Dat τ (Elt F) Unit ℕ (UR sig nD τ) ℕ (cfgA (F := F) gs hg) c where
  A w := V m c (Pipeline.arrRef spec0 w)
  after w t := aft m gs c t.val w
  Φ t := PhiS m gs c t.val
  q _ := fullShare
  owed _ := 0

theorem A_eq (c : Dev nD) (w : Fin (cfgA (F := F) gs hg).W) : (dats m gs hg 0 c).A w = V m c (Pipeline.arrRef spec0 w) := by
  dsimp only [dats]
theorem after0_0 (c : Dev nD) (t : Fin (cfgA (F := F) gs hg).N) : (dats m gs hg 0 c).after 0 t = rows (Xa m c) (tile (sz gs) t.val) := by dsimp only [dats]; rfl
theorem after0_1 (c : Dev nD) (t : Fin (cfgA (F := F) gs hg).N) : (dats m gs hg 0 c).after 1 t = wOf (Wa m c) (ex (sz gs) t.val) := by dsimp only [dats]; rfl
theorem after0_2 (c : Dev nD) (t : Fin (cfgA (F := F) gs hg).N) : (dats m gs hg 0 c).after 2 t = wsOf (WSa m c) (ex (sz gs) t.val) := by dsimp only [dats]; rfl
theorem after0_3 (c : Dev nD) (t : Fin (cfgA (F := F) gs hg).N) : (dats m gs hg 0 c).after 3 t = rowsG (Ga m c) (tile (sz gs) t.val) := by dsimp only [dats]; rfl
theorem after0_4 (c : Dev nD) (t : Fin (cfgA (F := F) gs hg).N) : (dats m gs hg 0 c).after 4 t = rowsG (Ua m c) (tile (sz gs) t.val) := by dsimp only [dats]; rfl
theorem after0_5 (c : Dev nD) (t : Fin (cfgA (F := F) gs hg).N) : (dats m gs hg 0 c).after 5 t = otile (dhAt m gs c t.val) (rowsG (Ga m c) (tile (sz gs) t.val)) (rowsG (Ua m c) (tile (sz gs) t.val)) := by dsimp only [dats]; rfl
theorem after0_6 (c : Dev nD) (t : Fin (cfgA (F := F) gs hg).N) : (dats m gs hg 0 c).after 6 t = sctile (dhAt m gs c t.val) (rowsG (Ga m c) (tile (sz gs) t.val)) (rowsG (Ua m c) (tile (sz gs) t.val)) := by dsimp only [dats]; rfl

theorem before0_0 (c : Dev nD) (t : Fin (cfgA (F := F) gs hg).N) (d) : (dats m gs hg 0 c).before 0 t d = rows (Xa m c) (tile (sz gs) t.val) :=
  ((dats m gs hg 0 c).before_in_eq_fetched 0 rfl (fun _ => rfl) (fun _ _ _ => rfl)
    (fun t => (after0_0 m gs hg c t).trans ((blk0 m gs hg t c).symm.trans (by unfold Dat.blockOf iblk; rw [A_eq]))) t d).trans
    ((by unfold Dat.fetched Dat.blockOf iblk; rw [A_eq]; rfl : (dats m gs hg 0 c).fetched 0 t d = iblk m gs hg c 0 t).trans (blk0 m gs hg t c))

theorem before0_1 (c : Dev nD) (t : Fin (cfgA (F := F) gs hg).N) (d) : (dats m gs hg 0 c).before 1 t d = wOf (Wa m c) (ex (sz gs) t.val) :=
  ((dats m gs hg 0 c).before_in_eq_fetched 1 rfl (fun _ => rfl) (fun _ _ _ => rfl)
    (fun t => (after0_1 m gs hg c t).trans ((blk1 m gs hg t c).symm.trans (by unfold Dat.blockOf iblk; rw [A_eq]))) t d).trans
    ((by unfold Dat.fetched Dat.blockOf iblk; rw [A_eq]; rfl : (dats m gs hg 0 c).fetched 1 t d = iblk m gs hg c 1 t).trans (blk1 m gs hg t c))

theorem before0_2 (c : Dev nD) (t : Fin (cfgA (F := F) gs hg).N) (d) : (dats m gs hg 0 c).before 2 t d = wsOf (WSa m c) (ex (sz gs) t.val) :=
  ((dats m gs hg 0 c).before_in_eq_fetched 2 rfl (fun _ => rfl) (fun _ _ _ => rfl)
    (fun t => (after0_2 m gs hg c t).trans ((blk2 m gs hg t c).symm.trans (by unfold Dat.blockOf iblk; rw [A_eq]))) t d).trans
    ((by unfold Dat.fetched Dat.blockOf iblk; rw [A_eq]; rfl : (dats m gs hg 0 c).fetched 2 t d = iblk m gs hg c 2 t).trans (blk2 m gs hg t c))

theorem before0_3 (c : Dev nD) (t : Fin (cfgA (F := F) gs hg).N) (d) : (dats m gs hg 0 c).before 3 t d = rowsG (Ga m c) (tile (sz gs) t.val) :=
  ((dats m gs hg 0 c).before_in_eq_fetched 3 rfl (fun _ => rfl) (fun _ _ _ => rfl)
    (fun t => (after0_3 m gs hg c t).trans ((blk3 m gs hg t c).symm.trans (by unfold Dat.blockOf iblk; rw [A_eq]))) t d).trans
    ((by unfold Dat.fetched Dat.blockOf iblk; rw [A_eq]; rfl : (dats m gs hg 0 c).fetched 3 t d = iblk m gs hg c 3 t).trans (blk3 m gs hg t c))

theorem before0_4 (c : Dev nD) (t : Fin (cfgA (F := F) gs hg).N) (d) : (dats m gs hg 0 c).before 4 t d = rowsG (Ua m c) (tile (sz gs) t.val) :=
  ((dats m gs hg 0 c).before_in_eq_fetched 4 rfl (fun _ => rfl) (fun _ _ _ => rfl)
    (fun t => (after0_4 m gs hg c t).trans ((blk4 m gs hg t c).symm.trans (by unfold Dat.blockOf iblk; rw [A_eq]))) t d).trans
    ((by unfold Dat.fetched Dat.blockOf iblk; rw [A_eq]; rfl : (dats m gs hg 0 c).fetched 4 t d = iblk m gs hg c 4 t).trans (blk4 m gs hg t c))

/-! ## The body's obligation -/

theorem sep7 {a0 a1 a2 a3 a4 a5 a6 b0 b1 b2 b3 b4 b5 b6 : sProp 𝕄} (h0 : a0 = b0) (h1 : a1 = b1) (h2 : a2 = b2) (h3 : a3 = b3) (h4 : a4 = b4)
    (h5 : a5 = b5) (h6 : a6 = b6) : iprop(a0 ∗ a1 ∗ a2 ∗ a3 ∗ a4 ∗ a5 ∗ a6) = iprop(b0 ∗ b1 ∗ b2 ∗ b3 ∗ b4 ∗ b5 ∗ b6) := by
  subst h0 h1 h2 h3 h4 h5 h6; rfl

/-- The tables' halves, one by one. -/
theorem tables_eq (c : Dev nD) (v : pre0.Contents (Elt F)) :
    (Pipeline.ΦT pre0 v c : sProp 𝕄) = iprop(owns (c : Thread nD τ) (Memref.whole main_v14) fullShare.right (v 0)
      ∗ owns (c : Thread nD τ) (Memref.whole main_v42) fullShare.right (v 1) ∗ owns (c : Thread nD τ) (Memref.whole main_v24) fullShare.right (v 2)
      ∗ owns (c : Thread nD τ) (Memref.whole main_v49) fullShare.right (v 3) ∗ owns (c : Thread nD τ) (Memref.whole main_v56) fullShare.right (v 4)
      ∗ owns (c : Thread nD τ) (Memref.whole main_v61) fullShare.right (v 5) ∗ owns (c : Thread nD τ) (Memref.whole main_v67) fullShare.right (v 6)) := by
  refine (bigSep_W0 (M := 𝕄) (fun k => ((c.tc : Thread nD τ).loc (pre0.ref k)) ↦{fullShare.right} v k)).trans ?_
  exact sep7 (owns_whole (c : Thread nD τ) main_v14 _ (v 0)).symm (owns_whole (c : Thread nD τ) main_v42 _ (v 1)).symm (owns_whole (c : Thread nD τ) main_v24 _ (v 2)).symm
    (owns_whole (c : Thread nD τ) main_v49 _ (v 3)).symm (owns_whole (c : Thread nD τ) main_v56 _ (v 4)).symm (owns_whole (c : Thread nD τ) main_v61 _ (v 5)).symm
    (owns_whole (c : Thread nD τ) main_v67 _ (v 6)).symm

section Point
variable (c : Dev nD) (t : Fin (cfgA (F := F) gs hg).N)

abbrev st0 := ((cfgA (F := F) gs hg).win 0).stage ((cfgA (F := F) gs hg).slots t 0)
abbrev st1 := ((cfgA (F := F) gs hg).win 1).stage ((cfgA (F := F) gs hg).slots t 1)
abbrev st2 := ((cfgA (F := F) gs hg).win 2).stage ((cfgA (F := F) gs hg).slots t 2)
abbrev st3 := ((cfgA (F := F) gs hg).win 3).stage ((cfgA (F := F) gs hg).slots t 3)
abbrev st4 := ((cfgA (F := F) gs hg).win 4).stage ((cfgA (F := F) gs hg).slots t 4)
abbrev st5 := ((cfgA (F := F) gs hg).win 5).stage ((cfgA (F := F) gs hg).slots t 5)
abbrev st6 := ((cfgA (F := F) gs hg).win 6).stage ((cfgA (F := F) gs hg).slots t 6)

/-- What the body is called with at point `t`, -/
def bodyPre : sProp 𝕄 :=
  iprop((dats m gs hg 0 c).Φ t.castSucc ∗ (dats m gs hg 0 c).owesAt () t.castSucc
    ∗ (∃ d, owns (c : Thread nD τ) (st0 gs hg t) fullShare ((dats m gs hg 0 c).before 0 t d))
    ∗ (∃ d, owns (c : Thread nD τ) (st1 gs hg t) fullShare ((dats m gs hg 0 c).before 1 t d))
    ∗ (∃ d, owns (c : Thread nD τ) (st2 gs hg t) fullShare ((dats m gs hg 0 c).before 2 t d))
    ∗ (∃ d, owns (c : Thread nD τ) (st3 gs hg t) fullShare ((dats m gs hg 0 c).before 3 t d))
    ∗ (∃ d, owns (c : Thread nD τ) (st4 gs hg t) fullShare ((dats m gs hg 0 c).before 4 t d))
    ∗ (∃ d, owns (c : Thread nD τ) (st5 gs hg t) fullShare ((dats m gs hg 0 c).before 5 t d))
    ∗ (∃ d, owns (c : Thread nD τ) (st6 gs hg t) fullShare ((dats m gs hg 0 c).before 6 t d)))

/-- what it returns at a tile's last item, -/
def postLast : sProp 𝕄 :=
  iprop((dats m gs hg 0 c).Φ t.succ ∗ (dats m gs hg 0 c).owesAt () t.succ
    ∗ owns (c : Thread nD τ) (st0 gs hg t) fullShare ((dats m gs hg 0 c).after 0 t)
    ∗ owns (c : Thread nD τ) (st1 gs hg t) fullShare ((dats m gs hg 0 c).after 1 t)
    ∗ owns (c : Thread nD τ) (st2 gs hg t) fullShare ((dats m gs hg 0 c).after 2 t)
    ∗ owns (c : Thread nD τ) (st3 gs hg t) fullShare ((dats m gs hg 0 c).after 3 t)
    ∗ owns (c : Thread nD τ) (st4 gs hg t) fullShare ((dats m gs hg 0 c).after 4 t)
    ∗ owns (c : Thread nD τ) (st5 gs hg t) fullShare ((dats m gs hg 0 c).after 5 t)
    ∗ owns (c : Thread nD τ) (st6 gs hg t) fullShare ((dats m gs hg 0 c).after 6 t))

/-- and at the others. -/
def postIdle : sProp 𝕄 :=
  iprop((dats m gs hg 0 c).Φ t.succ ∗ (dats m gs hg 0 c).owesAt () t.succ
    ∗ owns (c : Thread nD τ) (st0 gs hg t) fullShare ((dats m gs hg 0 c).after 0 t)
    ∗ owns (c : Thread nD τ) (st1 gs hg t) fullShare ((dats m gs hg 0 c).after 1 t)
    ∗ owns (c : Thread nD τ) (st2 gs hg t) fullShare ((dats m gs hg 0 c).after 2 t)
    ∗ owns (c : Thread nD τ) (st3 gs hg t) fullShare ((dats m gs hg 0 c).after 3 t)
    ∗ owns (c : Thread nD τ) (st4 gs hg t) fullShare ((dats m gs hg 0 c).after 4 t)
    ∗ (∃ d, owns (c : Thread nD τ) (st5 gs hg t) fullShare ((dats m gs hg 0 c).before 5 t d))
    ∗ (∃ d, owns (c : Thread nD τ) (st6 gs hg t) fullShare ((dats m gs hg 0 c).before 6 t d)))

/-- The kernel's function as the body's table calls it at point `t`. -/
abbrev bodyAt : Prog (TpuEff nD τ sig (Elt F) Λ₀ .tc) PUnit :=
  defs₀ (F := F) .tc (cfgA (F := F) gs hg).body ((cfgA (F := F) gs hg).bodyArgs t ((cfgA (F := F) gs hg).slots t))

/-- The kernel's function at the point's own word. -/
def bodyProg (arg0 : BitVec 32) : Prog (TpuEff nD τ sig (Elt F) Λ₀ .tc) PUnit :=
  cc0_dgrad (F := F) (dynb0 (pfN (F := F) gs)) (Pipeline.Grid.Coords.static grid0 ((cfgA (F := F) gs hg).grid.coords t)) arg0
    (Memref.whole main_v42) (Memref.isWhole_whole _) (Memref.whole main_v24) (Memref.isWhole_whole _) (Memref.whole main_v49) (Memref.isWhole_whole _)
    (Memref.whole main_v56) (Memref.isWhole_whole _) (Memref.whole main_v61) (Memref.isWhole_whole _) (Memref.whole main_v67) (Memref.isWhole_whole _)
    (st0 gs hg t) (hstage0_0 (((cfgA (F := F) gs hg).slots t 0).cast nbuf0_0)) (st1 gs hg t) (hstage0_1 (((cfgA (F := F) gs hg).slots t 1).cast nbuf0_1))
    (st2 gs hg t) (hstage0_2 (((cfgA (F := F) gs hg).slots t 2).cast nbuf0_2)) (st3 gs hg t) (hstage0_3 (((cfgA (F := F) gs hg).slots t 3).cast nbuf0_3))
    (st4 gs hg t) (hstage0_4 (((cfgA (F := F) gs hg).slots t 4).cast nbuf0_4)) (st5 gs hg t) (hstage0_5 (((cfgA (F := F) gs hg).slots t 5).cast nbuf0_5))
    (st6 gs hg t) (hstage0_6 (((cfgA (F := F) gs hg).slots t 6).cast nbuf0_6))
    (Memref.whole cc0_scratch0) (Memref.isWhole_whole _) (Memref.whole cc0_scratch1) (Memref.isWhole_whole _) (Memref.whole cc0_scratch2) (Memref.isWhole_whole _)

theorem bodyAt_eq : bodyAt (F := F) gs hg t = bodyProg gs hg t (BitVec.ofNat 32 t.val) := by
  have h : bodyAt (F := F) gs hg t = bodyProg gs hg t (BitVec.ofNat 32 ((cfgA (F := F) gs hg).grid.coords t 0).val) := by
    unfold bodyAt defs₀; rw [Defs.onTc_tc]; rfl
  rw [h, cv]

theorem phi_castSucc : (dats m gs hg 0 c).Φ t.castSucc = PhiS m gs c t.val := rfl
theorem phi_succ : (dats m gs hg 0 c).Φ t.succ = PhiS m gs c (t.val + 1) := rfl
theorem owes_step : (dats m gs hg 0 c).owesAt () t.castSucc = (dats m gs hg 0 c).owesAt () t.succ := rfl

/-- The body at a tile's last item. -/
theorem body_last (E : Set ℕ) (hl : (tile (sz gs) t.val + 1) * 256 ≤ hi (sz gs) t.val) :
    bodyPre m gs hg c t ⊢ wp frame (wpE (defs₀ (F := F)) Variants.none c none) E (bodyAt (F := F) gs hg t) (fun _ => postLast m gs hg c t) := by
  have h63 := lt_63 (F := F) gs hg t
  have hlt := lt_n (F := F) gs hg t
  have hc : k0_cond2 (wordAt (F := F) (lastT gs) (BitVec.ofNat 32 t.val) (chk t.val h63)) = 1#1 := by
    rw [k0_cond2_iff, wordAt_eq _ _ h63]; exact (lastT_word gs hg ⟨t.val, h63⟩).2 hl
  rw [bodyAt_eq]
  unfold bodyPre bodyProg postLast
  simp only [before0_0, before0_1, before0_2, before0_3, before0_4, after0_0, after0_1, after0_2, after0_3, after0_4, after0_5, after0_6]
  rw [phi_castSucc, phi_succ, owes_step]
  unfold PhiS
  rw [tables_eq]
  iintro ⟨⟨⟨%q, %sc, %h, %hK, Hq, Hs, Hh⟩, Hr, T0, T1, T2, T3, T4, T5, T6⟩, Ho, ⟨%d0, H0⟩, ⟨%d1, H1⟩, ⟨%d2, H2⟩, ⟨%d3, H3⟩, ⟨%d4, H4⟩, ⟨%d5, H5⟩, ⟨%d6, H6⟩⟩
  have hst := known_step (sz gs) hg (Xa m c) (Wa m c) (WSa m c) t.val hlt q _ sc _ h hK
    (wordAt (F := F) (firstT gs) (BitVec.ofNat 32 t.val) (chk t.val h63) = 1#32)
    (by rw [wordAt_eq _ _ h63]; exact firstT_word gs hg ⟨t.val, h63⟩) rfl rfl
  iapply (sound_kernel c E _ _ (BitVec.ofNat 32 t.val) _ _ _ _ _ _ _ _ _ _ _ _ _ _ _ _ _ _ _ _ _ _ _ _ _ _ _ _ _ _ _ _
    fullShare.right (tileT gs) (loT gs) (hiT gs) (firstT gs) (lastT gs) (chk t.val h63)
    (rows (Xa m c) (tile (sz gs) t.val)) (wOf (Wa m c) (ex (sz gs) t.val)) (wsOf (WSa m c) (ex (sz gs) t.val))
    (rowsG (Ga m c) (tile (sz gs) t.val)) (rowsG (Ua m c) (tile (sz gs) t.val)) q sc h _ _ _ _ rfl rfl _)
  rw [wordAt_eq (tileT gs) _ h63, wordAt_eq (loT gs) _ h63, wordAt_eq (hiT gs) _ h63, tileT_word gs hg ⟨t.val, h63⟩, loT_word gs hg ⟨t.val, h63⟩, hiT_word gs hg ⟨t.val, h63⟩,
    if_pos hc, if_pos hc]
  have hd := known_last _ _ _ _ _ _ _ _ hst hl
  isplitl [T1]; · iexact T1
  isplitl [T3]; · iexact T3
  isplitl [T4]; · iexact T4
  isplitl [T5]; · iexact T5
  isplitl [T6]; · iexact T6
  isplitl [H0]; · iexact H0
  isplitl [H1]; · iexact H1
  isplitl [H2]; · iexact H2
  isplitl [H3]; · iexact H3
  isplitl [H4]; · iexact H4
  isplitl [Hq]; · iexact Hq
  isplitl [Hs]; · iexact Hs
  isplitl [Hh]; · iexact Hh
  isplitl [H5]; · iexact H5
  isplitl [H6]; · iexact H6
  iintro ⟨T1, T3, T4, T5, T6, H0, H1, H2, H3, H4, Hq, Hs, Hh, H5, H6⟩
  isplitl [Hq Hs Hh Hr T0 T1 T2 T3 T4 T5 T6]
  · isplitl [Hq Hs Hh]
    · iexists _; iexists _; iexists _
      isplitr; · ipureintro; exact hst
      isplitl [Hq]; · iexact Hq
      isplitl [Hs]; · iexact Hs
      iexact Hh
    isplitl [Hr]; · iexact Hr
    isplitl [T0]; · iexact T0
    isplitl [T1]; · iexact T1
    isplitl [T2]; · iexact T2
    isplitl [T3]; · iexact T3
    isplitl [T4]; · iexact T4
    isplitl [T5]; · iexact T5
    iexact T6
  isplitl [Ho]; · iexact Ho
  isplitl [H0]; · iexact H0
  isplitl [H1]; · iexact H1
  isplitl [H2]; · iexact H2
  isplitl [H3]; · iexact H3
  isplitl [H4]; · iexact H4
  rw [hd]
  isplitl [H5]; · iexact H5
  iexact H6

/-- The body at the other items. -/
theorem body_idle (E : Set ℕ) (hl : ¬ (tile (sz gs) t.val + 1) * 256 ≤ hi (sz gs) t.val) :
    bodyPre m gs hg c t ⊢ wp frame (wpE (defs₀ (F := F)) Variants.none c none) E (bodyAt (F := F) gs hg t) (fun _ => postIdle m gs hg c t) := by
  have h63 := lt_63 (F := F) gs hg t
  have hlt := lt_n (F := F) gs hg t
  have hc : ¬ (k0_cond2 (wordAt (F := F) (lastT gs) (BitVec.ofNat 32 t.val) (chk t.val h63)) = 1#1) := by
    rw [k0_cond2_iff, wordAt_eq _ _ h63]; exact fun h => hl ((lastT_word gs hg ⟨t.val, h63⟩).1 h)
  rw [bodyAt_eq]
  unfold bodyPre bodyProg postIdle
  simp only [before0_0, before0_1, before0_2, before0_3, before0_4, after0_0, after0_1, after0_2, after0_3, after0_4]
  rw [phi_castSucc, phi_succ, owes_step]
  unfold PhiS
  rw [tables_eq]
  iintro ⟨⟨⟨%q, %sc, %h, %hK, Hq, Hs, Hh⟩, Hr, T0, T1, T2, T3, T4, T5, T6⟩, Ho, ⟨%d0, H0⟩, ⟨%d1, H1⟩, ⟨%d2, H2⟩, ⟨%d3, H3⟩, ⟨%d4, H4⟩, ⟨%d5, H5⟩, ⟨%d6, H6⟩⟩
  have hst := known_step (sz gs) hg (Xa m c) (Wa m c) (WSa m c) t.val hlt q _ sc _ h hK
    (wordAt (F := F) (firstT gs) (BitVec.ofNat 32 t.val) (chk t.val h63) = 1#32)
    (by rw [wordAt_eq _ _ h63]; exact firstT_word gs hg ⟨t.val, h63⟩) rfl rfl
  iapply (sound_kernel c E _ _ (BitVec.ofNat 32 t.val) _ _ _ _ _ _ _ _ _ _ _ _ _ _ _ _ _ _ _ _ _ _ _ _ _ _ _ _ _ _ _ _
    fullShare.right (tileT gs) (loT gs) (hiT gs) (firstT gs) (lastT gs) (chk t.val h63)
    (rows (Xa m c) (tile (sz gs) t.val)) (wOf (Wa m c) (ex (sz gs) t.val)) (wsOf (WSa m c) (ex (sz gs) t.val))
    (rowsG (Ga m c) (tile (sz gs) t.val)) (rowsG (Ua m c) (tile (sz gs) t.val)) q sc h _ _ _ _ rfl rfl _)
  rw [wordAt_eq (tileT gs) _ h63, wordAt_eq (loT gs) _ h63, wordAt_eq (hiT gs) _ h63, tileT_word gs hg ⟨t.val, h63⟩, loT_word gs hg ⟨t.val, h63⟩, hiT_word gs hg ⟨t.val, h63⟩,
    if_neg hc, if_neg hc]
  isplitl [T1]; · iexact T1
  isplitl [T3]; · iexact T3
  isplitl [T4]; · iexact T4
  isplitl [T5]; · iexact T5
  isplitl [T6]; · iexact T6
  isplitl [H0]; · iexact H0
  isplitl [H1]; · iexact H1
  isplitl [H2]; · iexact H2
  isplitl [H3]; · iexact H3
  isplitl [H4]; · iexact H4
  isplitl [Hq]; · iexact Hq
  isplitl [Hs]; · iexact Hs
  isplitl [Hh]; · iexact Hh
  isplitl [H5]; · iexact H5
  isplitl [H6]; · iexact H6
  iintro ⟨T1, T3, T4, T5, T6, H0, H1, H2, H3, H4, Hq, Hs, Hh, H5, H6⟩
  isplitl [Hq Hs Hh Hr T0 T1 T2 T3 T4 T5 T6]
  · isplitl [Hq Hs Hh]
    · iexists _; iexists _; iexists _
      isplitr; · ipureintro; exact hst
      isplitl [Hq]; · iexact Hq
      isplitl [Hs]; · iexact Hs
      iexact Hh
    isplitl [Hr]; · iexact Hr
    isplitl [T0]; · iexact T0
    isplitl [T1]; · iexact T1
    isplitl [T2]; · iexact T2
    isplitl [T3]; · iexact T3
    isplitl [T4]; · iexact T4
    isplitl [T5]; · iexact T5
    iexact T6
  isplitl [Ho]; · iexact Ho
  isplitl [H0]; · iexact H0
  isplitl [H1]; · iexact H1
  isplitl [H2]; · iexact H2
  isplitl [H3]; · iexact H3
  isplitl [H4]; · iexact H4
  isplitl [H5]
  · iexists d5; iexact H5
  iexists d6; iexact H6

end Point

set_option pp.deepTerms false in
set_option pp.maxSteps 60 in
/-- The body's obligation. -/
theorem hbody (c : Dev nD) : BodyObligationLoose (dats (F := F) m gs hg 0 c) (defs₀ (F := F)) Variants.none () Set.univ := fun t => by
  by_cases hl : (tile (sz gs) t.val + 1) * 256 ≤ hi (sz gs) t.val
  · have h5 : (cfgA (F := F) gs hg).idle (5 : Fin 7) ((cfgA (F := F) gs hg).grid.coords t) = false :=
      (idle5 (F := F) gs hg t).trans (by rw [decide_eq_true hl]; rfl)
    have h6 : (cfgA (F := F) gs hg).idle (6 : Fin 7) ((cfgA (F := F) gs hg).grid.coords t) = false :=
      (idle6 (F := F) gs hg t).trans (by rw [decide_eq_true hl]; rfl)
    rw [bigSep_W0, bigSep_W0]
    rewrite [h5]
    try rewrite [h6]
    exact triple_restated (body_last m gs hg c t Set.univ hl) rfl .rfl fun _ => .rfl
  · have h5 : (cfgA (F := F) gs hg).idle (5 : Fin 7) ((cfgA (F := F) gs hg).grid.coords t) = true :=
      (idle5 (F := F) gs hg t).trans (by rw [decide_eq_false hl]; rfl)
    have h6 : (cfgA (F := F) gs hg).idle (6 : Fin 7) ((cfgA (F := F) gs hg).grid.coords t) = true :=
      (idle6 (F := F) gs hg t).trans (by rw [decide_eq_false hl]; rfl)
    have f5 : ((cfgA (F := F) gs hg).win (5 : Fin 7)).flush t = false :=
      Bool.eq_false_iff.2 fun h => hl ((flush5 (F := F) gs hg t).1 h)
    have f6 : ((cfgA (F := F) gs hg).win (6 : Fin 7)).flush t = false :=
      Bool.eq_false_iff.2 fun h => hl ((flush6 (F := F) gs hg t).1 h)
    rw [bigSep_W0, bigSep_W0]
    rewrite [h5]
    try rewrite [h6]
    rewrite [f5]
    try rewrite [f6]
    exact triple_restated (body_idle m gs hg c t Set.univ hl) rfl .rfl fun _ => .rfl

end Cert.KernelIdeal.Hand

end
-- ==== Proof.KernelIdeal.Run.lean ====
/-
  The run: @main to the region, the region, and what the arrays hold at the end, for a memory whose group sizes are
  admissible.
-/
module

public import proofs.«01_k».proof.Proof.KernelIdeal.Region

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx
open Cert.KernelIdeal.Gen Cert.Plan

attribute [local irreducible] Host.reduceWindow Host.reduce Host.gather concatenate
attribute [local irreducible] nT tileT expT loT hiT firstT lastT

variable {F : FTy → Type} [FloatOps F]

local notation "𝕄" => MT nD τ sig Unit (Elt F) ℕ (UR sig nD τ) ℕ

variable (m : (ℓ : Loc nD τ sig) → Buf (Elt F) ℓ) (ρ : Dev nD → PrngReg) (gs : IVec S40 32) (hg : Good gs)

/-- The launch's group sizes are the same on every core (there is one). -/
theorem gsOf_eq (c c' : Dev nD) : gsOf m c = gsOf m c' := by
  obtain rfl : c = c' := Subsingleton.elim (α := Fin 1) _ _
  rfl

/-- The tables at the region's entry. -/
theorem hpf (hgs : ∀ c, gsOf m c = gs) (c : Dev nD) : ∀ k : Fin 7, V m c (pre0.ref k) = pfN (F := F) gs k := by
  rw [← hgs c]
  intro k
  match k with
  | ⟨0, _⟩ => exact V_main_v14 m c
  | ⟨1, _⟩ => exact V_main_v42 m c
  | ⟨2, _⟩ => exact V_main_v24 m c
  | ⟨3, _⟩ => exact V_main_v49 m c
  | ⟨4, _⟩ => exact V_main_v56 m c
  | ⟨5, _⟩ => exact V_main_v61 m c
  | ⟨6, _⟩ => exact V_main_v67 m c

/-- The class invariant at entry is the proof data's: nothing is known of the scratch yet. -/
theorem hin (c : Dev nD) : iprop(Pipeline.ΦA spec0 c ∗ Pipeline.ΦT pre0 (pfN (F := F) gs) c) ⊢ (dats m gs hg 0 c).Φ 0 := by
  show iprop(Pipeline.ΦA spec0 c ∗ Pipeline.ΦT pre0 (pfN (F := F) gs) c) ⊢ PhiS m gs c 0
  unfold Pipeline.ΦA PhiS
  rw [scopedRest0_eq]
  simp only [owns_whole]
  iintro ⟨⟨⟨⟨%f0, H0⟩, ⟨%f1, H1⟩, ⟨%f2, H2⟩⟩, Hr⟩, Ht⟩
  isplitl [H0 H1 H2]
  · iexists f0; iexists f1; iexists f2
    isplitr; · ipureintro; exact fun h => absurd rfl h
    isplitl [H0]; · iexact H0
    isplitl [H1]; · iexact H1
    iexact H2
  isplitl [Hr]; · iexact Hr
  iexact Ht

/-- And at exit it is had back. -/
theorem hout (c : Dev nD) (i : ℕ) : (PhiS (F := F) m gs c i : sProp 𝕄) ⊢ Pipeline.ΦA spec0 c := by
  unfold Pipeline.ΦA PhiS
  rw [scopedRest0_eq]
  simp only [owns_whole]
  iintro ⟨⟨%f0, %f1, %f2, -, H0, H1, H2⟩, Hr, -⟩
  isplitl [H0 H1 H2]
  · isplitl [H0]; · iexists f0; iexact H0
    isplitl [H1]; · iexists f1; iexact H1
    iexists f2; iexact H2
  iexact Hr

set_option backward.isDefEq.respectTransparency.types false in
set_option maxHeartbeats 800000 in
/-- THE RUN: every execution of @main ends, with the windows' arrays as the write-backs leave them, every other
    buffer as it was at the region's entry, and every semaphore counter at zero. -/
theorem run_main (hgs : ∀ c, gsOf m c = gs) :
    θ_run defs (onTc (τ := τ) (main (F := F))) (s₀ m ρ)
      (fun r => Pipeline.FramePost (Pipeline.pin pcfgs (fun _ => adm gs hg)) (dats m gs hg) 0 (V m) r ∧ r.2.sem = fun _ => 0) :=
  Pipeline.θ_run_frameP_track (Q' := _) pcfgs (fun _ => adm gs hg) (dats m gs hg) (0 : Fin 1) launch0 defs₀ Variants.none m ρ main
    (fun c => hbody m gs hg c) (hshare := fun c => (dats m gs hg 0 c).share_full fun _ => rfl) (howed := fun _ _ => rfl) (V := V m)
    (hmain := hmain m Variants.none) (hA := A_eq m gs hg) (hpf := hpf m gs hgs) (hin := hin m gs hg) (hout := fun c => hout m gs c _)

include hg in
/-- THE FRAME: every execution ends, leaves the arguments' arrays as they were and every counter at zero. -/
theorem frame (hgs : ∀ c, gsOf m c = gs) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r (hr : _ ∧ _) => ⟨fun c => ⟨
      ((hr.1 c).1 (0 : Fin 7)).trans (((dats m gs hg 0 c).arrAt_in (0 : Fin 7) rfl _).trans ((A_eq m gs hg c (0 : Fin 7)).trans (V_arg0 m c))),
      ((hr.1 c).2 main_arg1 (Pipeline.mem_restRefs_of main_arg1 (by decide) (by decide : ∀ w : Fin 7, (spec0 w).arr.view.ref ≠ main_arg1))).trans (V_arg1 m c),
      ((hr.1 c).1 (1 : Fin 7)).trans (((dats m gs hg 0 c).arrAt_in (1 : Fin 7) rfl _).trans ((A_eq m gs hg c (1 : Fin 7)).trans (V_arg2 m c))),
      ((hr.1 c).2 main_arg3 (Pipeline.mem_restRefs_of main_arg3 (by decide) (by decide : ∀ w : Fin 7, (spec0 w).arr.view.ref ≠ main_arg3))).trans (V_arg3 m c),
      ((hr.1 c).1 (3 : Fin 7)).trans (((dats m gs hg 0 c).arrAt_in (3 : Fin 7) rfl _).trans ((A_eq m gs hg c (3 : Fin 7)).trans (V_arg4 m c))),
      ((hr.1 c).1 (4 : Fin 7)).trans (((dats m gs hg 0 c).arrAt_in (4 : Fin 7) rfl _).trans ((A_eq m gs hg c (4 : Fin 7)).trans (V_arg5 m c)))⟩, hr.2⟩)
    (run_main m ρ gs hg hgs)

end Cert.KernelIdeal.Hand

end
-- ==== Proof.KernelIdeal.Sizes.lean ====
/-
  The precondition read back: group sizes between 0 and 6144 that sum to 6144 as words sum to 6144 as numbers.
-/
module

public import proofs.«01_k».proof.Proof.KernelIdeal.Words
public import proofs.«01_k».proof.Pre_groups_fill_rows
public import Idealize.ShloMosaic.Lib.ReduceAll
public import Idealize.ShloMosaic.Lib.WordSum

@[expose] public section

set_option maxRecDepth 16384

noncomputable section

namespace Cert.KernelIdeal.Hand

open Idealize.ShloMosaic Idealize.ShloMosaic.ValueIdx Idealize.ShloMosaic.WordCmp
open Cert.Plan

instance : Subsingleton (⟨0, ![]⟩ : Shape).Idx := ⟨fun a b => funext fun i => i.elim0⟩

/-- A vector's sum over its indices is the running sum to its end. -/
theorem sum_idx (gs : IVec S40 32) : ∑ i : S40.Idx, (gs i).toNat = pre (sz gs) 40 := by
  have e : ∑ i : S40.Idx, (gs i).toNat = ∑ e : Fin 40, (gs (ix1 e)).toNat := by
    refine Finset.sum_bij' (fun i _ => (i 0 : Fin 40)) (fun e _ => (ix1 e : S40.Idx)) (fun _ _ => Finset.mem_univ _) (fun _ _ => Finset.mem_univ _) ?_ (fun _ _ => rfl) ?_
    · intro i _
      refine funext fun a => ?_
      obtain rfl : a = (0 : Fin 1) := Subsingleton.elim (α := Fin 1) _ _
      rfl
    · intro i _
      refine congrArg (fun j => (gs j).toNat) (funext fun a => ?_)
      obtain rfl : a = (0 : Fin 1) := Subsingleton.elim (α := Fin 1) _ _
      rfl
  have h : ∀ k, pre (sz gs) k = ∑ e ∈ Finset.range k, sz gs e := fun k => by
    induction k with
    | zero => rfl
    | succ k ih => rw [pre_succ, Finset.sum_range_succ, ih]
  rw [e, h, Finset.sum_range]
  refine Finset.sum_congr rfl fun e _ => ?_
  unfold sz
  rw [dif_pos e.isLt]

/-- THE PRECONDITION, read back. -/
theorem good_of_pre {F : FTy → Type} [FloatOps F] [Cert.Pre_groups_fill_rows.Facts] (x0 : FVec F S6144x2560 .bf16) (gs : IVec S40 32) (x2 : FVec F S40x1024x2560 .fp8e4m3)
    (x3 : FVec F S40x1024 .f32) (x4 x5 : FVec F S6144x1024 .bf16)
    (h : (Cert.Pre_groups_fill_rows.fn x0 gs x2 x3 x4 x5).1 = (fun _ => 1#1) ∧ (Cert.Pre_groups_fill_rows.fn x0 gs x2 x3 x4 x5).2.1 = (fun _ => 1#1)
      ∧ (Cert.Pre_groups_fill_rows.fn x0 gs x2 x3 x4 x5).2.2 = (fun _ => 1#1)) : Good gs := by
  obtain ⟨h1, h2, h3⟩ := h
  dsimp only [Cert.Pre_groups_fill_rows.fn] at h1 h2 h3
  have j : (⟨0, ![]⟩ : Shape).Idx := fun i => i.elim0
  have b : ∀ i : S40.Idx, (gs i).toNat ≤ 6144 := fun i => by
    have e1 : IntOp.cmpi .sge (gs i) 0#32 = 1#1 := Host.reduce_andi_all _ _ _ _ j (congrFun h1 j) i
    have e2 : IntOp.cmpi .sle (gs i) 6144#32 = 1#1 := Host.reduce_andi_all _ _ _ _ j (congrFun h2 j) i
    rw [cmpi_sge_zero, ofBool_decide_eq_one_iff] at e1
    rw [cmpi_sle_of_lt e1 (by decide), ofBool_decide_eq_one_iff] at e2
    exact e2
  have e3 := congrFun h3 j
  have hb : ∑ i : S40.Idx, (gs i).toNat < 2 ^ 32 := by
    rw [sum_idx]
    have hk : ∀ k, k ≤ 40 → pre (sz gs) k ≤ k * 6144 := fun k => by
      induction k with
      | zero => intro _; exact le_refl _
      | succ k ih =>
        intro hk
        have := ih (by omega)
        have hs : sz gs k ≤ 6144 := by unfold sz; rw [dif_pos (by omega)]; exact b _
        rw [pre_succ]; omega
    have := hk 40 (le_refl _)
    omega
  have e4 : Host.reduce IntOp.addi gs (constantI Cert.Pre_groups_fill_rows.S_ 32 0#32) Cert.Pre_groups_fill_rows.Facts.reducesTo_S40_S_d0 Cert.Pre_groups_fill_rows.Facts.h_S_ j = 6144#32 := by
    have e5 : IntOp.cmpi .eq (Host.reduce IntOp.addi gs (constantI Cert.Pre_groups_fill_rows.S_ 32 0#32) Cert.Pre_groups_fill_rows.Facts.reducesTo_S40_S_d0 Cert.Pre_groups_fill_rows.Facts.h_S_ j) 6144#32 = 1#1 := e3
    rw [cmpi_eq_eq, ofBool_decide_eq_one_iff] at e5
    exact e5
  rw [Host.reduce_eq_fold] at e4
  have e6 : ∀ S : Finset S40.Idx, Finset.fold IntOp.addi (0#32) gs S = ∑ i ∈ S, gs i := fun S => by
    induction S using Finset.cons_induction with
    | empty => rfl
    | cons a S ha ih => rw [Finset.fold_cons, Finset.sum_cons, ih]; rfl
  rw [show (constantI Cert.Pre_groups_fill_rows.S_ 32 0#32) (Shape.Idx.first Cert.Pre_groups_fill_rows.Facts.h_S_) = 0#32 from rfl, e6,
    Finset.filter_true_of_mem (fun i _ => Subsingleton.elim _ _)] at e4
  have e7 := congrArg BitVec.toNat e4
  rw [WordSum.toNat_sum _ _ hb, sum_idx] at e7
  exact e7

end Cert.KernelIdeal.Hand

end
-- ==== Proof.Scale.lean ====
/-
  The power-of-two scale of a row and its reciprocal, as the kernel finds them (by counting the exponent fields whose
  value the argument reaches) and as the reference does (by counting the powers of two), and that the two agree.
-/
module

public import Idealize.ShloMosaic.PureOps.Ideal.Laws
public import Idealize.ShloMosaic.Lib.WordSum
public import Idealize.ShloMosaic.Lib.Tactic

@[expose] public section

noncomputable section

namespace Cert.Spec

open Idealize.ShloMosaic
open scoped BigOperators

/-- The number whose word has exponent field `t` and nothing else. -/
def fld (t : BitVec 32) : EReal := Ideal.ofBits .f32 (IntOp.shli .vector t 23#32)

/-- How many of the 256 exponent fields `x` reaches; -/
def kcnt (x : EReal) : BitVec 32 := ∑ t : Fin 256, (Ideal.cmp .oge x (fld (BitVec.ofNat 32 t.val))).setWidth 32
/-- the exponent field of `x`; -/
def kex (x : EReal) : BitVec 32 := kcnt x - 1#32
/-- whether it is that of an ordinary number; -/
def kok (x : EReal) : BitVec 1 := IntOp.andi (IntOp.cmpi .sgt (kex x) 0#32) (IntOp.cmpi .slt (kex x) 255#32)
/-- the kernel's scale -/
def ksc (x : EReal) : EReal := fld (Scalar.select (kok x) (kex x + 1#32) 127#32)
/-- and its reciprocal. -/
def kiv (x : EReal) : EReal := fld (Scalar.select (kok x) (253#32 - kex x) 127#32)

/-- The powers of two the reference counts; -/
def pw (k : ℕ) : EReal := Ideal.exp2 ((((BitVec.ofNat 32 k - 126#32).toInt : ℝ)) : EReal)
/-- how many of them `x` reaches; -/
def rcnt (x : EReal) : BitVec 32 := ∑ k : Fin 254, (Ideal.cmp .oge x (pw k.val)).setWidth 32
/-- the exponent of the scale; -/
def rex (x : EReal) : BitVec 32 :=
  Scalar.select (IntOp.ori (Ideal.cmp .olt x (Ideal.ofBits .f32 0x00800000#32)) (Ideal.cmp .oeq x (Ideal.ofBits .f32 0x7F800000#32))) 0#32 (rcnt x - 126#32)
/-- the reference's scale -/
def rsc (x : EReal) : EReal := fld (rex x + 127#32)
/-- and its reciprocal. -/
def riv (x : EReal) : EReal := fld (0#32 - rex x + 127#32)

theorem toInt_pw (k : ℕ) (hk : k < 254) : (BitVec.ofNat 32 k - 126#32).toInt = (k : ℤ) - 126 := by
  rw [BitVec.toInt_sub, BitVec.toInt_ofNat']
  rw [show (126#32 : BitVec 32).toInt = 126 from rfl]
  have : (k : ℤ).bmod (2 ^ 32) = k := by
    rw [Int.bmod_eq_of_le] <;> omega
  simp only [this]
  rw [Int.bmod_eq_of_le] <;> omega

theorem pw_eq (k : ℕ) (hk : k < 254) : pw k = (((2 : ℝ) ^ ((k : ℤ) - 126) : ℝ) : EReal) := by
  unfold pw
  rw [toInt_pw k hk, Ideal.exp2_coe]
  congr 1
  exact Real.rpow_intCast 2 _

theorem fld_bits (t : ℕ) (ht : t < 256) : IntOp.shli .vector (BitVec.ofNat 32 t) 23#32 = BitVec.ofNat 32 (t * 2 ^ 23) := by
  unfold IntOp.shli
  rw [if_pos (by decide)]
  apply BitVec.eq_of_toNat_eq
  have h : (BitVec.ofNat 32 t <<< (23#32 : BitVec 32)).toNat = (BitVec.ofNat 32 t).toNat <<< 23 % 2 ^ 32 := rfl
  rw [h, BitVec.toNat_ofNat, BitVec.toNat_ofNat, Nat.shiftLeft_eq]
  omega

theorem fld_val (t : ℕ) (ht : t < 256) : fld (BitVec.ofNat 32 t)
    = if t = 255 then ⊤ else if t = 0 then 0 else (((2 : ℝ) ^ ((t : ℤ) - 127) : ℝ) : EReal) := by
  unfold fld
  rw [fld_bits t ht]
  have e1 : (BitVec.ofNat 32 (t * 2 ^ 23)).toNat = t * 2 ^ 23 := by
    rw [BitVec.toNat_ofNat]; omega
  have h1 : ((BitVec.ofNat 32 (t * 2 ^ 23)).extractLsb' 31 1 == 1#1) = false := by
    have : (BitVec.ofNat 32 (t * 2 ^ 23)).extractLsb' 31 1 = 0#1 := by
      apply BitVec.eq_of_toNat_eq
      rw [BitVec.extractLsb'_toNat, e1, Nat.shiftRight_eq_div_pow]
      show _ = 0
      omega
    rw [this]; rfl
  have h2 : ((BitVec.ofNat 32 (t * 2 ^ 23)).extractLsb' 23 8).toNat = t := by
    rw [BitVec.extractLsb'_toNat, e1, Nat.shiftRight_eq_div_pow]; omega
  have h3 : ((BitVec.ofNat 32 (t * 2 ^ 23)).extractLsb' 0 23).toNat = 0 := by
    rw [BitVec.extractLsb'_toNat, e1, Nat.shiftRight_eq_div_pow]; omega
  show Ideal.ieee 8 23 (BitVec.ofNat 32 (t * 2 ^ 23)) = _
  unfold Ideal.ieee
  simp only [show 8 + 23 = 31 from rfl, h1, h2, h3]
  norm_num
  split_ifs
  · rfl
  · simp
  · have h : (8388608 : ℝ) * (2 : ℝ) ^ ((t : ℤ) - 127 - 23) = (2 : ℝ) ^ ((t : ℤ) - 127) := by
      rw [zpow_sub₀ (by norm_num) ((t : ℤ) - 127) 23]
      norm_num
      ring
    rw [← h, EReal.coe_mul]

theorem fld_pw (k : ℕ) (hk : k < 254) : fld (BitVec.ofNat 32 (k + 1)) = pw k := by
  rw [fld_val _ (by omega), pw_eq k hk, if_neg (by omega), if_neg (by omega)]
  congr 2
  push_cast; ring

theorem fld_zero : fld (BitVec.ofNat 32 0) = 0 := by rw [fld_val 0 (by decide)]; simp
theorem fld_top : fld (BitVec.ofNat 32 255) = ⊤ := by rw [fld_val 255 (by decide)]; simp
theorem small_eq : Ideal.ofBits .f32 0x00800000#32 = pw 0 := by
  rw [← fld_pw 0 (by decide)]
  unfold fld; rw [show (0 + 1 : ℕ) = 1 from rfl, fld_bits 1 (by decide)]; rfl
theorem inf_eq : Ideal.ofBits .f32 0x7F800000#32 = ⊤ := by
  rw [← fld_top]
  unfold fld; rw [fld_bits 255 (by decide)]; rfl

theorem cmp_oge (x y : EReal) : Ideal.cmp .oge x y = if y ≤ x then 1#1 else 0#1 := by
  unfold Ideal.cmp; by_cases h : y ≤ x <;> simp [h]
theorem cmp_olt (x y : EReal) : Ideal.cmp .olt x y = if x < y then 1#1 else 0#1 := by
  unfold Ideal.cmp; by_cases h : x < y <;> simp [h]
theorem cmp_oeq (x y : EReal) : Ideal.cmp .oeq x y = if x = y then 1#1 else 0#1 := by
  unfold Ideal.cmp; by_cases h : x = y <;> simp [h]

theorem sum256 (f : ℕ → BitVec 32) : ∑ t : Fin 256, f t.val = f 0 + ((∑ k : Fin 254, f (k.val + 1)) + f 255) := by
  rw [Fin.sum_univ_succ (n := 255) (fun t : Fin 256 => f t.val), Fin.sum_univ_castSucc (n := 254) (fun t : Fin 255 => f (Fin.succ t).val)]
  rfl

/-- The kernel counts what the reference counts, the zero field and, at infinity, the last field. -/
theorem kcnt_eq (x : EReal) (hx : 0 ≤ x) : kcnt x = 1#32 + (rcnt x + (if x = ⊤ then 1#32 else 0#32)) := by
  unfold kcnt rcnt
  rw [sum256 (fun t => (Ideal.cmp .oge x (fld (BitVec.ofNat 32 t))).setWidth 32)]
  have h0 : (Ideal.cmp .oge x (fld (BitVec.ofNat 32 0))).setWidth 32 = 1#32 := by
    rw [fld_zero, cmp_oge, if_pos hx]; rfl
  have h1 : ∀ k : Fin 254, (Ideal.cmp .oge x (fld (BitVec.ofNat 32 (k.val + 1)))).setWidth 32 = (Ideal.cmp .oge x (pw k.val)).setWidth 32 := fun k => by
    rw [fld_pw k.val k.isLt]
  have h2 : (Ideal.cmp .oge x (fld (BitVec.ofNat 32 255))).setWidth 32 = if x = ⊤ then 1#32 else 0#32 := by
    rw [fld_top, cmp_oge]
    by_cases h : x = ⊤
    · rw [if_pos h, if_pos (by rw [h])]; rfl
    · rw [if_neg h, if_neg (by rwa [top_le_iff])]; rfl
  rw [h0, h2, Finset.sum_congr rfl fun k _ => h1 k]

theorem pw_mono (k : ℕ) (hk : k < 254) : pw 0 ≤ pw k := by
  rw [pw_eq 0 (by decide), pw_eq k hk]
  refine EReal.coe_le_coe_iff.2 (zpow_le_zpow_right₀ (by norm_num) (by omega))

theorem pw_lt_top (k : ℕ) (hk : k < 254) : pw k < ⊤ := by
  rw [pw_eq k hk]; exact EReal.coe_lt_top _

/-- How many the reference counts. -/
theorem rcnt_toNat (x : EReal) : (rcnt x).toNat = ∑ k : Fin 254, (if pw k.val ≤ x then 1 else 0) := by
  have e : ∀ k : Fin 254, ((Ideal.cmp .oge x (pw k.val)).setWidth 32).toNat = if pw k.val ≤ x then 1 else 0 := fun k => by
    rw [cmp_oge]; split_ifs <;> rfl
  have hle : ∑ k : Fin 254, ((Ideal.cmp .oge x (pw k.val)).setWidth 32).toNat ≤ 254 := by
    refine (Finset.sum_le_sum (g := fun _ => 1) fun k _ => ?_).trans (by simp)
    rw [e]; split_ifs <;> omega
  unfold rcnt
  rw [WordSum.toNat_sum _ _ (lt_of_le_of_lt hle (by norm_num))]
  exact Finset.sum_congr rfl fun k _ => e k

theorem rcnt_le (x : EReal) : (rcnt x).toNat ≤ 254 := by
  rw [rcnt_toNat]
  refine (Finset.sum_le_sum (g := fun _ => 1) fun k _ => ?_).trans (by simp)
  split_ifs <;> omega

theorem rcnt_top : rcnt ⊤ = 254#32 := by
  apply BitVec.eq_of_toNat_eq
  rw [rcnt_toNat, Finset.sum_congr rfl (g := fun _ => 1) fun k _ => if_pos le_top]
  simp

theorem rcnt_small (x : EReal) (h : x < pw 0) : rcnt x = 0#32 := by
  apply BitVec.eq_of_toNat_eq
  rw [rcnt_toNat, Finset.sum_congr rfl (g := fun _ => 0) fun k _ => if_neg (not_le.2 (lt_of_lt_of_le h (pw_mono k.val k.isLt)))]
  simp

theorem rcnt_pos (x : EReal) (h : pw 0 ≤ x) : 1 ≤ (rcnt x).toNat := by
  rw [rcnt_toNat]
  refine Nat.pos_of_ne_zero fun hz => ?_
  have h0 : (if pw 0 ≤ x then 1 else 0) = (0 : ℕ) := Finset.sum_eq_zero_iff.1 hz (⟨0, by decide⟩ : Fin 254) (Finset.mem_univ _)
  rw [if_pos h] at h0
  exact absurd h0 (by decide)

/-- The three cases of a row: its scale is one in the first two. -/
theorem cases (x : EReal) (hx : 0 ≤ x) :
    (kok x = 0#1 ∧ rex x = 0#32) ∨ (kok x = 1#1 ∧ rex x = rcnt x - 126#32 ∧ kex x = rcnt x) := by
  have hk : kex x = rcnt x + (if x = ⊤ then 1#32 else 0#32) := by
    unfold kex; rw [kcnt_eq x hx]; exact add_sub_cancel_left _ _
  by_cases ht : x = ⊤
  · left
    subst ht
    refine ⟨?_, ?_⟩
    · unfold kok; rw [hk, rcnt_top]; rfl
    · unfold rex; rw [small_eq, inf_eq, cmp_olt, cmp_oeq, if_pos rfl, if_neg (not_lt.2 le_top)]; rfl
  rw [if_neg ht, BitVec.add_zero] at hk
  by_cases hs : x < pw 0
  · left
    refine ⟨?_, ?_⟩
    · unfold kok; rw [hk, rcnt_small x hs]; rfl
    · unfold rex; rw [small_eq, inf_eq, cmp_olt, cmp_oeq, if_pos hs, if_neg ht]; rfl
  right
  refine ⟨?_, ?_, hk⟩
  · have h1 := rcnt_le x
    have h2 := rcnt_pos x (not_lt.1 hs)
    unfold kok; rw [hk]
    obtain ⟨n, hn⟩ : ∃ n, n = (rcnt x).toNat := ⟨_, rfl⟩
    have hr : rcnt x = BitVec.ofNat 32 n := by rw [hn, BitVec.ofNat_toNat, BitVec.setWidth_eq]
    rw [← hn] at h1 h2
    rw [hr]
    clear * - h1 h2
    interval_cases n <;> rfl
  · unfold rex; rw [small_eq, inf_eq, cmp_olt, cmp_oeq, if_neg hs, if_neg ht]; rfl

theorem select_one {α : Type} (a b : α) : Scalar.select 1#1 a b = a := rfl
theorem select_zero {α : Type} (a b : α) : Scalar.select 0#1 a b = b := rfl
theorem word1 (n : BitVec 32) : n + 1#32 = n - 126#32 + 127#32 := by
  clear * -
  bv_omega
theorem word2 (n : BitVec 32) : 253#32 - n = 0#32 - (n - 126#32) + 127#32 := by
  clear * -
  bv_omega

theorem ksc_eq (x : EReal) (hx : 0 ≤ x) : ksc x = rsc x := by
  unfold ksc rsc
  rcases cases x hx with ⟨h1, h2⟩ | ⟨h1, h2, h3⟩
  · rw [h1, h2, select_zero, BitVec.zero_add]
  · rw [h1, h2, h3, select_one]
    exact congrArg fld (word1 _)

theorem kiv_eq (x : EReal) (hx : 0 ≤ x) : kiv x = riv x := by
  unfold kiv riv
  rcases cases x hx with ⟨h1, h2⟩ | ⟨h1, h2, h3⟩
  · rw [h1, h2, select_zero, BitVec.sub_zero, BitVec.zero_add]
  · rw [h1, h2, h3, select_one]
    exact congrArg fld (word2 _)

end Cert.Spec

end
-- ==== Proof.Spec.lean ====
/-
  What each row of the results is, as plain arithmetic on the row's data: the row's scale and codes, its row of `dh`,
  the two gradients and their common scale. Both sides are brought to these forms.
-/
module

public import proofs.«01_k».proof.Proof.Scale
public import Idealize.ShloMosaic.Lib.Pipeline.Value
public import Idealize.ShloMosaic.Lib.ValueIdxCore

@[expose] public section

noncomputable section

namespace Cert.Spec

open Idealize.ShloMosaic Idealize.ShloMosaic.ValueIdx
open scoped BigOperators

/-- The magnitude of a number. -/
def mag (x : EReal) : EReal := max x (-x)
/-- The largest magnitude of a row. -/
def amax {n : ℕ} (f : Fin n → EReal) : EReal := Finset.univ.fold max (Ideal.ofBits .f32 0xFF800000#32) (fun k => mag (f k))
/-- One over the largest code. -/
def c0 : EReal := Ideal.ofBits .f32 0x37924925#32
/-- The range of the codes. -/
def clip (v : EReal) : EReal := min (Ideal.ofBits .f32 0x47600000#32) (max (Ideal.ofBits .f32 0xC7600000#32) v)
/-- A row's codes; -/
def qrow (f : Fin 2560 → EReal) (k : Fin 2560) : EReal := clip (f k * riv (amax f * c0))
/-- an element of its product with a group's weights. -/
def dhv (f : Fin 2560 → EReal) (w : Fin 2560 → EReal) (ws : EReal) : EReal := (∑ k, qrow f k * w k) * rsc (amax f * c0) * ws
/-- One. -/
def one : EReal := Ideal.ofBits .f32 0x3F800000#32
/-- The gradient of the gate; -/
def dgv (h g u : EReal) : EReal := h * u * Ideal.logistic g * (one + g * (one - Ideal.logistic g))
/-- of the up projection; -/
def duv (h g : EReal) : EReal := h * g * Ideal.logistic g
/-- and the argument of their scale. -/
def arg (h g u : Fin 1024 → EReal) : EReal :=
  max (amax (fun k => dgv (h k) (g k) (u k))) (amax (fun k => duv (h k) (g k))) * c0

theorem mag_nonneg (x : EReal) : 0 ≤ mag x := by
  unfold mag
  rcases le_total 0 x with h | h
  · exact le_max_of_le_left h
  · exact le_max_of_le_right (EReal.neg_nonneg.2 h)

theorem c0_nonneg : 0 ≤ c0 := by
  simp [c0, Ideal.ofBits, Ideal.ieee]
  positivity

theorem amax_nonneg {n : ℕ} (f : Fin n → EReal) (k : Fin n) : 0 ≤ amax f := by
  unfold amax
  rw [Finset.le_fold_max]
  exact Or.inr ⟨k, Finset.mem_univ _, mag_nonneg _⟩

theorem row_nonneg (f : Fin 2560 → EReal) : 0 ≤ amax f * c0 := mul_nonneg (amax_nonneg f 0) c0_nonneg

theorem arg_nonneg (h g u : Fin 1024 → EReal) : 0 ≤ arg h g u :=
  mul_nonneg (le_max_of_le_left (amax_nonneg _ 0)) c0_nonneg

/-- The largest magnitude of a row by ten stretches of 256. -/
theorem amax10 (B : EReal) (a : Fin 2560 → EReal) (b : Fin 256 → EReal)
    (h : ∀ j : Fin 256, b j = max (max (max (max (max (max (max (max (max (a ⟨0 + j.val, by omega⟩) (a ⟨256 + j.val, by omega⟩)) (a ⟨512 + j.val, by omega⟩))
      (a ⟨768 + j.val, by omega⟩)) (a ⟨1024 + j.val, by omega⟩)) (a ⟨1280 + j.val, by omega⟩)) (a ⟨1536 + j.val, by omega⟩)) (a ⟨1792 + j.val, by omega⟩))
      (a ⟨2048 + j.val, by omega⟩)) (a ⟨2304 + j.val, by omega⟩)) :
    Finset.univ.fold max B b = Finset.univ.fold max B a := by
  refine eq_of_forall_ge_iff fun c => ?_
  rw [Finset.fold_max_le, Finset.fold_max_le]
  refine and_congr Iff.rfl ?_
  constructor
  · intro hb x _
    have hx := hb ⟨x.val % 256, Nat.mod_lt _ (by decide)⟩ (Finset.mem_univ _)
    rw [h] at hx
    simp only [max_le_iff] at hx
    have hlt : x.val / 256 < 10 := by have := x.isLt; omega
    have hm : x.val = 256 * (x.val / 256) + x.val % 256 := by omega
    obtain ⟨⟨⟨⟨⟨⟨⟨⟨⟨h0, h1⟩, h2⟩, h3⟩, h4⟩, h5⟩, h6⟩, h7⟩, h8⟩, h9⟩ := hx
    have key : ∀ (o : ℕ) (ho : o + x.val % 256 < 2560), o = 256 * (x.val / 256) → a ⟨o + x.val % 256, ho⟩ ≤ c → a x ≤ c := by
      intro o ho e hh
      have : (⟨o + x.val % 256, ho⟩ : Fin 2560) = x := Fin.ext (by show o + x.val % 256 = x.val; omega)
      rw [this] at hh
      exact hh
    generalize x.val / 256 = d at hlt key
    interval_cases d
    · exact key 0 _ rfl h0
    · exact key 256 _ rfl h1
    · exact key 512 _ rfl h2
    · exact key 768 _ rfl h3
    · exact key 1024 _ rfl h4
    · exact key 1280 _ rfl h5
    · exact key 1536 _ rfl h6
    · exact key 1792 _ rfl h7
    · exact key 2048 _ rfl h8
    · exact key 2304 _ rfl h9
  · intro ha j _
    rw [h]
    simp only [max_le_iff]
    have := fun i => ha i (Finset.mem_univ _)
    exact ⟨⟨⟨⟨⟨⟨⟨⟨⟨this _, this _⟩, this _⟩, this _⟩, this _⟩, this _⟩, this _⟩, this _⟩, this _⟩, this _⟩

/-- The two gradients' largest magnitudes together. -/
theorem amax2 {n : ℕ} (a b : Fin n → EReal) (B : EReal) :
    Finset.univ.fold max B (fun k => max (mag (a k)) (mag (b k))) = max (Finset.univ.fold max B (fun k => mag (a k))) (Finset.univ.fold max B (fun k => mag (b k))) := by
  refine eq_of_forall_ge_iff fun c => ?_
  rw [max_le_iff, Finset.fold_max_le, Finset.fold_max_le, Finset.fold_max_le]
  simp only [max_le_iff]
  constructor
  · rintro ⟨h, h2⟩
    exact ⟨⟨h, fun x hx => (h2 x hx).1⟩, ⟨h, fun x hx => (h2 x hx).2⟩⟩
  · rintro ⟨⟨h, h2⟩, ⟨_, h3⟩⟩
    exact ⟨h, fun x hx => ⟨h2 x hx, h3 x hx⟩⟩

/-- An integer sum along an axis is the sum of the lifted words. -/
theorem sumI_single {s t : Shape} {a : Fin s.rank} (src : IVec s 32) (h : s.Reduces [a] t) (hacc) (j : t.Idx) :
    multiReductionI .add [a] t src 0#32 h hacc j = ∑ k : Fin (s.size a), src (h.lift j k) := by
  rw [multiReductionI_eq_reduceFold]
  show (reduceFold h (· + ·) 0#32 src j : BitVec 32) = _
  rw [reduceFold_add_eq_sum]
  refine (BitVec.zero_add _).trans ?_
  exact h.sum_filter_drop_single src j

theorem one_eq : one = 1 := by
  simp [one, Ideal.ofBits, Ideal.ieee]
  exact_mod_cast (by norm_num : (8388608 : ℝ) * (2 ^ 23)⁻¹ = 1)

/-- The kernel's form of the logistic. -/
theorem logistic_eq (g : EReal) : Ideal.div one (one + Ideal.exp (Ideal.ofBits .f32 0x00000000#32 - g)) = Ideal.logistic g := by
  rw [one_eq, Ideal.ofBits_zero_f32, zero_sub]
  rfl

/-- The code at `(p, r, j)` of a result, from the rows of `dh`, `g` and `u`; -/
def code {n : ℕ} (h g u : Fin n → Fin 1024 → EReal) (p : Fin 2) (r : Fin n) (j : Fin 1024) : EReal :=
  clip ((if p.val = 0 then dgv (h r j) (g r j) (u r j) else duv (h r j) (g r j)) * riv (arg (h r) (g r) (u r)))
/-- the scale of row `r`. -/
def scale {n : ℕ} (h g u : Fin n → Fin 1024 → EReal) (r : Fin n) : EReal := rsc (arg (h r) (g r) (u r))
/-- The rows of `dh`: each the product with the weights of the row's group. -/
def dh (X : Fin 6144 → Fin 2560 → EReal) (W : Fin 40 → Fin 1024 → Fin 2560 → EReal) (WS : Fin 40 → Fin 1024 → EReal) (e : Fin 6144 → Fin 40)
    (r : Fin 6144) (j : Fin 1024) : EReal := dhv (X r) (W (e r) j) (WS (e r) j)

end Cert.Spec
-- ==== Proof.KernelIdeal.ValRow.lean ====
/-
  The kernel's vectors of one 32-row block at an index, as the plain arithmetic of `Spec`.
-/
module

public import proofs.«01_k».proof.Proof.KernelIdeal.Tile
public import proofs.«01_k».proof.Proof.Spec
public import Idealize.ShloMosaic.Lib.ValueLayoutCasts

@[expose] public section

set_option maxRecDepth 16384

noncomputable section

namespace Cert.KernelIdeal.Hand

open Idealize.ShloMosaic Idealize.ShloMosaic.ValueIdx
open Cert.KernelIdeal.Gen Cert.Spec
open scoped BigOperators

/-- The exponent of a row's scale, from the column of arguments. -/
theorem kex_at (v : FVec Ideal S32x1 .f32) (r : Fin 32) (u : Fin 1) :
    subi (shapeCast S32x1 (multiReductionI .add [1] S32 (extui 32 (cmpf .oge (broadcastTo S32x256 v broadcasts_S32x1_S32x256)
      (bitcastToFloat .f32 (shli (iota .tc S32x256 32 [1] iota_S32x256_d1_w32) (broadcast S32x256 23#32)))) natLt_1_32) 0#32 reduces_S32x256_S32 rfl) shapeCasts_S32_S32x1)
      (broadcast S32x1 1#32) (ix2 r u) = kex (v (ix2 r 0)) := by
  unfold kex
  refine congrArg (fun w : BitVec 32 => w - 1#32) ?_
  rw [shapeCast_a_a1_apply]
  refine (sumI_single _ _ _ _).trans ?_
  unfold kcnt
  refine Finset.sum_congr rfl fun t _ => ?_
  refine congrArg (BitVec.setWidth 32) ?_
  refine congrArg₂ (Ideal.cmp .oge) (broadcastTo_apply _ _ _ (ix2 r 0) (by intro a; fin_cases a <;> rfl)) ?_
  unfold fld
  refine congrArg (fun w => Ideal.ofBits .f32 (IntOp.shli .vector w 23#32)) ?_
  exact iota_single_apply _ _ _ _ _ _

/-- The largest magnitude of a row of 2560 by stretches. -/
theorem slice_at (x : Vec Ideal S32x2560 .bf16) (o : ℕ) (h) (i : S32x256.Idx) (hb : o + (i 1).val < 2560) :
    (extractStridedSlice S32x256 ![0, o] (absf x : FVec Ideal S32x2560 .bf16) h i : EReal) = mag (x (ix2 (i 0) ⟨o + (i 1).val, hb⟩)) := by
  refine (extractStridedSlice_apply ![0, o] (absf x : FVec Ideal S32x2560 .bf16) h i (ix2 (i 0) ⟨o + (i 1).val, hb⟩) (by
    intro a
    fin_cases a
    · exact (Nat.zero_add _).symm
    · rfl)).trans ?_
  rfl

theorem pay2_at (x : Vec Ideal S32x2560 .bf16) (r : Fin 32) (u : Fin 1) :
    k0_pay2 (F := Ideal) x (ix2 r u) = kex (amax (fun k => x (ix2 r k)) * c0) := by
  unfold k0_pay2
  rw [kex_at]
  refine congrArg kex (congrArg (· * c0) ?_)
  rw [shapeCast_a_a1_apply]
  refine (Ideal.multiReduction_maximumf_single _ _ _ _ _ _).trans ?_
  unfold amax
  refine amax10 _ _ _ fun j => ?_
  show max (max (max (max (max (max (max (max (max (extractStridedSlice S32x256 _ _ _ _) (extractStridedSlice S32x256 _ _ _ _)) (extractStridedSlice S32x256 _ _ _ _)) (extractStridedSlice S32x256 _ _ _ _)) (extractStridedSlice S32x256 _ _ _ _)) (extractStridedSlice S32x256 _ _ _ _)) (extractStridedSlice S32x256 _ _ _ _)) (extractStridedSlice S32x256 _ _ _ _)) (extractStridedSlice S32x256 _ _ _ _)) (extractStridedSlice S32x256 _ _ _ _) = _
  have hj : j.val < 256 := j.isLt
  rw [slice_at x 0 _ _ (by show 0 + j.val < 2560; omega), slice_at x 256 _ _ (by show 256 + j.val < 2560; omega), slice_at x 512 _ _ (by show 512 + j.val < 2560; omega),
    slice_at x 768 _ _ (by show 768 + j.val < 2560; omega), slice_at x 1024 _ _ (by show 1024 + j.val < 2560; omega), slice_at x 1280 _ _ (by show 1280 + j.val < 2560; omega),
    slice_at x 1536 _ _ (by show 1536 + j.val < 2560; omega), slice_at x 1792 _ _ (by show 1792 + j.val < 2560; omega), slice_at x 2048 _ _ (by show 2048 + j.val < 2560; omega),
    slice_at x 2304 _ _ (by show 2304 + j.val < 2560; omega)]
  rfl

theorem pay3_at (x : Vec Ideal S32x2560 .bf16) (r : Fin 32) (u : Fin 1) :
    k0_pay3 (F := Ideal) x (ix2 r u) = kok (amax (fun k => x (ix2 r k)) * c0) := by
  unfold k0_pay3 kok
  rw [← pay2_at x r u]
  rfl

theorem pay4_at (x : Vec Ideal S32x2560 .bf16) (r : Fin 32) (u : Fin 1) :
    Ideal.ofBits .f32 (k0_pay4 (F := Ideal) x (ix2 r u)) = ksc (amax (fun k => x (ix2 r k)) * c0) := by
  unfold k0_pay4 ksc
  rw [← pay3_at x r u, ← pay2_at x r u]
  rfl

/-- The scales of a block: each row's, along the lanes. -/
theorem sblk_at (x : Vec Ideal S32x2560 .bf16) (r : Fin 32) (k : Fin 128) :
    sblk (F := Ideal) x (ix2 r k) = rsc (amax (fun k => x (ix2 r k)) * c0) := by
  unfold sblk k0_pay5
  rw [shapeCast_self (s := S32x128), shapeCast_self (s := S32x1), broadcastTo_apply _ _ _ (ix2 r 0) (by intro a; fin_cases a <;> rfl)]
  rw [← ksc_eq _ (row_nonneg _), ← pay4_at x r 0]
  rfl

/-- The codes of a block. -/
theorem qblk_at (x : Vec Ideal S32x2560 .bf16) (r : Fin 32) (k : Fin 2560) :
    qblk (F := Ideal) x (ix2 r k) = qrow (fun k => x (ix2 r k)) k := by
  unfold qblk k0_pay6 qrow clip
  rw [shapeCast_self (s := S32x2560)]
  show min (Ideal.ofBits .f32 0x47600000#32) (max (Ideal.ofBits .f32 0xC7600000#32) (x (ix2 r k) * (broadcastTo (s := S32x1) S32x2560 _ _ (ix2 r k)))) = _
  rw [broadcastTo_apply _ _ _ (ix2 r 0) (by intro a; fin_cases a <;> rfl)]
  rw [← kiv_eq _ (row_nonneg _)]
  unfold kiv fld
  rw [← pay3_at x r 0, ← pay2_at x r 0]
  rfl

/-- The gradients of a block. -/
theorem pay52_at (g : Vec Ideal S32x1024 .bf16) (i : S32x1024.Idx) : k0_pay52 (F := Ideal) g i = Ideal.logistic (g i) := by
  rw [← logistic_eq]
  rfl
theorem pay53_at (h : Vec Ideal S32x1024 .f32) (g u : Vec Ideal S32x1024 .bf16) (i : S32x1024.Idx) :
    k0_pay53 (F := Ideal) h g u i = dgv (h i) (g i) (u i) := by
  unfold dgv
  rw [← pay52_at g i]
  rfl
theorem pay54_at (h : Vec Ideal S32x1024 .f32) (g : Vec Ideal S32x1024 .bf16) (i : S32x1024.Idx) :
    k0_pay54 (F := Ideal) h g i = duv (h i) (g i) := by
  unfold duv
  rw [← pay52_at g i]
  rfl

/-- The argument of the gradients' scale, of row `r` of a block. -/
abbrev argOf {n : ℕ} (h : Vec Ideal ⟨2, ![n, 1024]⟩ .f32) (g u : Vec Ideal ⟨2, ![n, 1024]⟩ .bf16) (r : Fin n) : EReal :=
  arg (fun k => h (ix2 r k)) (fun k => g (ix2 r k)) (fun k => u (ix2 r k))

theorem lift_row (r : Fin 32) (k : Fin 1024) : reduces_S32x1024_S32.lift (ix1 r) k = (ix2 r k : S32x1024.Idx) := by
  funext a
  fin_cases a <;> rfl

theorem pay55_at (h : Vec Ideal S32x1024 .f32) (g u : Vec Ideal S32x1024 .bf16) (r : Fin 32) (c : Fin 1) :
    k0_pay55 (F := Ideal) h g u (ix2 r c) = kex (argOf h g u r) := by
  unfold k0_pay55
  rw [kex_at]
  refine congrArg kex (congrArg (· * c0) ?_)
  rw [shapeCast_a_a1_apply]
  refine (Ideal.multiReduction_maximumf_single _ _ _ _ _ _).trans ?_
  unfold amax
  rw [← amax2]
  refine Finset.fold_congr fun k _ => ?_
  show max (mag (k0_pay53 (F := Ideal) h g u _)) (mag (k0_pay54 (F := Ideal) h g _)) = _
  have e := lift_row r k
  rw [pay53_at, pay54_at, e]

theorem pay57_at (h : Vec Ideal S32x1024 .f32) (g u : Vec Ideal S32x1024 .bf16) (r : Fin 32) (c : Fin 1) :
    k0_pay57 (k0_pay55 (F := Ideal) h g u) (k0_pay56 (F := Ideal) h g u) 255#32 (ix2 r c) = kok (argOf h g u r) := by
  unfold kok
  rw [← pay55_at h g u r c]
  rfl

theorem scblk_at (h : Vec Ideal S32x1024 .f32) (g u : Vec Ideal S32x1024 .bf16) (r : Fin 32) (c : Fin 1) :
    scblk (F := Ideal) h g u (ix2 r c) = rsc (argOf h g u r) := by
  rw [← ksc_eq _ (arg_nonneg _ _ _)]
  unfold ksc fld
  rw [← pay57_at h g u r c, ← pay55_at h g u r c]
  rfl

theorem pay59_at (h : Vec Ideal S32x1024 .f32) (g u : Vec Ideal S32x1024 .bf16) (r : Fin 32) (c : Fin 1) :
    k0_pay59 (F := Ideal) (k0_pay55 (F := Ideal) h g u) (k0_pay56 (F := Ideal) h g u) 255#32 (ix2 r c) = riv (argOf h g u r) := by
  rw [← kiv_eq _ (arg_nonneg _ _ _)]
  unfold kiv fld
  rw [← pay57_at h g u r c, ← pay55_at h g u r c]
  rfl

theorem dgblk_at (h : Vec Ideal S32x1024 .f32) (g u : Vec Ideal S32x1024 .bf16) (z : Fin 1) (r : Fin 32) (k : Fin 1024) :
    dgblk (F := Ideal) h g u (ix3 z r k) = clip (dgv (h (ix2 r k)) (g (ix2 r k)) (u (ix2 r k)) * riv (argOf h g u r)) := by
  unfold dgblk k0_pay60
  rw [shapeCast_ab_1ab_apply, ← pay53_at h g u (ix2 r k), ← pay59_at h g u r 0]
  unfold clip
  refine congrArg (fun v => min (Ideal.ofBits .f32 0x47600000#32) (max (Ideal.ofBits .f32 0xC7600000#32) (k0_pay53 (F := Ideal) h g u (ix2 r k) * v))) ?_
  exact broadcastTo_apply _ _ _ (ix2 r 0) (by intro a; fin_cases a <;> rfl)

theorem dublk_at (h : Vec Ideal S32x1024 .f32) (g u : Vec Ideal S32x1024 .bf16) (z : Fin 1) (r : Fin 32) (k : Fin 1024) :
    dublk (F := Ideal) h g u (ix3 z r k) = clip (duv (h (ix2 r k)) (g (ix2 r k)) * riv (argOf h g u r)) := by
  unfold dublk k0_pay61
  rw [shapeCast_ab_1ab_apply, ← pay54_at h g (ix2 r k), ← pay59_at h g u r 0]
  unfold clip
  refine congrArg (fun v => min (Ideal.ofBits .f32 0x47600000#32) (max (Ideal.ofBits .f32 0xC7600000#32) (k0_pay54 (F := Ideal) h g (ix2 r k) * v))) ?_
  exact broadcastTo_apply _ _ _ (ix2 r 0) (by intro a; fin_cases a <;> rfl)

end Cert.KernelIdeal.Hand
-- ==== Proof.KernelIdeal.ValTile.lean ====
/-
  The kernel's buffers of one row tile at an index: the codes and scales of `dy`, the product, the codes and scales of
  the gradients.
-/
module

public import proofs.«01_k».proof.Proof.KernelIdeal.ValRow
public import Idealize.ShloMosaic.Lib.MatmulPlain

@[expose] public section

set_option maxRecDepth 16384

noncomputable section

namespace Cert.KernelIdeal.Hand

open Idealize.ShloMosaic Idealize.ShloMosaic.ValueIdx
open Cert.KernelIdeal.Gen Cert.Spec
open scoped BigOperators

/-- A two-axis array by its rows. -/
abbrev two {n k : ℕ} {φ : FTy} (x : FVec Ideal ⟨2, ![n, k]⟩ φ) : Fin n → Fin k → EReal := fun r j => x (ix2 r j)

/-- A unit rectangle of whole rows places `(r, k)` at row `o + r`. -/
theorem unit_idx2 {n k d : ℕ} (o : ℕ) (inb) (y : (⟨2, ![d, k]⟩ : Shape).Idx) (h : o + (y 0).val < n) :
    (Rect.unit (s := ⟨2, ![n, k]⟩) ![o, 0] (⟨2, ![d, k]⟩ : Shape).size inb).idx y = ix2 ⟨o + (y 0).val, h⟩ (y 1) := by
  funext a
  apply Fin.ext
  fin_cases a
  · show o + 1 * (y 0).val = o + (y 0).val
    omega
  · show 0 + 1 * (y 1).val = (y 1).val
    omega

theorem row_lt {o : ℕ} {b : Fin 8} (h : o = 32 * b.val) (r : Fin 32) : o + r.val < 256 := by omega

theorem qpiece (x : Vec Ideal S256x2560 .bf16) (o : ℕ) (inb) (y : S32x2560.Idx) :
    qblk (F := Ideal) (View.ld x (Rect.unit (s := S256x2560) ![o, 0] S32x2560.size inb)) y
      = (fun i : S256x2560.Idx => qrow (two (φ := .bf16) x (i 0)) (i 1)) ((Rect.unit (s := S256x2560) ![o, 0] S32x2560.size inb).emb y) := by
  have hb : o + 32 ≤ 256 := inb 0
  have e := fun y : S32x2560.Idx => unit_idx2 (n := 256) (k := 2560) (d := 32) o inb y (by have : (y 0).val < 32 := (y 0).isLt; omega)
  refine (congrArg (qblk (F := Ideal) _) (eq_ix2 y)).trans ?_
  refine (qblk_at _ (y 0) (y 1)).trans ?_
  show _ = qrow (two (φ := .bf16) x ((Rect.unit (s := S256x2560) ![o, 0] S32x2560.size inb).idx y 0)) ((Rect.unit (s := S256x2560) ![o, 0] S32x2560.size inb).idx y 1)
  rw [e y]
  refine congrFun (congrArg qrow (funext fun k => ?_)) (y 1)
  exact congrArg x (e (ix2 (y 0) k))

theorem spiece (x : Vec Ideal S256x2560 .bf16) (o : ℕ) (inb) (inb') (y : S32x128.Idx) :
    sblk (F := Ideal) (View.ld x (Rect.unit (s := S256x2560) ![o, 0] S32x2560.size inb')) y
      = (fun i : S256x128.Idx => rsc (amax (two (φ := .bf16) x (i 0)) * c0)) ((Rect.unit (s := S256x128) ![o, 0] S32x128.size inb).emb y) := by
  have hb : o + 32 ≤ 256 := inb 0
  have e := fun y : S32x128.Idx => unit_idx2 (n := 256) (k := 128) (d := 32) o inb y (by have : (y 0).val < 32 := (y 0).isLt; omega)
  have e' := fun y : S32x2560.Idx => unit_idx2 (n := 256) (k := 2560) (d := 32) o inb' y (by have : (y 0).val < 32 := (y 0).isLt; omega)
  refine (congrArg (sblk (F := Ideal) _) (eq_ix2 y)).trans ?_
  refine (sblk_at _ (y 0) (y 1)).trans ?_
  show _ = rsc (amax (two (φ := .bf16) x ((Rect.unit (s := S256x128) ![o, 0] S32x128.size inb).idx y 0)) * c0)
  rw [e y]
  refine congrArg (fun f => rsc (amax f * c0)) (funext fun k => ?_)
  exact congrArg x (e' (ix2 (y 0) k))

/-- The codes of a tile of `dy`; -/
theorem qtile_at (x : Vec Ideal S256x2560 .bf16) (r : Fin 256) (k : Fin 2560) : qtile (F := Ideal) x (ix2 r k) = qrow (two (φ := .bf16) x r) k := by
  unfold qtile
  refine View.canon_apply_of_pieces (Val := Elt Ideal) (fun i : S256x2560.Idx => qrow (two (φ := .bf16) x (i 0)) (i 1)) _ ?_ _ (cover_q _ _ _ _ _ _ _ _ _)
  refine List.forall_mem_cons.2 ⟨fun y => qpiece x 224 inb_S256x2560_S32x2560_224_0 y, ?_⟩
  refine List.forall_mem_cons.2 ⟨fun y => qpiece x 192 inb_S256x2560_S32x2560_192_0 y, ?_⟩
  refine List.forall_mem_cons.2 ⟨fun y => qpiece x 160 inb_S256x2560_S32x2560_160_0 y, ?_⟩
  refine List.forall_mem_cons.2 ⟨fun y => qpiece x 128 inb_S256x2560_S32x2560_128_0 y, ?_⟩
  refine List.forall_mem_cons.2 ⟨fun y => qpiece x 96 inb_S256x2560_S32x2560_96_0 y, ?_⟩
  refine List.forall_mem_cons.2 ⟨fun y => qpiece x 64 inb_S256x2560_S32x2560_64_0 y, ?_⟩
  refine List.forall_mem_cons.2 ⟨fun y => qpiece x 32 inb_S256x2560_S32x2560_32_0 y, ?_⟩
  refine List.forall_mem_cons.2 ⟨fun y => qpiece x 0 inb_S256x2560_S32x2560_0_0 y, ?_⟩
  exact fun _ h => absurd h List.not_mem_nil

/-- their scales. -/
theorem stile_at (x : Vec Ideal S256x2560 .bf16) (r : Fin 256) (k : Fin 128) : stile (F := Ideal) x (ix2 r k) = rsc (amax (two (φ := .bf16) x r) * c0) := by
  unfold stile
  refine View.canon_apply_of_pieces (Val := Elt Ideal) (fun i : S256x128.Idx => rsc (amax (two (φ := .bf16) x (i 0)) * c0)) _ ?_ _ (cover_s _ _ _ _ _ _ _ _ _)
  refine List.forall_mem_cons.2 ⟨fun y => spiece x 224 inb_S256x128_S32x128_224_0 inb_S256x2560_S32x2560_224_0 y, ?_⟩
  refine List.forall_mem_cons.2 ⟨fun y => spiece x 192 inb_S256x128_S32x128_192_0 inb_S256x2560_S32x2560_192_0 y, ?_⟩
  refine List.forall_mem_cons.2 ⟨fun y => spiece x 160 inb_S256x128_S32x128_160_0 inb_S256x2560_S32x2560_160_0 y, ?_⟩
  refine List.forall_mem_cons.2 ⟨fun y => spiece x 128 inb_S256x128_S32x128_128_0 inb_S256x2560_S32x2560_128_0 y, ?_⟩
  refine List.forall_mem_cons.2 ⟨fun y => spiece x 96 inb_S256x128_S32x128_96_0 inb_S256x2560_S32x2560_96_0 y, ?_⟩
  refine List.forall_mem_cons.2 ⟨fun y => spiece x 64 inb_S256x128_S32x128_64_0 inb_S256x2560_S32x2560_64_0 y, ?_⟩
  refine List.forall_mem_cons.2 ⟨fun y => spiece x 32 inb_S256x128_S32x128_32_0 inb_S256x2560_S32x2560_32_0 y, ?_⟩
  refine List.forall_mem_cons.2 ⟨fun y => spiece x 0 inb_S256x128_S32x128_0_0 inb_S256x2560_S32x2560_0_0 y, ?_⟩
  exact fun _ h => absurd h List.not_mem_nil

/-- The product, scaled. -/
theorem accv_at (x : Vec Ideal S256x2560 .bf16) (w : Vec Ideal S1x1024x2560 .fp8e4m3) (ws : Vec Ideal S1x1x1024 .f32) (r : Fin 256) (j : Fin 1024) :
    accv (F := Ideal) (qtile x) (stile x) w ws (ix2 r j) = dhv (two (φ := .bf16) x r) (fun k => w (ix3 0 j k)) (ws (ix3 0 0 j)) := by
  unfold accv dhv
  refine congrArg₂ (fun a b : EReal => a * b) (congrArg₂ (fun a b : EReal => a * b) ?_ ?_) ?_
  · refine (Ideal.matmul_transposedRhs_apply (M := 256) (K := 2560) (N := 1024) none (qtile x) (shapeCast S1024x2560 w shapeCasts_S1x1024x2560_S1024x2560) (constant S256x1024 .f32 0x00000000#32) r j).trans ?_
    show Ideal.ofBits .f32 0x00000000#32 + _ = _
    rw [Ideal.ofBits_zero_f32, zero_add]
    refine Finset.sum_congr rfl fun k _ => ?_
    rw [qtile_at, shapeCast_1ab_ab_apply]
  · refine (broadcastTo_apply _ _ _ (ix2 r 0) (by intro a; fin_cases a <;> rfl)).trans ?_
    refine Eq.trans ?_ (stile_at x r 0)
    refine congrArg (stile (F := Ideal) x) ?_
    funext a
    apply Fin.ext
    fin_cases a
    · show 0 + 1 * r.val = r.val
      omega
    · rfl
  · refine (broadcastTo_apply _ _ _ (ix2 0 j) (by intro a; fin_cases a <;> rfl)).trans ?_
    exact shapeCast_1ab_ab_apply _ _ _ _

/-- A unit rectangle of whole rows of one plane places `(z, r, k)` at `(p, o + r, k)`. -/
theorem unit_idx3 {n k d : ℕ} (p o : ℕ) (inb) (y : (⟨3, ![1, d, k]⟩ : Shape).Idx) (hp : p < 2) (h : o + (y 1).val < n) :
    (Rect.unit (s := ⟨3, ![2, n, k]⟩) ![p, o, 0] (⟨3, ![1, d, k]⟩ : Shape).size inb).idx y = ix3 ⟨p, hp⟩ ⟨o + (y 1).val, h⟩ (y 2) := by
  funext a
  apply Fin.ext
  have h0 : (y 0).val < 1 := (y 0).isLt
  fin_cases a
  · show p + 1 * (y 0).val = p
    omega
  · show o + 1 * (y 1).val = o + (y 1).val
    omega
  · show 0 + 1 * (y 2).val = (y 2).val
    omega

/-- 32 rows of a tile of `dh`, by its rows; -/
theorem ld_rows (h : Vec Ideal S256x1024 .f32) (o : ℕ) (inb) (r : Fin 32) (hr : o + r.val < 256) :
    two (φ := .f32) (View.ld h (Rect.unit (s := S256x1024) ![o, 0] S32x1024.size inb)) r = two (φ := .f32) h ⟨o + r.val, hr⟩ :=
  funext fun k => congrArg h (unit_idx2 (n := 256) (k := 1024) (d := 32) o inb (ix2 r k) hr)
/-- of `g` or `u`. -/
theorem ld_rowsG (h : Vec Ideal S256x1024 .bf16) (o : ℕ) (inb) (r : Fin 32) (hr : o + r.val < 256) :
    two (φ := .bf16) (View.ld h (Rect.unit (s := S256x1024) ![o, 0] S32x1024.size inb)) r = two (φ := .bf16) h ⟨o + r.val, hr⟩ :=
  funext fun k => congrArg h (unit_idx2 (n := 256) (k := 1024) (d := 32) o inb (ix2 r k) hr)

theorem code_congr {n n' : ℕ} {h g u : Fin n → Fin 1024 → EReal} {h' g' u' : Fin n' → Fin 1024 → EReal} {r : Fin n} {r' : Fin n'}
    (eh : h r = h' r') (eg : g r = g' r') (eu : u r = u' r') (p : Fin 2) (j : Fin 1024) : code h g u p r j = code h' g' u' p r' j := by
  unfold code
  rw [eh, eg, eu]
theorem scale_congr {n n' : ℕ} {h g u : Fin n → Fin 1024 → EReal} {h' g' u' : Fin n' → Fin 1024 → EReal} {r : Fin n} {r' : Fin n'}
    (eh : h r = h' r') (eg : g r = g' r') (eu : u r = u' r') : scale h g u r = scale h' g' u' r' := by
  unfold scale
  rw [eh, eg, eu]

theorem dgblk_code (h : Vec Ideal S32x1024 .f32) (g u : Vec Ideal S32x1024 .bf16) (z : Fin 1) (r : Fin 32) (k : Fin 1024) (p : Fin 2) (hp : p.val = 0) :
    dgblk (F := Ideal) h g u (ix3 z r k) = code (two (φ := .f32) h) (two (φ := .bf16) g) (two (φ := .bf16) u) p r k := by
  rw [dgblk_at]
  unfold code
  rw [if_pos hp]
theorem dublk_code (h : Vec Ideal S32x1024 .f32) (g u : Vec Ideal S32x1024 .bf16) (z : Fin 1) (r : Fin 32) (k : Fin 1024) (p : Fin 2) (hp : p.val = 1) :
    dublk (F := Ideal) h g u (ix3 z r k) = code (two (φ := .f32) h) (two (φ := .bf16) g) (two (φ := .bf16) u) p r k := by
  rw [dublk_at]
  unfold code
  rw [if_neg (by omega)]

theorem dgpiece (h : Vec Ideal S256x1024 .f32) (g u : Vec Ideal S256x1024 .bf16) (o : ℕ) (inb) (inb') (y : S1x32x1024.Idx) :
    dgblk (F := Ideal) (View.ld h (Rect.unit (s := S256x1024) ![o, 0] S32x1024.size inb')) (View.ld g (Rect.unit (s := S256x1024) ![o, 0] S32x1024.size inb'))
        (View.ld u (Rect.unit (s := S256x1024) ![o, 0] S32x1024.size inb')) y
      = (fun i : S2x256x1024.Idx => code (two (φ := .f32) h) (two (φ := .bf16) g) (two (φ := .bf16) u) (i 0) (i 1) (i 2))
          ((Rect.unit (s := S2x256x1024) ![0, o, 0] S1x32x1024.size inb).emb y) := by
  have hb : o + 32 ≤ 256 := inb' 0
  have hr : o + (y 1).val < 256 := by have : (y 1).val < 32 := (y 1).isLt; omega
  refine (congrArg (dgblk (F := Ideal) _ _ _) (eq_ix3 y)).trans ?_
  refine (dgblk_code _ _ _ (y 0) (y 1) (y 2) (⟨0, by decide⟩ : Fin 2) rfl).trans ?_
  show _ = code _ _ _ ((Rect.unit (s := S2x256x1024) ![0, o, 0] S1x32x1024.size inb).idx y 0) ((Rect.unit (s := S2x256x1024) ![0, o, 0] S1x32x1024.size inb).idx y 1)
    ((Rect.unit (s := S2x256x1024) ![0, o, 0] S1x32x1024.size inb).idx y 2)
  rw [unit_idx3 (n := 256) (k := 1024) (d := 32) 0 o inb y (by decide) hr]
  exact code_congr (ld_rows h o inb' (y 1) hr) (ld_rowsG g o inb' (y 1) hr) (ld_rowsG u o inb' (y 1) hr) _ _

theorem dupiece (h : Vec Ideal S256x1024 .f32) (g u : Vec Ideal S256x1024 .bf16) (o : ℕ) (inb) (inb') (y : S1x32x1024.Idx) :
    dublk (F := Ideal) (View.ld h (Rect.unit (s := S256x1024) ![o, 0] S32x1024.size inb')) (View.ld g (Rect.unit (s := S256x1024) ![o, 0] S32x1024.size inb'))
        (View.ld u (Rect.unit (s := S256x1024) ![o, 0] S32x1024.size inb')) y
      = (fun i : S2x256x1024.Idx => code (two (φ := .f32) h) (two (φ := .bf16) g) (two (φ := .bf16) u) (i 0) (i 1) (i 2))
          ((Rect.unit (s := S2x256x1024) ![1, o, 0] S1x32x1024.size inb).emb y) := by
  have hb : o + 32 ≤ 256 := inb' 0
  have hr : o + (y 1).val < 256 := by have : (y 1).val < 32 := (y 1).isLt; omega
  refine (congrArg (dublk (F := Ideal) _ _ _) (eq_ix3 y)).trans ?_
  refine (dublk_code _ _ _ (y 0) (y 1) (y 2) (⟨1, by decide⟩ : Fin 2) rfl).trans ?_
  show _ = code _ _ _ ((Rect.unit (s := S2x256x1024) ![1, o, 0] S1x32x1024.size inb).idx y 0) ((Rect.unit (s := S2x256x1024) ![1, o, 0] S1x32x1024.size inb).idx y 1)
    ((Rect.unit (s := S2x256x1024) ![1, o, 0] S1x32x1024.size inb).idx y 2)
  rw [unit_idx3 (n := 256) (k := 1024) (d := 32) 1 o inb y (by decide) hr]
  exact code_congr (ld_rows h o inb' (y 1) hr) (ld_rowsG g o inb' (y 1) hr) (ld_rowsG u o inb' (y 1) hr) _ _

theorem scblk_scale (h : Vec Ideal S32x1024 .f32) (g u : Vec Ideal S32x1024 .bf16) (r : Fin 32) (c : Fin 1) :
    scblk (F := Ideal) h g u (ix2 r c) = scale (two (φ := .f32) h) (two (φ := .bf16) g) (two (φ := .bf16) u) r := scblk_at h g u r c

theorem scpiece (h : Vec Ideal S256x1024 .f32) (g u : Vec Ideal S256x1024 .bf16) (o : ℕ) (inb) (inb') (y : S32x1.Idx) :
    scblk (F := Ideal) (View.ld h (Rect.unit (s := S256x1024) ![o, 0] S32x1024.size inb')) (View.ld g (Rect.unit (s := S256x1024) ![o, 0] S32x1024.size inb'))
        (View.ld u (Rect.unit (s := S256x1024) ![o, 0] S32x1024.size inb')) y
      = (fun i : S256x1.Idx => scale (two (φ := .f32) h) (two (φ := .bf16) g) (two (φ := .bf16) u) (i 0))
          ((Rect.unit (s := S256x1) ![o, 0] S32x1.size inb).emb y) := by
  have hb : o + 32 ≤ 256 := inb' 0
  have hr : o + (y 0).val < 256 := by have : (y 0).val < 32 := (y 0).isLt; omega
  refine (congrArg (scblk (F := Ideal) _ _ _) (eq_ix2 y)).trans ?_
  refine (scblk_scale _ _ _ (y 0) (y 1)).trans ?_
  show _ = scale _ _ _ ((Rect.unit (s := S256x1) ![o, 0] S32x1.size inb).idx y 0)
  rw [unit_idx2 (n := 256) (k := 1) (d := 32) o inb y hr]
  exact scale_congr (ld_rows h o inb' (y 0) hr) (ld_rowsG g o inb' (y 0) hr) (ld_rowsG u o inb' (y 0) hr)

/-- The codes of a tile; -/
theorem otile_at (h : Vec Ideal S256x1024 .f32) (g u : Vec Ideal S256x1024 .bf16) (y : S2x256x1024.Idx) :
    otile (F := Ideal) h g u y = code (two (φ := .f32) h) (two (φ := .bf16) g) (two (φ := .bf16) u) (y 0) (y 1) (y 2) := by
  unfold otile
  refine View.canon_apply_of_pieces (Val := Elt Ideal) (fun i : S2x256x1024.Idx => code (two (φ := .f32) h) (two (φ := .bf16) g) (two (φ := .bf16) u) (i 0) (i 1) (i 2)) _ ?_ _
    (cover_o _ _ _ _ _ _ _ _ _ _ _ _ _ _ _ _ _)
  refine List.forall_mem_cons.2 ⟨fun y => dupiece h g u 224 inb_S2x256x1024_S1x32x1024_1_224_0 inb_S256x1024_S32x1024_224_0 y, ?_⟩
  refine List.forall_mem_cons.2 ⟨fun y => dgpiece h g u 224 inb_S2x256x1024_S1x32x1024_0_224_0 inb_S256x1024_S32x1024_224_0 y, ?_⟩
  refine List.forall_mem_cons.2 ⟨fun y => dupiece h g u 192 inb_S2x256x1024_S1x32x1024_1_192_0 inb_S256x1024_S32x1024_192_0 y, ?_⟩
  refine List.forall_mem_cons.2 ⟨fun y => dgpiece h g u 192 inb_S2x256x1024_S1x32x1024_0_192_0 inb_S256x1024_S32x1024_192_0 y, ?_⟩
  refine List.forall_mem_cons.2 ⟨fun y => dupiece h g u 160 inb_S2x256x1024_S1x32x1024_1_160_0 inb_S256x1024_S32x1024_160_0 y, ?_⟩
  refine List.forall_mem_cons.2 ⟨fun y => dgpiece h g u 160 inb_S2x256x1024_S1x32x1024_0_160_0 inb_S256x1024_S32x1024_160_0 y, ?_⟩
  refine List.forall_mem_cons.2 ⟨fun y => dupiece h g u 128 inb_S2x256x1024_S1x32x1024_1_128_0 inb_S256x1024_S32x1024_128_0 y, ?_⟩
  refine List.forall_mem_cons.2 ⟨fun y => dgpiece h g u 128 inb_S2x256x1024_S1x32x1024_0_128_0 inb_S256x1024_S32x1024_128_0 y, ?_⟩
  refine List.forall_mem_cons.2 ⟨fun y => dupiece h g u 96 inb_S2x256x1024_S1x32x1024_1_96_0 inb_S256x1024_S32x1024_96_0 y, ?_⟩
  refine List.forall_mem_cons.2 ⟨fun y => dgpiece h g u 96 inb_S2x256x1024_S1x32x1024_0_96_0 inb_S256x1024_S32x1024_96_0 y, ?_⟩
  refine List.forall_mem_cons.2 ⟨fun y => dupiece h g u 64 inb_S2x256x1024_S1x32x1024_1_64_0 inb_S256x1024_S32x1024_64_0 y, ?_⟩
  refine List.forall_mem_cons.2 ⟨fun y => dgpiece h g u 64 inb_S2x256x1024_S1x32x1024_0_64_0 inb_S256x1024_S32x1024_64_0 y, ?_⟩
  refine List.forall_mem_cons.2 ⟨fun y => dupiece h g u 32 inb_S2x256x1024_S1x32x1024_1_32_0 inb_S256x1024_S32x1024_32_0 y, ?_⟩
  refine List.forall_mem_cons.2 ⟨fun y => dgpiece h g u 32 inb_S2x256x1024_S1x32x1024_0_32_0 inb_S256x1024_S32x1024_32_0 y, ?_⟩
  refine List.forall_mem_cons.2 ⟨fun y => dupiece h g u 0 inb_S2x256x1024_S1x32x1024_1_0_0 inb_S256x1024_S32x1024_0_0 y, ?_⟩
  refine List.forall_mem_cons.2 ⟨fun y => dgpiece h g u 0 inb_S2x256x1024_S1x32x1024_0_0_0 inb_S256x1024_S32x1024_0_0 y, ?_⟩
  exact fun _ h => absurd h List.not_mem_nil

/-- their scales. -/
theorem sctile_at (h : Vec Ideal S256x1024 .f32) (g u : Vec Ideal S256x1024 .bf16) (y : S256x1.Idx) :
    sctile (F := Ideal) h g u y = scale (two (φ := .f32) h) (two (φ := .bf16) g) (two (φ := .bf16) u) (y 0) := by
  unfold sctile
  refine View.canon_apply_of_pieces (Val := Elt Ideal) (fun i : S256x1.Idx => scale (two (φ := .f32) h) (two (φ := .bf16) g) (two (φ := .bf16) u) (i 0)) _ ?_ _
    (cover_c _ _ _ _ _ _ _ _ _)
  refine List.forall_mem_cons.2 ⟨fun y => scpiece h g u 224 inb_S256x1_S32x1_224_0 inb_S256x1024_S32x1024_224_0 y, ?_⟩
  refine List.forall_mem_cons.2 ⟨fun y => scpiece h g u 192 inb_S256x1_S32x1_192_0 inb_S256x1024_S32x1024_192_0 y, ?_⟩
  refine List.forall_mem_cons.2 ⟨fun y => scpiece h g u 160 inb_S256x1_S32x1_160_0 inb_S256x1024_S32x1024_160_0 y, ?_⟩
  refine List.forall_mem_cons.2 ⟨fun y => scpiece h g u 128 inb_S256x1_S32x1_128_0 inb_S256x1024_S32x1024_128_0 y, ?_⟩
  refine List.forall_mem_cons.2 ⟨fun y => scpiece h g u 96 inb_S256x1_S32x1_96_0 inb_S256x1024_S32x1024_96_0 y, ?_⟩
  refine List.forall_mem_cons.2 ⟨fun y => scpiece h g u 64 inb_S256x1_S32x1_64_0 inb_S256x1024_S32x1024_64_0 y, ?_⟩
  refine List.forall_mem_cons.2 ⟨fun y => scpiece h g u 32 inb_S256x1_S32x1_32_0 inb_S256x1024_S32x1024_32_0 y, ?_⟩
  refine List.forall_mem_cons.2 ⟨fun y => scpiece h g u 0 inb_S256x1_S32x1_0_0 inb_S256x1024_S32x1024_0_0 y, ?_⟩
  exact fun _ h => absurd h List.not_mem_nil

end Cert.KernelIdeal.Hand
-- ==== Proof.KernelIdeal.ValArr.lean ====
/-
  The kernel's two result arrays: every row's codes and scale, as the plain arithmetic of `Spec`.
-/
module

public import proofs.«01_k».proof.Proof.KernelIdeal.ValTile
public import proofs.«01_k».proof.Proof.KernelIdeal.Run
public import Idealize.ShloMosaic.Lib.Pipeline.ValueKit

@[expose] public section

set_option maxRecDepth 16384

noncomputable section

namespace Cert.KernelIdeal.Hand

open Idealize.ShloMosaic Idealize.ShloMosaic.TcCoe
open Idealize.ShloMosaic.Pipeline (Dat Cfg Window)
open Cert.KernelIdeal.Gen Cert.Plan Cert.Spec
open scoped BigOperators

attribute [local irreducible] Host.reduceWindow Host.reduce Host.gather concatenate
attribute [local irreducible] nT tileT expT loT hiT firstT lastT

variable (m : (ℓ : Loc nD τ sig) → Buf (Elt Ideal) ℓ) (gs : IVec S40 32) (hg : Good gs)

/-- The group of a row. -/
def grp (gs : IVec S40 32) (r : Fin 6144) : Fin 40 := ⟨eid (sz gs) r.val % 40, Nat.mod_lt _ (by decide)⟩

/-- The rows of `dh` from the arrays. -/
abbrev dhAll (X : Vec Ideal S6144x2560 .bf16) (W : Vec Ideal S40x1024x2560 .fp8e4m3) (WS : Vec Ideal S40x1x1024 .f32) (gs : IVec S40 32) : Fin 6144 → Fin 1024 → EReal :=
  dh (two (φ := .bf16) X) (fun e j k => W (ix3 e j k)) (fun e j => WS (ix3 e 0 j)) (grp gs)

theorem dhTile_row (X : Vec Ideal S6144x2560 .bf16) (W : Vec Ideal S40x1024x2560 .fp8e4m3) (WS : Vec Ideal S40x1x1024 .f32) (k : ℕ) (r : Fin 256) (h : k * 256 + r.val < 6144) :
    two (φ := .f32) (dhTile (F := Ideal) X W WS (sz gs) k) r = dhAll X W WS gs ⟨k * 256 + r.val, h⟩ := by
  funext j
  refine (accv_at (rows X k) _ _ r j).trans ?_
  show dhv _ _ _ = dhv _ _ _
  have e : two (φ := .bf16) (rows (F := Ideal) X k) r = two (φ := .bf16) X ⟨k * 256 + r.val, h⟩ := by
    funext i
    refine congrArg X ?_
    funext a
    apply Fin.ext
    fin_cases a
    · exact Nat.mod_eq_of_lt h
    · rfl
  rw [e]
  rfl

theorem rowsG_row (X : Vec Ideal S6144x1024 .bf16) (k : ℕ) (r : Fin 256) (h : k * 256 + r.val < 6144) :
    two (φ := .bf16) (rowsG (F := Ideal) X k) r = two (φ := .bf16) X ⟨k * 256 + r.val, h⟩ := by
  funext i
  refine congrArg X ?_
  funext a
  apply Fin.ext
  fin_cases a
  · exact Nat.mod_eq_of_lt h
  · rfl

/-- The codes of every row; -/
def res0 (c : Dev nD) : Vec Ideal S2x6144x1024 .fp8e5m2 := fun i =>
  code (dhAll (Xa m c) (Wa m c) (WSa m c) gs) (two (φ := .bf16) (Ga m c)) (two (φ := .bf16) (Ua m c)) (i 0) (i 1) (i 2)
/-- and their scales. -/
def res1 (c : Dev nD) : Vec Ideal S6144x1 .f32 := fun i =>
  scale (dhAll (Xa m c) (Wa m c) (WSa m c) gs) (two (φ := .bf16) (Ga m c)) (two (φ := .bf16) (Ua m c)) (i 0)

theorem emb5 (t : Fin (cfgA (F := Ideal) gs hg).N) (y : S2x256x1024.Idx) (h : tile (sz gs) t.val * 256 + (y 1).val < 6144) :
    (((cfgA (F := Ideal) gs hg).win 5).blk t).view.emb y = (ix3 (y 0) ⟨tile (sz gs) t.val * 256 + (y 1).val, h⟩ (y 2) : S2x6144x1024.Idx) := by
  refine funext fun a => Fin.ext ?_
  refine (Window.rect_emb_val ((cfgA (F := Ideal) gs hg).win 5) t y a).trans ?_
  rw [index5]
  fin_cases a
  · show 0 * 2 + (y 0).val = (y 0).val
    omega
  · rfl
  · show 0 * 1024 + (y 2).val = (y 2).val
    omega

theorem emb6 (t : Fin (cfgA (F := Ideal) gs hg).N) (y : S256x1.Idx) (h : tile (sz gs) t.val * 256 + (y 0).val < 6144) :
    (((cfgA (F := Ideal) gs hg).win 6).blk t).view.emb y = (ix2 ⟨tile (sz gs) t.val * 256 + (y 0).val, h⟩ (y 1) : S6144x1.Idx) := by
  refine funext fun a => Fin.ext ?_
  refine (Window.rect_emb_val ((cfgA (F := Ideal) gs hg).win 6) t y a).trans ?_
  rw [index6]
  fin_cases a
  · rfl
  · show 0 * 1 + (y 1).val = (y 1).val
    omega

theorem arr5 (c : Dev nD) : (dats m gs hg 0 c).arrAt (5 : Fin 7) (cfgA (F := Ideal) gs hg).N = res0 m gs c := by
  refine (dats m gs hg 0 c).arrAt_eq_of_emb (5 : Fin 7) (res0 m gs c) ?_ ?_
  · refine fun t _ (y : S2x256x1024.Idx) => ?_
    have hT := tile_lt (sz gs) hg (lt_n gs hg t)
    have h1 : (y 1).val < 256 := (y 1).isLt
    refine Eq.trans (b := otile (dhAt m gs c t.val) (rowsG (Ga m c) (tile (sz gs) t.val)) (rowsG (Ua m c) (tile (sz gs) t.val)) y) ?_ ?_
    · exact congrFun (after0_5 m gs hg c t) y
    · refine (otile_at _ _ _ y).trans ?_
      refine Eq.trans ?_ (congrArg (res0 m gs c) (emb5 gs hg t y (by omega))).symm
      exact code_congr (dhTile_row gs _ _ _ _ _ _) (rowsG_row _ _ _ _) (rowsG_row _ _ _ _) _ _
  · refine fun (i : S2x6144x1024.Idx) => ?_
    have h1 : (i 1).val < 6144 := (i 1).isLt
    obtain ⟨k, hk, hkt, hl⟩ := exists_last (sz gs) hg (t := (i 1).val / 256) (by omega)
    let t : Fin (cfgA (F := Ideal) gs hg).N := ⟨k, lt_of_lt_of_eq hk (cN_eq gs hg).symm⟩
    refine ⟨t, (flush5 gs hg t).2 hl, ?_⟩
    have e := emb5 gs hg t (ix3 (i 0) (⟨(i 1).val % 256, Nat.mod_lt _ (by decide)⟩ : Fin 256) (i 2)) (by
      show tile (sz gs) k * 256 + (i 1).val % 256 < 6144
      omega)
    have e2 : (ix3 (i 0) ⟨tile (sz gs) t.val * 256 + (i 1).val % 256, by show tile (sz gs) k * 256 + (i 1).val % 256 < 6144; omega⟩ (i 2) : S2x6144x1024.Idx) = i := by
      refine funext fun a => Fin.ext ?_
      fin_cases a
      · rfl
      · show tile (sz gs) k * 256 + (i 1).val % 256 = (i 1).val
        omega
      · rfl
    exact (e.trans e2) ▸ View.emb_mem_set _ _

theorem arr6 (c : Dev nD) : (dats m gs hg 0 c).arrAt (6 : Fin 7) (cfgA (F := Ideal) gs hg).N = res1 m gs c := by
  refine (dats m gs hg 0 c).arrAt_eq_of_emb (6 : Fin 7) (res1 m gs c) ?_ ?_
  · refine fun t _ (y : S256x1.Idx) => ?_
    have hT := tile_lt (sz gs) hg (lt_n gs hg t)
    have h1 : (y 0).val < 256 := (y 0).isLt
    refine Eq.trans (b := sctile (dhAt m gs c t.val) (rowsG (Ga m c) (tile (sz gs) t.val)) (rowsG (Ua m c) (tile (sz gs) t.val)) y) ?_ ?_
    · exact congrFun (after0_6 m gs hg c t) y
    · refine (sctile_at _ _ _ y).trans ?_
      refine Eq.trans ?_ (congrArg (res1 m gs c) (emb6 gs hg t y (by omega))).symm
      exact scale_congr (dhTile_row gs _ _ _ _ _ _) (rowsG_row _ _ _ _) (rowsG_row _ _ _ _)
  · refine fun (i : S6144x1.Idx) => ?_
    have h1 : (i 0).val < 6144 := (i 0).isLt
    obtain ⟨k, hk, hkt, hl⟩ := exists_last (sz gs) hg (t := (i 0).val / 256) (by omega)
    let t : Fin (cfgA (F := Ideal) gs hg).N := ⟨k, lt_of_lt_of_eq hk (cN_eq gs hg).symm⟩
    refine ⟨t, (flush6 gs hg t).2 hl, ?_⟩
    have e := emb6 gs hg t (ix2 (⟨(i 0).val % 256, Nat.mod_lt _ (by decide)⟩ : Fin 256) (i 1)) (by
      show tile (sz gs) k * 256 + (i 0).val % 256 < 6144
      omega)
    have e2 : (ix2 ⟨tile (sz gs) t.val * 256 + (i 0).val % 256, by show tile (sz gs) k * 256 + (i 0).val % 256 < 6144; omega⟩ (i 1) : S6144x1.Idx) = i := by
      refine funext fun a => Fin.ext ?_
      fin_cases a
      · show tile (sz gs) k * 256 + (i 0).val % 256 = (i 0).val
        omega
      · rfl
    exact (e.trans e2) ▸ View.emb_mem_set _ _

end Cert.KernelIdeal.Hand
-- ==== Proof.ReferenceIdeal.ValRow.lean ====
/-
  The reference's whole-array vectors at an index, as the plain arithmetic of `Spec`.
-/
module

public import proofs.«01_k».proof.Proof.Gen.ReferenceIdeal.Frame
public import proofs.«01_k».proof.Proof.Spec
public import Idealize.ShloMosaic.Lib.ValueLayoutCasts
public import Idealize.ShloMosaic.Lib.MatmulPlain

@[expose] public section

set_option maxRecDepth 16384

noncomputable section

namespace Cert.ReferenceIdeal.Hand

open Idealize.ShloMosaic Idealize.ShloMosaic.ValueIdx
open Cert.ReferenceIdeal.Gen Cert.Spec
open scoped BigOperators

/-- A two-axis array by its rows. -/
abbrev two {n k : ℕ} {φ : FTy} (x : FVec Ideal ⟨2, ![n, k]⟩ φ) : Fin n → Fin k → EReal := fun r j => x (ix2 r j)

/-- The exponent of each row's scale, from the column of arguments. -/
def rexV (v : FVec Ideal S6144x1 .f32) : IVec S6144x1 32 :=
  select (ori (cmpf .olt v (broadcast S6144x1 (Scalar.ofBits .f32 0x00800000#32))) (cmpf .oeq v (broadcast S6144x1 (Scalar.ofBits .f32 0x7F800000#32))))
    (broadcast S6144x1 0#32)
    (subi (shapeCast S6144x1 (multiReductionI .add [1] S6144 (extui 32 (cmpf .oge (broadcastTo S6144x254 v broadcasts_S6144x1_S6144x254)
      (exp2 (sitofp .f32 (subi (iota .tc S6144x254 32 [1] iota_S6144x254_d1_w32) (broadcast S6144x254 126#32))))) natLt_1_32) 0#32 reduces_S6144x254_S6144 rfl) shapeCasts_S6144_S6144x1)
      (broadcast S6144x1 126#32))

/-- The power of two at a place of the count; -/
theorem pw_at (i : S6144x254.Idx) :
    (exp2 (sitofp .f32 (subi (iota .tc S6144x254 32 [1] iota_S6144x254_d1_w32) (broadcast S6144x254 126#32))) : FVec Ideal S6144x254 .f32) i = pw (i 1).val := by
  have e : iota .tc S6144x254 32 [1] iota_S6144x254_d1_w32 i = BitVec.ofNat 32 (i 1).val := iota_single_apply _ _ _ _ _ _
  have h : (exp2 (sitofp .f32 (subi (iota .tc S6144x254 32 [1] iota_S6144x254_d1_w32) (broadcast S6144x254 126#32))) : FVec Ideal S6144x254 .f32) i
    = Ideal.exp2 ((((iota .tc S6144x254 32 [1] iota_S6144x254_d1_w32 i - 126#32).toInt : ℝ)) : EReal) := rfl
  rw [h, e]
  rfl

/-- the argument there; -/
theorem bc_at (v : FVec Ideal S6144x1 .f32) (r : Fin 6144) (t : Fin 254) :
    broadcastTo S6144x254 v broadcasts_S6144x1_S6144x254 (ix2 r t) = v (ix2 r 0) :=
  broadcastTo_apply _ _ _ (ix2 r 0) (by intro a; fin_cases a <;> rfl)

theorem lift254 (r : Fin 6144) (t : Fin 254) : reduces_S6144x254_S6144.lift (ix1 r) t = (ix2 r t : S6144x254.Idx) := by
  funext a
  fin_cases a <;> rfl

theorem rcnt_at (v : FVec Ideal S6144x1 .f32) (r : Fin 6144) (u : Fin 1) :
    shapeCast S6144x1 (multiReductionI .add [1] S6144 (extui 32 (cmpf .oge (broadcastTo S6144x254 v broadcasts_S6144x1_S6144x254)
      (exp2 (sitofp .f32 (subi (iota .tc S6144x254 32 [1] iota_S6144x254_d1_w32) (broadcast S6144x254 126#32))))) natLt_1_32) 0#32 reduces_S6144x254_S6144 rfl) shapeCasts_S6144_S6144x1
      (ix2 r u) = rcnt (v (ix2 r 0)) := by
  rw [shapeCast_a_a1_apply]
  refine (sumI_single _ _ _ _).trans ?_
  unfold rcnt
  refine Finset.sum_congr rfl fun (t : Fin 254) _ => ?_
  rw [← bc_at v r t, ← pw_at (ix2 r t : S6144x254.Idx), ← lift254 r t]
  rfl

theorem rexV_at (v : FVec Ideal S6144x1 .f32) (r : Fin 6144) (u : Fin 1) : rexV v (ix2 r u) = rex (v (ix2 r 0)) := by
  have hu : u = 0 := Subsingleton.elim _ _
  subst hu
  unfold rex
  rw [← rcnt_at v r 0]
  rfl

theorem mulc_at (A : FVec Ideal S6144x1 .f32) (i : S6144x1.Idx) : mulf A (broadcast S6144x1 (Scalar.ofBits .f32 0x37924925#32)) i = A i * c0 := rfl

theorem pay4_eq (x : Vec Ideal S6144x2560 .bf16) : k0_pay4 (F := Ideal) x
    = rexV (mulf (shapeCast S6144x1 (multiReduction .maximumf [1] S6144 (absf (k0_pay3 x)) 0xFF800000#32 reduces_S6144x2560_S6144 (.inl rfl) rfl) shapeCasts_S6144_S6144x1)
    (broadcast S6144x1 (Scalar.ofBits .f32 0x37924925#32))) := rfl

theorem lift2560 (r : Fin 6144) (k : Fin 2560) : reduces_S6144x2560_S6144.lift (ix1 r) k = (ix2 r k : S6144x2560.Idx) := by
  funext a
  fin_cases a <;> rfl

/-- The largest magnitude of each row of `dy`; -/
theorem amaxX_at (x : Vec Ideal S6144x2560 .bf16) (r : Fin 6144) (u : Fin 1) :
    shapeCast S6144x1 (multiReduction .maximumf [1] S6144 (absf (k0_pay3 (F := Ideal) x)) 0xFF800000#32 reduces_S6144x2560_S6144 (.inl rfl) rfl) shapeCasts_S6144_S6144x1 (ix2 r u)
    = amax (two (φ := .bf16) x r) := by
  rw [shapeCast_a_a1_apply]
  refine (Ideal.multiReduction_maximumf_single _ _ _ _ _ _).trans ?_
  unfold amax
  refine Finset.fold_congr fun (k : Fin 2560) _ => ?_
  exact congrArg (fun i => mag (x i)) (lift2560 r k)

/-- the scale; -/
theorem pay4_at (x : Vec Ideal S6144x2560 .bf16) (r : Fin 6144) (u : Fin 1) :
    k0_pay4 (F := Ideal) x (ix2 r u) = rex (amax (two (φ := .bf16) x r) * c0) := by
  rw [pay4_eq, rexV_at, mulc_at, amaxX_at]

theorem pay5_at (x : Vec Ideal S6144x2560 .bf16) (r : Fin 6144) (u : Fin 1) :
    k0_pay5 (F := Ideal) x (ix2 r u) = rsc (amax (two (φ := .bf16) x r) * c0) := by
  unfold rsc fld
  rw [← pay4_at x r u]
  rfl

/-- its codes. -/
theorem pay8_at (x : Vec Ideal S6144x2560 .bf16) (r : Fin 6144) (k : Fin 2560) :
    k0_pay8 (F := Ideal) (k0_pay6 x) k0_pay7 (ix2 r k) = qrow (two (φ := .bf16) x r) k := by
  unfold k0_pay8 k0_pay7 k0_pay6 qrow clip
  show min (Ideal.ofBits .f32 0x47600000#32) (max (Ideal.ofBits .f32 0xC7600000#32) (x (ix2 r k) * (broadcastTo (s := S6144x1) S6144x2560 _ _ (ix2 r k)))) = _
  rw [broadcastTo_apply _ _ _ (ix2 r 0) (by intro a; fin_cases a <;> rfl)]
  unfold riv fld
  rw [← pay4_at x r 0]
  rfl

/-- One group's turn: its rows take their product with the group's weights. -/
def rstep (s : FVec Ideal S6144x1 .f32) (q : FVec Ideal S6144x2560 .fp8e5m2) (e : IVec S6144x1 32) (b : BitVec 32)
    (w : Vec Ideal S1x1024x2560 .fp8e4m3) (ws : Vec Ideal S1x1024 .f32) (prev : FVec Ideal S6144x1024 .f32) : FVec Ideal S6144x1024 .f32 :=
  select (broadcastTo S6144x1024 (shapeCast S6144x1 (cmpi .eq e (broadcast S6144x1 b)) shapeCasts_S6144x1_S6144x1) broadcasts_S6144x1_S6144x1024)
    (mulf (mulf (matmul dot_S6144x2560_S1024x2560_S6144x1024_1_1_0_0_n_n none q (shapeCast S1024x2560 w shapeCasts_S1x1024x2560_S1024x2560 : FVec Ideal S1024x2560 .fp8e4m3) (constant S6144x1024 .f32 0x00000000#32))
      (broadcastTo S6144x1024 s broadcasts_S6144x1_S6144x1024)) (broadcastTo S6144x1024 ws broadcasts_S1x1024_S6144x1024)) prev

theorem rstep_at (s : FVec Ideal S6144x1 .f32) (q : FVec Ideal S6144x2560 .fp8e5m2) (e : IVec S6144x1 32) (b : BitVec 32)
    (w : Vec Ideal S1x1024x2560 .fp8e4m3) (ws : Vec Ideal S1x1024 .f32) (prev : FVec Ideal S6144x1024 .f32) (r : Fin 6144) (j : Fin 1024) :
    rstep s q e b w ws prev (ix2 r j) = if e (ix2 r 0) = b then (∑ k : Fin 2560, q (ix2 r k) * w (ix3 0 j k)) * s (ix2 r 0) * ws (ix2 0 j) else prev (ix2 r j) := by
  unfold rstep
  show Scalar.select (broadcastTo S6144x1024 _ _ (ix2 r j)) (_ * broadcastTo S6144x1024 s _ (ix2 r j) * broadcastTo S6144x1024 ws _ (ix2 r j)) (prev (ix2 r j)) = _
  rw [broadcastTo_apply s _ _ (ix2 r 0) (by intro a; fin_cases a <;> rfl), broadcastTo_apply ws _ _ (ix2 0 j) (by intro a; fin_cases a <;> rfl),
    shapeCast_self (s := S6144x1), broadcastTo_apply (cmpi .eq e (broadcast S6144x1 b)) _ _ (ix2 r 0) (by intro a; fin_cases a <;> rfl)]
  have hm : FloatOps.matmul (F := Ideal) dot_S6144x2560_S1024x2560_S6144x1024_1_1_0_0_n_n none q (shapeCast S1024x2560 w shapeCasts_S1x1024x2560_S1024x2560 : FVec Ideal S1024x2560 .fp8e4m3) (constant S6144x1024 .f32 0x00000000#32) (ix2 r j)
      = ∑ k : Fin 2560, q (ix2 r k) * w (ix3 0 j k) := by
    refine (Ideal.matmul_transposedRhs_apply (M := 6144) (K := 2560) (N := 1024) none _ _ _ r j).trans ?_
    show Ideal.ofBits .f32 0x00000000#32 + _ = _
    rw [Ideal.ofBits_zero_f32, zero_add]
    refine Finset.sum_congr rfl fun k _ => ?_
    rw [shapeCast_1ab_ab_apply]
  show Scalar.select (IntOp.cmpi .eq (e (ix2 r 0)) b) (FloatOps.matmul (F := Ideal) dot_S6144x2560_S1024x2560_S6144x1024_1_1_0_0_n_n none q (shapeCast S1024x2560 w shapeCasts_S1x1024x2560_S1024x2560 : FVec Ideal S1024x2560 .fp8e4m3) (constant S6144x1024 .f32 0x00000000#32) (ix2 r j) * _ * _) _ = _
  rw [hm]
  by_cases h : e (ix2 r 0) = b
  · rw [if_pos h, h]
    simp [Scalar.select, IntOp.cmpi]
  · rw [if_neg h]
    have hb : (e (ix2 r 0) == b) = false := beq_false_of_ne h
    simp [Scalar.select, IntOp.cmpi, hb]

end Cert.ReferenceIdeal.Hand
-- ==== Proof.ReferenceIdeal.ValChain.lean ====
/-
  The reference's forty turns as one recursion, and what it leaves: each row's product with its own group's weights.
-/
module

public import proofs.«01_k».proof.Proof.ReferenceIdeal.ValRow

@[expose] public section

set_option maxRecDepth 16384

noncomputable section

namespace Cert.ReferenceIdeal.Hand

open Idealize.ShloMosaic Idealize.ShloMosaic.ValueIdx
open Cert.ReferenceIdeal.Gen Cert.Spec
open scoped BigOperators

/-- The weights of group `n`; -/
def wAt (x : Vec Ideal S40x1024x2560 .fp8e4m3) (n : ℕ) : Vec Ideal S1x1024x2560 .fp8e4m3 := fun y =>
  x (ix3 ⟨n % 40, Nat.mod_lt _ (by decide)⟩ (y 1) (y 2))
/-- their scales. -/
def sAt (x : Vec Ideal S40x1024 .f32) (n : ℕ) : Vec Ideal S1x1024 .f32 := fun y =>
  x (ix2 ⟨n % 40, Nat.mod_lt _ (by decide)⟩ (y 1))

theorem ld_w (x : Vec Ideal S40x1024x2560 .fp8e4m3) (n : ℕ) (inb) (h : n < 40) :
    View.ld x (Rect.unit (s := S40x1024x2560) ![n, 0, 0] S1x1024x2560.size inb) = wAt x n := by
  refine funext fun (y : S1x1024x2560.Idx) => ?_
  show x _ = x _
  refine congrArg x (funext fun a => Fin.ext ?_)
  have h0 : (y 0).val < 1 := (y 0).isLt
  fin_cases a
  · show n + 1 * (y 0).val = n % 40
    omega
  · show 0 + 1 * (y 1).val = (y 1).val
    omega
  · show 0 + 1 * (y 2).val = (y 2).val
    omega

theorem ld_s (x : Vec Ideal S40x1024 .f32) (n : ℕ) (inb) (h : n < 40) :
    View.ld x (Rect.unit (s := S40x1024) ![n, 0] S1x1024.size inb) = sAt x n := by
  refine funext fun (y : S1x1024.Idx) => ?_
  show x _ = x _
  refine congrArg x (funext fun a => Fin.ext ?_)
  have h0 : (y 0).val < 1 := (y 0).isLt
  fin_cases a
  · show n + 1 * (y 0).val = n % 40
    omega
  · show 0 + 1 * (y 1).val = (y 1).val
    omega

/-- The result after the turns of the first `n` groups. -/
def chain (s : FVec Ideal S6144x1 .f32) (q : FVec Ideal S6144x2560 .fp8e5m2) (e : IVec S6144x1 32) (x2 : Vec Ideal S40x1024x2560 .fp8e4m3) (x3 : Vec Ideal S40x1024 .f32) :
    ℕ → FVec Ideal S6144x1024 .f32
  | 0 => broadcast S6144x1024 (Scalar.ofBits .f32 0x00000000#32)
  | n + 1 => rstep s q e (BitVec.ofNat 32 n) (wAt x2 n) (sAt x3 n) (chain s q e x2 x3 n)

theorem chain_succ (s : FVec Ideal S6144x1 .f32) (q : FVec Ideal S6144x2560 .fp8e5m2) (e : IVec S6144x1 32) (x2 : Vec Ideal S40x1024x2560 .fp8e4m3) (x3 : Vec Ideal S40x1024 .f32) (n : ℕ) :
    chain s q e x2 x3 (n + 1) = rstep s q e (BitVec.ofNat 32 n) (wAt x2 n) (sAt x3 n) (chain s q e x2 x3 n) := rfl

theorem chain_at (s : FVec Ideal S6144x1 .f32) (q : FVec Ideal S6144x2560 .fp8e5m2) (e : IVec S6144x1 32) (x2 : Vec Ideal S40x1024x2560 .fp8e4m3) (x3 : Vec Ideal S40x1024 .f32)
    (r : Fin 6144) (j : Fin 1024) (g : Fin 40) (he : e (ix2 r 0) = BitVec.ofNat 32 g.val) (n : ℕ) (hn : n ≤ 40) (hg : g.val < n) :
    chain s q e x2 x3 n (ix2 r j) = (∑ k : Fin 2560, q (ix2 r k) * x2 (ix3 g j k)) * s (ix2 r 0) * x3 (ix2 g j) := by
  induction n with
  | zero => exact absurd hg (Nat.not_lt_zero _)
  | succ n ih =>
    rw [chain_succ, rstep_at]
    by_cases h : g.val = n
    · rw [he, h, if_pos rfl]
      have e1 : (⟨n % 40, Nat.mod_lt _ (by decide)⟩ : Fin 40) = g := Fin.ext (by show n % 40 = g.val; omega)
      show (∑ k : Fin 2560, q (ix2 r k) * x2 (ix3 ⟨n % 40, Nat.mod_lt _ (by decide)⟩ j k)) * _ * x3 (ix2 ⟨n % 40, Nat.mod_lt _ (by decide)⟩ j) = _
      rw [e1]
    · rw [if_neg, ih (by omega) (by omega)]
      rw [he]
      intro hb
      have h2 := congrArg BitVec.toNat hb
      rw [BitVec.toNat_ofNat, BitVec.toNat_ofNat] at h2
      have := g.isLt
      omega

section
variable (s : FVec Ideal S6144x1 .f32) (e : IVec S6144x1 32) (q : FVec Ideal S6144x2560 .fp8e5m2)
variable (x2 : Vec Ideal S40x1024x2560 .fp8e4m3) (x3 : Vec Ideal S40x1024 .f32)

theorem turns_2 (v45 : Vec Ideal S6144x1 .i32) (v41 v42 : FVec Ideal S6144x2560 .f32) :
    k0_pay10 s v41 v42 v45 (View.ld x2 r0_2) (View.ld x3 r0_3) (View.ld x2 r0_4) (View.ld x3 r0_5) = chain s (k0_pay8 v41 v42) (k0_pay9 v45) x2 x3 2 := by
  rw [chain_succ, chain_succ, ← ld_w x2 0 inb_S40x1024x2560_S1x1024x2560_0_0_0 (by decide), ← ld_s x3 0 inb_S40x1024_S1x1024_0_0 (by decide), ← ld_w x2 1 inb_S40x1024x2560_S1x1024x2560_1_0_0 (by decide), ← ld_s x3 1 inb_S40x1024_S1x1024_1_0 (by decide)]
  rfl

theorem turns_5 (v45 : Vec Ideal S6144x1 .i32) (v41 v42 : FVec Ideal S6144x2560 .f32) :
    k0_pay13 s (k0_pay8 v41 v42) (k0_pay9 v45) (chain s (k0_pay8 v41 v42) (k0_pay9 v45) x2 x3 2) (k0_pay11 v45) (k0_pay12 s v41 v42 (View.ld x2 r0_6)) (View.ld x3 r0_7) (View.ld x2 r0_8) (View.ld x3 r0_9) (View.ld x2 r0_10) (View.ld x3 r0_11) = chain s (k0_pay8 v41 v42) (k0_pay9 v45) x2 x3 5 := by
  rw [chain_succ _ _ _ _ _ 4, chain_succ _ _ _ _ _ 3, chain_succ _ _ _ _ _ 2, ← ld_w x2 2 inb_S40x1024x2560_S1x1024x2560_2_0_0 (by decide), ← ld_s x3 2 inb_S40x1024_S1x1024_2_0 (by decide), ← ld_w x2 3 inb_S40x1024x2560_S1x1024x2560_3_0_0 (by decide), ← ld_s x3 3 inb_S40x1024_S1x1024_3_0 (by decide), ← ld_w x2 4 inb_S40x1024x2560_S1x1024x2560_4_0_0 (by decide), ← ld_s x3 4 inb_S40x1024_S1x1024_4_0 (by decide)]
  rfl

theorem turns_8 : k0_pay16 s q e (chain s q e x2 x3 5) (k0_pay14 e) (k0_pay15 s q (View.ld x2 r0_12)) (View.ld x3 r0_13) (View.ld x2 r0_14) (View.ld x3 r0_15) (View.ld x2 r0_16) (View.ld x3 r0_17) = chain s q e x2 x3 8 := by
  rw [chain_succ _ _ _ _ _ 7, chain_succ _ _ _ _ _ 6, chain_succ _ _ _ _ _ 5, ← ld_w x2 5 inb_S40x1024x2560_S1x1024x2560_5_0_0 (by decide), ← ld_s x3 5 inb_S40x1024_S1x1024_5_0 (by decide), ← ld_w x2 6 inb_S40x1024x2560_S1x1024x2560_6_0_0 (by decide), ← ld_s x3 6 inb_S40x1024_S1x1024_6_0 (by decide), ← ld_w x2 7 inb_S40x1024x2560_S1x1024x2560_7_0_0 (by decide), ← ld_s x3 7 inb_S40x1024_S1x1024_7_0 (by decide)]
  rfl

theorem turns_11 : k0_pay19 s q e (chain s q e x2 x3 8) (k0_pay17 e) (k0_pay18 s q (View.ld x2 r0_18)) (View.ld x3 r0_19) (View.ld x2 r0_20) (View.ld x3 r0_21) (View.ld x2 r0_22) (View.ld x3 r0_23) = chain s q e x2 x3 11 := by
  rw [chain_succ _ _ _ _ _ 10, chain_succ _ _ _ _ _ 9, chain_succ _ _ _ _ _ 8, ← ld_w x2 8 inb_S40x1024x2560_S1x1024x2560_8_0_0 (by decide), ← ld_s x3 8 inb_S40x1024_S1x1024_8_0 (by decide), ← ld_w x2 9 inb_S40x1024x2560_S1x1024x2560_9_0_0 (by decide), ← ld_s x3 9 inb_S40x1024_S1x1024_9_0 (by decide), ← ld_w x2 10 inb_S40x1024x2560_S1x1024x2560_10_0_0 (by decide), ← ld_s x3 10 inb_S40x1024_S1x1024_10_0 (by decide)]
  rfl

theorem turns_14 : k0_pay22 s q e (chain s q e x2 x3 11) (k0_pay20 e) (k0_pay21 s q (View.ld x2 r0_24)) (View.ld x3 r0_25) (View.ld x2 r0_26) (View.ld x3 r0_27) (View.ld x2 r0_28) (View.ld x3 r0_29) = chain s q e x2 x3 14 := by
  rw [chain_succ _ _ _ _ _ 13, chain_succ _ _ _ _ _ 12, chain_succ _ _ _ _ _ 11, ← ld_w x2 11 inb_S40x1024x2560_S1x1024x2560_11_0_0 (by decide), ← ld_s x3 11 inb_S40x1024_S1x1024_11_0 (by decide), ← ld_w x2 12 inb_S40x1024x2560_S1x1024x2560_12_0_0 (by decide), ← ld_s x3 12 inb_S40x1024_S1x1024_12_0 (by decide), ← ld_w x2 13 inb_S40x1024x2560_S1x1024x2560_13_0_0 (by decide), ← ld_s x3 13 inb_S40x1024_S1x1024_13_0 (by decide)]
  rfl

theorem turns_17 : k0_pay25 s q e (chain s q e x2 x3 14) (k0_pay23 e) (k0_pay24 s q (View.ld x2 r0_30)) (View.ld x3 r0_31) (View.ld x2 r0_32) (View.ld x3 r0_33) (View.ld x2 r0_34) (View.ld x3 r0_35) = chain s q e x2 x3 17 := by
  rw [chain_succ _ _ _ _ _ 16, chain_succ _ _ _ _ _ 15, chain_succ _ _ _ _ _ 14, ← ld_w x2 14 inb_S40x1024x2560_S1x1024x2560_14_0_0 (by decide), ← ld_s x3 14 inb_S40x1024_S1x1024_14_0 (by decide), ← ld_w x2 15 inb_S40x1024x2560_S1x1024x2560_15_0_0 (by decide), ← ld_s x3 15 inb_S40x1024_S1x1024_15_0 (by decide), ← ld_w x2 16 inb_S40x1024x2560_S1x1024x2560_16_0_0 (by decide), ← ld_s x3 16 inb_S40x1024_S1x1024_16_0 (by decide)]
  rfl

theorem turns_20 : k0_pay28 s q e (chain s q e x2 x3 17) (k0_pay26 e) (k0_pay27 s q (View.ld x2 r0_36)) (View.ld x3 r0_37) (View.ld x2 r0_38) (View.ld x3 r0_39) (View.ld x2 r0_40) (View.ld x3 r0_41) = chain s q e x2 x3 20 := by
  rw [chain_succ _ _ _ _ _ 19, chain_succ _ _ _ _ _ 18, chain_succ _ _ _ _ _ 17, ← ld_w x2 17 inb_S40x1024x2560_S1x1024x2560_17_0_0 (by decide), ← ld_s x3 17 inb_S40x1024_S1x1024_17_0 (by decide), ← ld_w x2 18 inb_S40x1024x2560_S1x1024x2560_18_0_0 (by decide), ← ld_s x3 18 inb_S40x1024_S1x1024_18_0 (by decide), ← ld_w x2 19 inb_S40x1024x2560_S1x1024x2560_19_0_0 (by decide), ← ld_s x3 19 inb_S40x1024_S1x1024_19_0 (by decide)]
  rfl

theorem turns_23 : k0_pay31 s q e (chain s q e x2 x3 20) (k0_pay29 e) (k0_pay30 s q (View.ld x2 r0_42)) (View.ld x3 r0_43) (View.ld x2 r0_44) (View.ld x3 r0_45) (View.ld x2 r0_46) (View.ld x3 r0_47) = chain s q e x2 x3 23 := by
  rw [chain_succ _ _ _ _ _ 22, chain_succ _ _ _ _ _ 21, chain_succ _ _ _ _ _ 20, ← ld_w x2 20 inb_S40x1024x2560_S1x1024x2560_20_0_0 (by decide), ← ld_s x3 20 inb_S40x1024_S1x1024_20_0 (by decide), ← ld_w x2 21 inb_S40x1024x2560_S1x1024x2560_21_0_0 (by decide), ← ld_s x3 21 inb_S40x1024_S1x1024_21_0 (by decide), ← ld_w x2 22 inb_S40x1024x2560_S1x1024x2560_22_0_0 (by decide), ← ld_s x3 22 inb_S40x1024_S1x1024_22_0 (by decide)]
  rfl

theorem turns_26 : k0_pay34 s q e (chain s q e x2 x3 23) (k0_pay32 e) (k0_pay33 s q (View.ld x2 r0_48)) (View.ld x3 r0_49) (View.ld x2 r0_50) (View.ld x3 r0_51) (View.ld x2 r0_52) (View.ld x3 r0_53) = chain s q e x2 x3 26 := by
  rw [chain_succ _ _ _ _ _ 25, chain_succ _ _ _ _ _ 24, chain_succ _ _ _ _ _ 23, ← ld_w x2 23 inb_S40x1024x2560_S1x1024x2560_23_0_0 (by decide), ← ld_s x3 23 inb_S40x1024_S1x1024_23_0 (by decide), ← ld_w x2 24 inb_S40x1024x2560_S1x1024x2560_24_0_0 (by decide), ← ld_s x3 24 inb_S40x1024_S1x1024_24_0 (by decide), ← ld_w x2 25 inb_S40x1024x2560_S1x1024x2560_25_0_0 (by decide), ← ld_s x3 25 inb_S40x1024_S1x1024_25_0 (by decide)]
  rfl

theorem turns_29 : k0_pay37 s q e (chain s q e x2 x3 26) (k0_pay35 e) (k0_pay36 s q (View.ld x2 r0_54)) (View.ld x3 r0_55) (View.ld x2 r0_56) (View.ld x3 r0_57) (View.ld x2 r0_58) (View.ld x3 r0_59) = chain s q e x2 x3 29 := by
  rw [chain_succ _ _ _ _ _ 28, chain_succ _ _ _ _ _ 27, chain_succ _ _ _ _ _ 26, ← ld_w x2 26 inb_S40x1024x2560_S1x1024x2560_26_0_0 (by decide), ← ld_s x3 26 inb_S40x1024_S1x1024_26_0 (by decide), ← ld_w x2 27 inb_S40x1024x2560_S1x1024x2560_27_0_0 (by decide), ← ld_s x3 27 inb_S40x1024_S1x1024_27_0 (by decide), ← ld_w x2 28 inb_S40x1024x2560_S1x1024x2560_28_0_0 (by decide), ← ld_s x3 28 inb_S40x1024_S1x1024_28_0 (by decide)]
  rfl

theorem turns_32 : k0_pay40 s q e (chain s q e x2 x3 29) (k0_pay38 e) (k0_pay39 s q (View.ld x2 r0_60)) (View.ld x3 r0_61) (View.ld x2 r0_62) (View.ld x3 r0_63) (View.ld x2 r0_64) (View.ld x3 r0_65) = chain s q e x2 x3 32 := by
  rw [chain_succ _ _ _ _ _ 31, chain_succ _ _ _ _ _ 30, chain_succ _ _ _ _ _ 29, ← ld_w x2 29 inb_S40x1024x2560_S1x1024x2560_29_0_0 (by decide), ← ld_s x3 29 inb_S40x1024_S1x1024_29_0 (by decide), ← ld_w x2 30 inb_S40x1024x2560_S1x1024x2560_30_0_0 (by decide), ← ld_s x3 30 inb_S40x1024_S1x1024_30_0 (by decide), ← ld_w x2 31 inb_S40x1024x2560_S1x1024x2560_31_0_0 (by decide), ← ld_s x3 31 inb_S40x1024_S1x1024_31_0 (by decide)]
  rfl

theorem turns_35 : k0_pay43 s q e (chain s q e x2 x3 32) (k0_pay41 e) (k0_pay42 s q (View.ld x2 r0_66)) (View.ld x3 r0_67) (View.ld x2 r0_68) (View.ld x3 r0_69) (View.ld x2 r0_70) (View.ld x3 r0_71) = chain s q e x2 x3 35 := by
  rw [chain_succ _ _ _ _ _ 34, chain_succ _ _ _ _ _ 33, chain_succ _ _ _ _ _ 32, ← ld_w x2 32 inb_S40x1024x2560_S1x1024x2560_32_0_0 (by decide), ← ld_s x3 32 inb_S40x1024_S1x1024_32_0 (by decide), ← ld_w x2 33 inb_S40x1024x2560_S1x1024x2560_33_0_0 (by decide), ← ld_s x3 33 inb_S40x1024_S1x1024_33_0 (by decide), ← ld_w x2 34 inb_S40x1024x2560_S1x1024x2560_34_0_0 (by decide), ← ld_s x3 34 inb_S40x1024_S1x1024_34_0 (by decide)]
  rfl

theorem turns_38 : k0_pay46 s q e (chain s q e x2 x3 35) (k0_pay44 e) (k0_pay45 s q (View.ld x2 r0_72)) (View.ld x3 r0_73) (View.ld x2 r0_74) (View.ld x3 r0_75) (View.ld x2 r0_76) (View.ld x3 r0_77) = chain s q e x2 x3 38 := by
  rw [chain_succ _ _ _ _ _ 37, chain_succ _ _ _ _ _ 36, chain_succ _ _ _ _ _ 35, ← ld_w x2 35 inb_S40x1024x2560_S1x1024x2560_35_0_0 (by decide), ← ld_s x3 35 inb_S40x1024_S1x1024_35_0 (by decide), ← ld_w x2 36 inb_S40x1024x2560_S1x1024x2560_36_0_0 (by decide), ← ld_s x3 36 inb_S40x1024_S1x1024_36_0 (by decide), ← ld_w x2 37 inb_S40x1024x2560_S1x1024x2560_37_0_0 (by decide), ← ld_s x3 37 inb_S40x1024_S1x1024_37_0 (by decide)]
  rfl

theorem turns_40 : k0_pay49 s q e (chain s q e x2 x3 38) (k0_pay47 e) (k0_pay48 s q (View.ld x2 r0_78)) (View.ld x3 r0_79) (View.ld x2 r0_80) (View.ld x3 r0_81) = chain s q e x2 x3 40 := by
  rw [chain_succ _ _ _ _ _ 39, chain_succ _ _ _ _ _ 38, ← ld_w x2 38 inb_S40x1024x2560_S1x1024x2560_38_0_0 (by decide), ← ld_s x3 38 inb_S40x1024_S1x1024_38_0 (by decide), ← ld_w x2 39 inb_S40x1024x2560_S1x1024x2560_39_0_0 (by decide), ← ld_s x3 39 inb_S40x1024_S1x1024_39_0 (by decide)]
  rfl

end

end Cert.ReferenceIdeal.Hand
-- ==== Proof.ReferenceIdeal.ValOut.lean ====
/-
  What the reference's body leaves in its two result buffers: every row's codes and scale, as the plain arithmetic of
  `Spec`.
-/
module

public import proofs.«01_k».proof.Proof.ReferenceIdeal.ValChain

@[expose] public section

set_option maxRecDepth 16384

noncomputable section

namespace Cert.ReferenceIdeal.Hand

open Idealize.ShloMosaic Idealize.ShloMosaic.ValueIdx
open Cert.ReferenceIdeal.Gen Cert.Spec
open scoped BigOperators

section
variable (s : FVec Ideal S6144x1 .f32) (q : FVec Ideal S6144x2560 .fp8e5m2) (e : IVec S6144x1 32) (p : FVec Ideal S6144x1024 .f32) (b : IVec S6144x1 1) (v : FVec Ideal S6144x1024 .f32) (w1 : Vec Ideal S1x1024 .f32) (w2 : Vec Ideal S1x1024x2560 .fp8e4m3) (w3 : Vec Ideal S1x1024 .f32) (g u : Vec Ideal S6144x1024 .bf16)

/-- The gradients at an index; -/
theorem pay52_at (i : S6144x1024.Idx) : k0_pay52 s q e p b v w1 w2 w3 g u i = dgv (k0_pay49 s q e p b v w1 w2 w3 i) (g i) (u i) := rfl
theorem pay53_at (i : S6144x1024.Idx) : k0_pay53 s q e p b v w1 w2 w3 g i = duv (k0_pay49 s q e p b v w1 w2 w3 i) (g i) := rfl

theorem lift1024 (r : Fin 6144) (k : Fin 1024) : reduces_S6144x1024_S6144.lift (ix1 r) k = (ix2 r k : S6144x1024.Idx) := by
  funext a
  fin_cases a <;> rfl

/-- the largest magnitude of each row; -/
theorem amaxG_at (x : FVec Ideal S6144x1024 .f32) (r : Fin 6144) (z : Fin 1) :
    shapeCast S6144x1 (multiReduction .maximumf [1] S6144 (absf x) 0xFF800000#32 reduces_S6144x1024_S6144 (.inl rfl) rfl) shapeCasts_S6144_S6144x1 (ix2 r z)
    = amax (fun k => x (ix2 r k)) := by
  rw [shapeCast_a_a1_apply]
  refine (Ideal.multiReduction_maximumf_single _ _ _ _ _ _).trans ?_
  unfold amax
  refine Finset.fold_congr fun (k : Fin 1024) _ => ?_
  exact congrArg (fun i => mag (x i)) (lift1024 r k)

theorem pay54_eq : k0_pay54 s q e p b v w1 w2 w3 g u
    = maximumf (shapeCast S6144x1 (multiReduction .maximumf [1] S6144 (absf (k0_pay52 s q e p b v w1 w2 w3 g u)) 0xFF800000#32 reduces_S6144x1024_S6144 (.inl rfl) rfl) shapeCasts_S6144_S6144x1)
      (shapeCast S6144x1 (multiReduction .maximumf [1] S6144 (absf (k0_pay53 s q e p b v w1 w2 w3 g)) 0xFF800000#32 reduces_S6144x1024_S6144 (.inl rfl) rfl) shapeCasts_S6144_S6144x1) := rfl

theorem max_at (a b : FVec Ideal S6144x1 .f32) (i : S6144x1.Idx) : maximumf a b i = max (a i) (b i) := rfl

theorem pay54_at (r : Fin 6144) (z : Fin 1) : k0_pay54 s q e p b v w1 w2 w3 g u (ix2 r z) * c0
    = arg (two (φ := .f32) (k0_pay49 s q e p b v w1 w2 w3) r) (two (φ := .bf16) g r) (two (φ := .bf16) u r) := by
  rw [pay54_eq, max_at, amaxG_at, amaxG_at]
  rfl
end

/-- their scale, from the column of arguments; -/
theorem pay56_eq (a : FVec Ideal S6144x1 .f32) : k0_pay56 a k0_pay55 = rexV (mulf a (broadcast S6144x1 (Scalar.ofBits .f32 0x37924925#32))) := rfl

theorem pay56_at (a : FVec Ideal S6144x1 .f32) (r : Fin 6144) (z : Fin 1) : k0_pay56 a k0_pay55 (ix2 r z) = rex (a (ix2 r 0) * c0) := by
  rw [pay56_eq, rexV_at, mulc_at]

theorem pay57_at (a : FVec Ideal S6144x1 .f32) (r : Fin 6144) (z : Fin 1) : k0_pay57 a k0_pay55 (ix2 r z) = rsc (a (ix2 r 0) * c0) := by
  unfold rsc fld
  rw [← pay56_at a r z]
  rfl

theorem pay58_at (a : FVec Ideal S6144x1 .f32) (r : Fin 6144) (z : Fin 1) : k0_pay58 a k0_pay55 (ix2 r z) = riv (a (ix2 r 0) * c0) := by
  unfold riv fld
  rw [← pay56_at a r z]
  rfl

/-- their codes. -/
theorem pay59_at (d : FVec Ideal S6144x1024 .f32) (a : FVec Ideal S6144x1 .f32) (r : Fin 6144) (j : Fin 1024) :
    k0_pay59 d a k0_pay55 (ix2 r j) = clip (d (ix2 r j) * riv (a (ix2 r 0) * c0)) := by
  rw [← pay58_at a r 0]
  unfold k0_pay59 clip
  refine congrArg (fun v => min (Ideal.ofBits .f32 0x47600000#32) (max (Ideal.ofBits .f32 0xC7600000#32) (d (ix2 r j) * v))) ?_
  exact broadcastTo_apply _ _ _ (ix2 r 0) (by intro a; fin_cases a <;> rfl)

theorem pay1_at (d : FVec Ideal S6144x1024 .fp8e5m2) (z : Fin 1) (r : Fin 6144) (j : Fin 1024) : k0_pay1 d (ix3 z r j) = d (ix2 r j) := by
  unfold k0_pay1
  rw [shapeCast_ab_1ab_apply]

theorem pay2_at (d : FVec Ideal S6144x1024 .f32) (a : FVec Ideal S6144x1 .f32) (z : Fin 1) (r : Fin 6144) (j : Fin 1024) :
    k0_pay2 d a (ix3 z r j) = clip (d (ix2 r j) * a (ix2 r 0)) := by
  unfold k0_pay2 clip
  rw [shapeCast_ab_1ab_apply]
  refine congrArg (fun v => min (Ideal.ofBits .f32 0x47600000#32) (max (Ideal.ofBits .f32 0xC7600000#32) (d (ix2 r j) * v))) ?_
  exact broadcastTo_apply _ _ _ (ix2 r 0) (by intro a; fin_cases a <;> rfl)

/-- A whole buffer read is the buffer. -/
theorem ld_whole2 {n k : ℕ} {e : EltTy} (x : Vec Ideal ⟨2, ![n, k]⟩ e) (inb) :
    View.ld x (Rect.unit (s := ⟨2, ![n, k]⟩) ![0, 0] (⟨2, ![n, k]⟩ : Shape).size inb) = x := by
  refine funext fun (y : (⟨2, ![n, k]⟩ : Shape).Idx) => ?_
  refine congrArg x (funext fun a => Fin.ext ?_)
  fin_cases a
  · show 0 + 1 * (y 0).val = (y 0).val
    omega
  · show 0 + 1 * (y 1).val = (y 1).val
    omega

section
variable (x0 : Vec Ideal S6144x2560 .bf16) (x1 : Vec Ideal S6144x1 .i32) (x2 : Vec Ideal S40x1024x2560 .fp8e4m3) (x3 : Vec Ideal S40x1024 .f32) (x4 x5 : Vec Ideal S6144x1024 .bf16)

theorem p60 : k0_pay60 (F := Ideal) x0 x1 x2 x3 x4 x5 = k0_pay5 x0 := by
  unfold k0_pay60
  rw [ld_whole2]
theorem p63 : k0_pay63 (F := Ideal) x0 x1 x2 x3 x4 x5 = k0_pay8 (k0_pay6 x0) k0_pay7 := by
  unfold k0_pay63 k0_pay61 k0_pay62
  rw [ld_whole2]
theorem p64 : k0_pay64 (F := Ideal) x0 x1 x2 x3 x4 x5 = x1 := by
  unfold k0_pay64 k0_pay9
  rw [ld_whole2, shapeCast_self (s := S6144x1)]

theorem p65 : k0_pay65 (F := Ideal) x0 x1 x2 x3 x4 x5 = chain (k0_pay60 x0 x1 x2 x3 x4 x5) (k0_pay63 x0 x1 x2 x3 x4 x5) (k0_pay64 x0 x1 x2 x3 x4 x5) x2 x3 38 := by
  unfold k0_pay65 k0_pay64 k0_pay63
  rw [turns_2, turns_5, turns_8, turns_11, turns_14, turns_17, turns_20, turns_23, turns_26, turns_29, turns_32, turns_35, turns_38]

/-- The reference's `dh`. -/
theorem p49 : k0_pay49 (F := Ideal) (k0_pay60 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (View.ld x3 r0_79) (View.ld x2 r0_80) (View.ld x3 r0_81) = chain (k0_pay5 x0) (k0_pay8 (k0_pay6 x0) k0_pay7) x1 x2 x3 40 := by
  rw [p65]
  unfold k0_pay66 k0_pay67
  rw [turns_40, p60, p63, p64]

variable (gE : Fin 6144 → Fin 40) (hE : ∀ r, x1 (ix2 r 0) = BitVec.ofNat 32 (gE r).val)
include hE

theorem p49_row (r : Fin 6144) : two (φ := .f32) (k0_pay49 (F := Ideal) (k0_pay60 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (View.ld x3 r0_79) (View.ld x2 r0_80) (View.ld x3 r0_81)) r = (dh (two (φ := .bf16) x0) (fun e j k => x2 (ix3 e j k)) (fun e j => x3 (ix2 e j)) gE) r := by
  rw [p49]
  funext j
  refine (chain_at _ _ _ _ _ r j (gE r) (hE r) 40 (le_refl _) (gE r).isLt).trans ?_
  unfold dh dhv
  rw [pay5_at]
  refine congrArg (fun v : EReal => v * _ * _) (Finset.sum_congr rfl fun k _ => ?_)
  rw [pay8_at]

theorem arg_row (r : Fin 6144) (z : Fin 1) : k0_pay68 (F := Ideal) x0 x1 x2 x3 x4 x5 (ix2 r z) * c0 = arg ((dh (two (φ := .bf16) x0) (fun e j k => x2 (ix3 e j k)) (fun e j => x3 (ix2 e j)) gE) r) (two (φ := .bf16) x4 r) (two (φ := .bf16) x5 r) := by
  unfold k0_pay68
  rw [pay54_at, p49_row x0 x1 x2 x3 x4 x5 gE hE, ld_whole2, ld_whole2]

/-- The scale of each row; -/
theorem out7_at (y : S6144x1.Idx) : out0_7 (F := Ideal) x0 x1 x2 x3 x4 x5 y = scale (dh (two (φ := .bf16) x0) (fun e j k => x2 (ix3 e j k)) (fun e j => x3 (ix2 e j)) gE) (two (φ := .bf16) x4) (two (φ := .bf16) x5) (y 0) := by
  unfold out0_7 k0_pay69
  refine View.canon_apply_of_pieces (Val := Elt Ideal) (fun y : S6144x1.Idx => scale (dh (two (φ := .bf16) x0) (fun e j k => x2 (ix3 e j k)) (fun e j => x3 (ix2 e j)) gE) (two (φ := .bf16) x4) (two (φ := .bf16) x5) (y 0)) _
    (List.forall_mem_cons.2 ⟨fun (y : S6144x1.Idx) => ?_, fun _ h => absurd h List.not_mem_nil⟩) y (cover0_7 _ y)
  obtain ⟨r, z, rfl⟩ : ∃ r z, y = ix2 r z := ⟨y 0, y 1, eq_ix2 y⟩
  refine (pay57_at _ r z).trans ?_
  rw [arg_row x0 x1 x2 x3 x4 x5 gE hE]
  have e : Rect.emb r0_1 (ix2 r z) 0 = r := Fin.ext (by show 0 + 1 * r.val = r.val; omega)
  exact congrArg (scale (dh (two (φ := .bf16) x0) (fun e j k => x2 (ix3 e j k)) (fun e j => x3 (ix2 e j)) gE) (two (φ := .bf16) x4) (two (φ := .bf16) x5)) e.symm

theorem code0 (r : Fin 6144) (z : Fin 1) (j : Fin 1024) :
    k0_pay1 (k0_pay59 (k0_pay52 (F := Ideal) (k0_pay60 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (View.ld x3 r0_79) (View.ld x2 r0_80) (View.ld x3 r0_81) (View.ld x4 r0_82) (View.ld x5 r0_82)) (k0_pay68 x0 x1 x2 x3 x4 x5) k0_pay55) (ix3 z r j)
    = code (dh (two (φ := .bf16) x0) (fun e j k => x2 (ix3 e j k)) (fun e j => x3 (ix2 e j)) gE) (two (φ := .bf16) x4) (two (φ := .bf16) x5) 0 r j := by
  rw [pay1_at, pay59_at, arg_row x0 x1 x2 x3 x4 x5 gE hE, pay52_at, ld_whole2, ld_whole2]
  have e := congrFun (p49_row x0 x1 x2 x3 x4 x5 gE hE r) j
  unfold code
  rw [← e]
  rfl

theorem code1 (r : Fin 6144) (z : Fin 1) (j : Fin 1024) :
    k0_pay2 (k0_pay53 (F := Ideal) (k0_pay60 x0 x1 x2 x3 x4 x5) (k0_pay63 x0 x1 x2 x3 x4 x5) (k0_pay64 x0 x1 x2 x3 x4 x5) (k0_pay65 x0 x1 x2 x3 x4 x5) (k0_pay66 x0 x1 x2 x3 x4 x5) (k0_pay67 x0 x1 x2 x3 x4 x5) (View.ld x3 r0_79) (View.ld x2 r0_80) (View.ld x3 r0_81) (View.ld x4 r0_82)) (k0_pay58 (k0_pay68 x0 x1 x2 x3 x4 x5) k0_pay55) (ix3 z r j)
    = code (dh (two (φ := .bf16) x0) (fun e j k => x2 (ix3 e j k)) (fun e j => x3 (ix2 e j)) gE) (two (φ := .bf16) x4) (two (φ := .bf16) x5) 1 r j := by
  rw [pay2_at, pay58_at, arg_row x0 x1 x2 x3 x4 x5 gE hE, pay53_at, ld_whole2]
  have e := congrFun (p49_row x0 x1 x2 x3 x4 x5 gE hE r) j
  unfold code
  rw [← e]
  rfl

/-- the codes. -/
theorem out6_at (y : S2x6144x1024.Idx) : out0_6 (F := Ideal) x0 x1 x2 x3 x4 x5 y = code (dh (two (φ := .bf16) x0) (fun e j k => x2 (ix3 e j k)) (fun e j => x3 (ix2 e j)) gE) (two (φ := .bf16) x4) (two (φ := .bf16) x5) (y 0) (y 1) (y 2) := by
  unfold out0_6 k0_pay69
  refine View.canon_apply_of_pieces (Val := Elt Ideal) (fun y : S2x6144x1024.Idx => code (dh (two (φ := .bf16) x0) (fun e j k => x2 (ix3 e j k)) (fun e j => x3 (ix2 e j)) gE) (two (φ := .bf16) x4) (two (φ := .bf16) x5) (y 0) (y 1) (y 2)) _
    (List.forall_mem_cons.2 ⟨fun (y : S1x6144x1024.Idx) => ?_, List.forall_mem_cons.2 ⟨fun (y : S1x6144x1024.Idx) => ?_, fun _ h => absurd h List.not_mem_nil⟩⟩) y (cover0_6 _ _ y)
  · obtain ⟨z, r, j, rfl⟩ : ∃ z r j, y = ix3 z r j := ⟨y 0, y 1, y 2, eq_ix3 y⟩
    refine (code1 x0 x1 x2 x3 x4 x5 gE hE r z j).trans ?_
    have hz : z.val < 1 := z.isLt
    have e0 : Rect.emb r0_84 (ix3 z r j) 0 = (1 : Fin 2) := Fin.ext (by show 1 + 1 * z.val = 1; omega)
    have e1 : Rect.emb r0_84 (ix3 z r j) 1 = r := Fin.ext (by show 0 + 1 * r.val = r.val; omega)
    have e2 : Rect.emb r0_84 (ix3 z r j) 2 = j := Fin.ext (by show 0 + 1 * j.val = j.val; omega)
    show _ = code (dh (two (φ := .bf16) x0) (fun e j k => x2 (ix3 e j k)) (fun e j => x3 (ix2 e j)) gE) (two (φ := .bf16) x4) (two (φ := .bf16) x5) (Rect.emb r0_84 (ix3 z r j) 0) (Rect.emb r0_84 (ix3 z r j) 1) (Rect.emb r0_84 (ix3 z r j) 2)
    rw [e0, e1, e2]
  · obtain ⟨z, r, j, rfl⟩ : ∃ z r j, y = ix3 z r j := ⟨y 0, y 1, y 2, eq_ix3 y⟩
    refine (code0 x0 x1 x2 x3 x4 x5 gE hE r z j).trans ?_
    have hz : z.val < 1 := z.isLt
    have e0 : Rect.emb r0_83 (ix3 z r j) 0 = (0 : Fin 2) := Fin.ext (by show 0 + 1 * z.val = 0; omega)
    have e1 : Rect.emb r0_83 (ix3 z r j) 1 = r := Fin.ext (by show 0 + 1 * r.val = r.val; omega)
    have e2 : Rect.emb r0_83 (ix3 z r j) 2 = j := Fin.ext (by show 0 + 1 * j.val = j.val; omega)
    show _ = code (dh (two (φ := .bf16) x0) (fun e j k => x2 (ix3 e j k)) (fun e j => x3 (ix2 e j)) gE) (two (φ := .bf16) x4) (two (φ := .bf16) x5) (Rect.emb r0_83 (ix3 z r j) 0) (Rect.emb r0_83 (ix3 z r j) 1) (Rect.emb r0_83 (ix3 z r j) 2)
    rw [e0, e1, e2]

end

end Cert.ReferenceIdeal.Hand
-- ==== Proof.ReferenceIdeal.ValEid.lean ====
/-
  The reference's group of each row: the number of groups that end at or before it.
-/
module

public import proofs.«01_k».proof.Proof.Gen.ReferenceIdeal.Frame
public import proofs.«01_k».proof.Proof.KernelIdeal.Words
public import Idealize.ShloMosaic.Lib.StableHlo.RunClose

@[expose] public section

set_option maxRecDepth 16384
set_option maxHeartbeats 1000000

noncomputable section

namespace Cert.ReferenceIdeal.Hand

open Idealize.ShloMosaic Idealize.ShloMosaic.TcCoe Idealize.ShloMosaic.ValueIdx Idealize.ShloMosaic.Tactic Idealize.ShloMosaic.Routing
open Cert.ReferenceIdeal.Gen Cert.Plan
open Cert.KernelIdeal.Hand (gs_word Good sz)

attribute [local irreducible] Host.reduceWindow Host.reduce broadcastInDim cmpi extui iotaInDim constantI

variable {F : FTy → Type} [FloatOps F]
variable (m : (ℓ : Loc nD τ sig) → Buf (Elt F) ℓ)

/-- The column of groups from the group sizes. -/
def eidT (gs : IVec S40 32) : IVec S6144x1 32 :=
  broadcastInDim S6144x1 ![0] bcast_S6144_S6144x1_0 (Host.reduce IntOp.addi (extui 32 (cmpi .sge
    (broadcastInDim S6144x40 ![0, 1] bcast_S6144x1_S6144x40_0_1 (broadcastInDim S6144x1 ![0] bcast_S6144_S6144x1_0 (iotaInDim S6144 32 0)))
    (broadcastInDim S6144x40 ![0, 1] bcast_S1x40_S6144x40_0_1 (broadcastInDim S1x40 ![1] bcast_S40_S1x40_1
      (Host.reduceWindow IntOp.addi ![40] ![1] ![39] ![0] gs (broadcastInDim S_ ![] bcast_S_S_ (constantI S_ 32 0#32)) reduceWindows_S40_S40_w40s1p39_0 h_S_)))) natLt_1_32)
    (constantI S_ 32 0#32) reducesTo_S6144x40_S6144_d1 h_S_)

theorem V_main_v9 (c : Dev nD) : V m c main_v9 = eidT (m ((c : Thread nD τ).loc main_arg1)) := by
  unfold V
  simp only [List.flatten_cons, List.flatten_nil, List.append_nil, List.cons_append, List.nil_append]
  after_results_entrywise []

theorem iota_ap (r : Fin 6144) : iotaInDim S6144 32 0 (ix1 r) = BitVec.ofNat 32 r.val := by
  exact iota1_ap r

theorem eidT_word (gs : IVec S40 32) (hg : Good gs) (r : Fin 6144) : eidT gs (ix2 r 0) = BitVec.ofNat 32 (eid (sz gs) r.val) := by
  unfold eidT
  refine (bcCol _ _ r).trans ?_
  refine reduce_count (by decide) _ _ _ _ r (fun e => pre (sz gs) (e + 1) ≤ r.val) fun q => ?_
  rw [WordCmp.cmpi_at]
  have h1 := bcRows (n := 6144) (m := 40) bcast_S6144_S6144x1_0 bcast_S6144x1_S6144x40_0_1 (iotaInDim S6144 32 0) r q
  have h2 := bcCols (n := 6144) (m := 40) bcast_S40_S1x40_1 bcast_S1x40_S6144x40_0_1
    (Host.reduceWindow IntOp.addi ![40] ![1] ![39] ![0] gs (broadcastInDim S_ ![] bcast_S_S_ (constantI S_ 32 0#32)) reduceWindows_S40_S40_w40s1p39_0 h_S_) r q
  have h3 := cumsum1 (N := 40) (Nm1 := 39) rfl gs (sz gs) (gs_word gs) (broadcastInDim S_ ![] bcast_S_S_ (constantI S_ 32 0#32)) ((bc0 _ _ _).trans (by unfold constantI; rfl)) reduceWindows_S40_S40_w40s1p39_0 h_S_ q
  have hp : pre (sz gs) (q.val + 1) ≤ 6144 := by
    have := pre_mono (sz gs) (show q.val + 1 ≤ 40 by omega)
    have hg' : pre (sz gs) 40 = 6144 := hg
    omega
  have hr := r.isLt
  rw [h1, h2, iota_ap]
  refine (iff_of_eq (congrArg (fun w => IntOp.cmpi .sge (BitVec.ofNat 32 r.val) w = 1#1) h3)).trans ?_
  show IntOp.cmpi .sge (BitVec.ofNat 32 r.val) (BitVec.ofNat 32 (pre (sz gs) (q.val + 1))) = 1#1 ↔ _
  rw [WordCmp.cmpi_sge_ofNat (by omega) (by omega), WordCmp.ofBool_decide_eq_one_iff]

theorem count_lt (p : ℕ → Prop) [DecidablePred p] (n k : ℕ) (hk : k = n + 1) (h : p n → False) : Nat.count p k < k := by
  subst hk
  rw [Nat.count_succ, if_neg h]
  exact Nat.lt_succ_of_le (Nat.count_le _)

/-- Every row has a group. -/
theorem eid_lt (gs : IVec S40 32) (hg : Good gs) (r : ℕ) (hr : r < 6144) : eid (sz gs) r < 40 := by
  have hc := fun h => count_lt (fun e => pre (sz gs) (e + 1) ≤ r) 39 40 rfl h
  unfold eid
  refine hc fun h => ?_
  have e : pre (sz gs) (39 + 1) = 6144 := by
    rw [show 39 + 1 = 40 from rfl]
    exact hg
  have h' : 6144 ≤ r := le_of_eq_of_le e.symm h
  exact absurd hr (not_lt.2 h')

end Cert.ReferenceIdeal.Hand
-- ==== Proof.ReferenceIdeal.ValArr.lean ====
/-
  The reference's two result arrays: every row's codes and scale, as the plain arithmetic of `Spec`.
-/
module

public import proofs.«01_k».proof.Proof.ReferenceIdeal.ValOut
public import proofs.«01_k».proof.Proof.ReferenceIdeal.ValEid
public import Idealize.ShloMosaic.Lib.Pipeline.ValueKit

@[expose] public section

set_option maxRecDepth 16384

noncomputable section

namespace Cert.ReferenceIdeal.Hand

open Idealize.ShloMosaic Idealize.ShloMosaic.TcCoe
open Idealize.ShloMosaic.Pipeline (Dat Cfg Window)
open Cert.ReferenceIdeal.Gen Cert.Plan Cert.Spec
open Cert.KernelIdeal.Hand (Good sz)
open scoped BigOperators

attribute [local irreducible] Host.reduceWindow Host.reduce broadcastInDim

variable (m : (ℓ : Loc nD τ sig) → Buf (Elt Ideal) ℓ)

/-! Every window is its whole array: an index of its block is the array's. -/

theorem emb0 (t : Fin cfg0.N) (y : S6144x2560.Idx) : ((cfg0.win 0).blk t).view.emb y = y := by
  refine funext fun a => Fin.ext ?_
  refine (Window.rect_emb_val (cfg0.win 0) t y a).trans ?_
  exact (congrArg (· + (y a).val) (Nat.zero_mul _)).trans (Nat.zero_add _)
theorem emb1 (t : Fin cfg0.N) (y : S6144x1.Idx) : ((cfg0.win 1).blk t).view.emb y = y := by
  refine funext fun a => Fin.ext ?_
  refine (Window.rect_emb_val (cfg0.win 1) t y a).trans ?_
  exact (congrArg (· + (y a).val) (Nat.zero_mul _)).trans (Nat.zero_add _)
theorem emb2 (t : Fin cfg0.N) (y : S40x1024x2560.Idx) : ((cfg0.win 2).blk t).view.emb y = y := by
  refine funext fun a => Fin.ext ?_
  refine (Window.rect_emb_val (cfg0.win 2) t y a).trans ?_
  exact (congrArg (· + (y a).val) (Nat.zero_mul _)).trans (Nat.zero_add _)
theorem emb3 (t : Fin cfg0.N) (y : S40x1024.Idx) : ((cfg0.win 3).blk t).view.emb y = y := by
  refine funext fun a => Fin.ext ?_
  refine (Window.rect_emb_val (cfg0.win 3) t y a).trans ?_
  exact (congrArg (· + (y a).val) (Nat.zero_mul _)).trans (Nat.zero_add _)
theorem emb4 (t : Fin cfg0.N) (y : S6144x1024.Idx) : ((cfg0.win 4).blk t).view.emb y = y := by
  refine funext fun a => Fin.ext ?_
  refine (Window.rect_emb_val (cfg0.win 4) t y a).trans ?_
  exact (congrArg (· + (y a).val) (Nat.zero_mul _)).trans (Nat.zero_add _)
theorem emb5 (t : Fin cfg0.N) (y : S6144x1024.Idx) : ((cfg0.win 5).blk t).view.emb y = y := by
  refine funext fun a => Fin.ext ?_
  refine (Window.rect_emb_val (cfg0.win 5) t y a).trans ?_
  exact (congrArg (· + (y a).val) (Nat.zero_mul _)).trans (Nat.zero_add _)
theorem emb6 (t : Fin cfg0.N) (y : S2x6144x1024.Idx) : ((cfg0.win 6).blk t).view.emb y = y := by
  refine funext fun a => Fin.ext ?_
  refine (Window.rect_emb_val (cfg0.win 6) t y a).trans ?_
  exact (congrArg (· + (y a).val) (Nat.zero_mul _)).trans (Nat.zero_add _)
theorem emb7 (t : Fin cfg0.N) (y : S6144x1.Idx) : ((cfg0.win 7).blk t).view.emb y = y := by
  refine funext fun a => Fin.ext ?_
  refine (Window.rect_emb_val (cfg0.win 7) t y a).trans ?_
  exact (congrArg (· + (y a).val) (Nat.zero_mul _)).trans (Nat.zero_add _)

theorem blk0 (c : Dev nD) (t : Fin cfg0.N) : iblk m c 0 t = (V m c main_arg0 : Vec Ideal S6144x2560 .bf16) :=
  funext fun (y : S6144x2560.Idx) => congrArg (V m c main_arg0) (emb0 t y)
theorem blk1 (c : Dev nD) (t : Fin cfg0.N) : iblk m c 1 t = (V m c main_v9 : IVec S6144x1 32) :=
  funext fun (y : S6144x1.Idx) => congrArg (V m c main_v9) (emb1 t y)
theorem blk2 (c : Dev nD) (t : Fin cfg0.N) : iblk m c 2 t = (V m c main_arg2 : Vec Ideal S40x1024x2560 .fp8e4m3) :=
  funext fun (y : S40x1024x2560.Idx) => congrArg (V m c main_arg2) (emb2 t y)
theorem blk3 (c : Dev nD) (t : Fin cfg0.N) : iblk m c 3 t = (V m c main_arg3 : Vec Ideal S40x1024 .f32) :=
  funext fun (y : S40x1024.Idx) => congrArg (V m c main_arg3) (emb3 t y)
theorem blk4 (c : Dev nD) (t : Fin cfg0.N) : iblk m c 4 t = (V m c main_arg4 : Vec Ideal S6144x1024 .bf16) :=
  funext fun (y : S6144x1024.Idx) => congrArg (V m c main_arg4) (emb4 t y)
theorem blk5 (c : Dev nD) (t : Fin cfg0.N) : iblk m c 5 t = (V m c main_arg5 : Vec Ideal S6144x1024 .bf16) :=
  funext fun (y : S6144x1024.Idx) => congrArg (V m c main_arg5) (emb5 t y)

section
variable (X : Vec Ideal S6144x2560 .bf16) (gs : IVec S40 32) (hg : Good gs) (W : Vec Ideal S40x1024x2560 .fp8e4m3) (WS : Vec Ideal S40x1024 .f32) (G U : Vec Ideal S6144x1024 .bf16)

/-- The group of a row. -/
def grp (gs : IVec S40 32) (r : Fin 6144) : Fin 40 := ⟨eid (sz gs) r.val % 40, Nat.mod_lt _ (by decide)⟩

include hg in
theorem grp_word (r : Fin 6144) : eidT gs (ix2 r 0) = BitVec.ofNat 32 (grp gs r).val :=
  (eidT_word gs hg r).trans (congrArg (BitVec.ofNat 32) (Nat.mod_eq_of_lt (eid_lt gs hg r.val r.isLt)).symm)

/-- The rows of `dh` from the arrays. -/
abbrev dhAll : Fin 6144 → Fin 1024 → EReal :=
  dh (two (φ := .bf16) X) (fun e j k => W (ix3 e j k)) (fun e j => WS (ix2 e j)) (grp gs)

/-- The codes of every row; -/
def res0 : Vec Ideal S2x6144x1024 .fp8e5m2 := fun i => code (dhAll X gs W WS) (two (φ := .bf16) G) (two (φ := .bf16) U) (i 0) (i 1) (i 2)
/-- and their scales. -/
def res1 : Vec Ideal S6144x1 .f32 := fun i => scale (dhAll X gs W WS) (two (φ := .bf16) G) (two (φ := .bf16) U) (i 0)
end

variable (c : Dev nD) (hg : Good (m ((c : Thread nD τ).loc main_arg1)))

include hg in
theorem arr6 : (dats m 0 c).arrAt 6 cfg0.N
    = res0 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_emb 6 _ ?_ ?_
  · refine fun t _ (y : S2x6144x1024.Idx) => ?_
    have e := emb6 t y
    refine (congrFun (after0_6 m c t) y).trans ?_
    rw [blk0, blk1, blk2, blk3, blk4, blk5, V_main_arg0, V_main_v9, V_main_arg2, V_main_arg3, V_main_arg4, V_main_arg5]
    refine (out6_at _ _ _ _ _ _ (grp _) (grp_word _ hg) y).trans ?_
    exact (congrArg (res0 _ _ _ _ _ _) e).symm
  · refine fun (i : S2x6144x1024.Idx) => ⟨(⟨0, by decide⟩ : Fin grid0.N), by decide +kernel, ?_⟩
    have e := emb6 (⟨0, by decide⟩ : Fin grid0.N) i
    exact e ▸ View.emb_mem_set _ i

include hg in
theorem arr7 : (dats m 0 c).arrAt 7 cfg0.N
    = res1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_emb 7 _ ?_ ?_
  · refine fun t _ (y : S6144x1.Idx) => ?_
    have e := emb7 t y
    refine (congrFun (after0_7 m c t) y).trans ?_
    rw [blk0, blk1, blk2, blk3, blk4, blk5, V_main_arg0, V_main_v9, V_main_arg2, V_main_arg3, V_main_arg4, V_main_arg5]
    refine (out7_at _ _ _ _ _ _ (grp _) (grp_word _ hg) y).trans ?_
    exact (congrArg (res1 _ _ _ _ _ _) e).symm
  · refine fun (i : S6144x1.Idx) => ⟨(⟨0, by decide⟩ : Fin grid0.N), by decide +kernel, ?_⟩
    have e := emb7 (⟨0, by decide⟩ : Fin grid0.N) i
    exact e ▸ View.emb_mem_set _ i

end Cert.ReferenceIdeal.Hand
-- ==== Proof.Value.lean ====
/-
  The kernel's results are the reference's: both arrays of codes and both columns of scales are the same arithmetic
  of `Spec` over the same argument arrays.
-/
module

public import proofs.«01_k».proof.Defs
public import proofs.«01_k».proof.Proof.Gen.KernelIdeal
public import proofs.«01_k».proof.Proof.Gen.ReferenceIdeal
public import proofs.«01_k».proof.Proof.Gen.Pre_groups_fill_rows
public import proofs.«01_k».proof.Proof.KernelIdeal.ValArr
public import proofs.«01_k».proof.Proof.KernelIdeal.Sizes
public import proofs.«01_k».proof.Proof.ReferenceIdeal.ValArr

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (gs : IVec S40 32) (hg : Good gs)

include hg in
/-- The kernel's run, with its two results named and its arguments unchanged. -/
theorem run_value (hgs : ∀ c, gsOf m c = gs) :
    θ_run (defs (F := Ideal)) (onTc (τ := τ) (main (F := Ideal))) ⟨m, fun _ => 0, ρ⟩ (fun r => ∀ c : Dev nD,
      r.2.mem ((c.tc : Thread nD τ).loc main_v69_0) = res0 m gs c
      ∧ r.2.mem ((c.tc : Thread nD τ).loc main_v69_1) = res1 m gs c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (hr : _ ∧ _) c => ⟨
      ((hr.1 c).1 (5 : Fin 7)).trans (arr5 m gs hg c),
      ((hr.1 c).1 (6 : Fin 7)).trans (arr6 m gs hg c),
      ((hr.1 c).1 (0 : Fin 7)).trans (((dats m gs hg 0 c).arrAt_in (0 : Fin 7) rfl _).trans ((A_eq m gs hg c (0 : Fin 7)).trans (V_arg0 m c))),
      ((hr.1 c).2 main_arg1 (Pipeline.mem_restRefs_of main_arg1 (by decide) (by decide : ∀ w : Fin 7, (spec0 w).arr.view.ref ≠ main_arg1))).trans (V_arg1 m c),
      ((hr.1 c).1 (1 : Fin 7)).trans (((dats m gs hg 0 c).arrAt_in (1 : Fin 7) rfl _).trans ((A_eq m gs hg c (1 : Fin 7)).trans (V_arg2 m c))),
      ((hr.1 c).2 main_arg3 (Pipeline.mem_restRefs_of main_arg3 (by decide) (by decide : ∀ w : Fin 7, (spec0 w).arr.view.ref ≠ main_arg3))).trans (V_arg3 m c),
      ((hr.1 c).1 (3 : Fin 7)).trans (((dats m gs hg 0 c).arrAt_in (3 : Fin 7) rfl _).trans ((A_eq m gs hg c (3 : Fin 7)).trans (V_arg4 m c))),
      ((hr.1 c).1 (4 : Fin 7)).trans (((dats m gs hg 0 c).arrAt_in (4 : Fin 7) rfl _).trans ((A_eq m gs hg c (4 : Fin 7)).trans (V_arg5 m c)))⟩)
    (run_main m ρ gs hg hgs)

/-- The staged scales of the weights are the argument's. -/
theorem WSa_at (c : Dev nD) (e : Fin 40) (j : Fin 1024) : WSa m c (ix3 e 0 j) = (m ((c : Thread nD τ).loc main_arg3) : Vec Ideal S40x1024 .f32) (ix2 e j) := by
  unfold WSa
  rw [V_main_v68]
  refine broadcastInDim_apply _ _ _ _ _ fun a => ?_
  fin_cases a <;> rfl

end Cert.KernelIdeal.Hand

namespace Cert.ReferenceIdeal.Hand

open Idealize.ShloMosaic Idealize.ShloMosaic.TcCoe Idealize.SL.Sem
open Cert.ReferenceIdeal Cert.ReferenceIdeal.Gen
open Cert.KernelIdeal.Hand (Good)

variable (m : (ℓ : Loc nD τ sig) → Buf (Elt Ideal) ℓ) (ρ : Dev nD → PrngReg)

/-- The reference's run, with its two results named and its arguments unchanged. -/
theorem run_value (hg : ∀ c : Dev nD, Good (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v10_0)
        = res0 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_v10_1)
        = res1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : Pipeline.FramePost cfgs (dats m) 0 (V m) r) c => ⟨
      ((h c).1 6).trans (arr6 m c (hg c)),
      ((h c).1 7).trans (arr7 m c (hg c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.ReferenceIdeal.Hand

namespace Cert.KernelIdeal.Hand

open Idealize.ShloMosaic Idealize.ShloMosaic.TcCoe
open Cert.KernelIdeal Cert.KernelIdeal.Gen Cert.Spec

variable (m : (ℓ : Loc nD τ sig) → Buf (Elt Ideal) ℓ) (gs : IVec S40 32) (c : Dev nD)

theorem dhAll_eq : dhAll (Xa m c) (Wa m c) (WSa m c) gs
    = Cert.ReferenceIdeal.Hand.dhAll (m ((c : Thread nD τ).loc main_arg0)) gs (m ((c : Thread nD τ).loc main_arg2)) (m ((c : Thread nD τ).loc main_arg3)) := by
  unfold dhAll Cert.ReferenceIdeal.Hand.dhAll
  rw [show (fun (e : Fin 40) (j : Fin 1024) => WSa m c (ix3 e 0 j)) = fun e j => (m ((c : Thread nD τ).loc main_arg3) : Vec Ideal S40x1024 .f32) (ix2 e j) from
    funext fun e => funext fun j => WSa_at m c e j]
  unfold Xa Wa
  rw [V_arg0, V_arg2]
  rfl

/-- The kernel's codes are the reference's, -/
theorem res0_eq : res0 m gs c = Cert.ReferenceIdeal.Hand.res0 (m ((c : Thread nD τ).loc main_arg0)) gs (m ((c : Thread nD τ).loc main_arg2))
    (m ((c : Thread nD τ).loc main_arg3)) (m ((c : Thread nD τ).loc main_arg4)) (m ((c : Thread nD τ).loc main_arg5)) := by
  unfold res0
  rw [dhAll_eq]
  unfold Ga Ua
  rw [V_arg4, V_arg5]
  rfl

/-- and the kernel's scales. -/
theorem res1_eq : res1 m gs c = Cert.ReferenceIdeal.Hand.res1 (m ((c : Thread nD τ).loc main_arg0)) gs (m ((c : Thread nD τ).loc main_arg2))
    (m ((c : Thread nD τ).loc main_arg3)) (m ((c : Thread nD τ).loc main_arg4)) (m ((c : Thread nD τ).loc main_arg5)) := by
  unfold res1
  rw [dhAll_eq]
  unfold Ga Ua
  rw [V_arg4, V_arg5]
  rfl

end Cert.KernelIdeal.Hand

namespace Cert.Proof

open Idealize.ShloMosaic Idealize.SL.Sem
open Cert.KernelIdeal.Hand (Good gsOf gsOf_eq good_of_pre)

/-- The kernel computes the reference's two results. -/
theorem algebraic : algebraic_KernelIdeal_ReferenceIdeal (hKernelIdeal := Cert.KernelIdeal.Gen.facts) (hReferenceIdeal := Cert.ReferenceIdeal.Gen.facts)
    (hPre_groups_fill_rows := Cert.Pre_groups_fill_rows.Gen.facts) := by
  haveI := Cert.Pre_groups_fill_rows.Gen.facts
  intro m g m' g' hpre hm
  have hg : Good (gsOf m (0 : Fin 1)) := good_of_pre _ _ _ _ _ _ (hpre (0 : Fin 1))
  have hgs : ∀ c, gsOf m c = gsOf m (0 : Fin 1) := fun c => gsOf_eq m c (0 : Fin 1)
  refine ⟨fun c => Cert.KernelIdeal.Hand.res0 m (gsOf m (0 : Fin 1)) c, fun c => Cert.KernelIdeal.Hand.res1 m (gsOf m (0 : Fin 1)) c,
    Cert.KernelIdeal.Hand.run_value m g _ hg hgs, ?_⟩
  have h1 : ∀ c : Dev Cert.KernelIdeal.nD, m' ((c.tc : Thread Cert.ReferenceIdeal.nD Cert.ReferenceIdeal.τ).loc Cert.ReferenceIdeal.main_arg1) = gsOf m (0 : Fin 1) :=
    fun c => (hm c).2.1.trans (hgs c)
  refine (θ_run Cert.ReferenceIdeal.defs _ _).mono (fun r hr c => ?_)
    (Cert.ReferenceIdeal.Hand.run_value m' g' fun c => (congrArg Good (h1 c)).mpr hg)
  obtain ⟨r0, r1, ra⟩ := hr c
  have e := hm c
  refine ⟨r0.trans ?_, r1.trans ?_, ra⟩
  · rw [h1 c, e.1, e.2.2.1, e.2.2.2.1, e.2.2.2.2.1, e.2.2.2.2.2]
    exact (Cert.KernelIdeal.Hand.res0_eq m _ c).symm
  · rw [h1 c, e.1, e.2.2.1, e.2.2.2.1, e.2.2.2.2.1, e.2.2.2.2.2]
    exact (Cert.KernelIdeal.Hand.res1_eq m _ c).symm

end Cert.Proof

end
-- ==== Proof.lean ====
/-
  The proof of `Cert.Claim` (Defs.lean). The frames of the kernel, at its bits and at its idealization, are
  Proof/Kernel/Run.lean and Proof/KernelIdeal/Run.lean, for group sizes that sum to the number of rows, which is what the
  precondition says (Sizes.lean); the reference's frame is the generated one. That the
  kernel's results are the reference's is Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_groups_fill_rows
public import proofs.«01_k».proof.Proof.Kernel.Run
public import proofs.«01_k».proof.Proof.Kernel.Sizes
public import proofs.«01_k».proof.Proof.KernelIdeal.Run
public import proofs.«01_k».proof.Proof.KernelIdeal.Sizes
public import proofs.«01_k».proof.Proof.Value

@[expose] public section

noncomputable section

namespace Cert.Proof

open Idealize.ShloMosaic Idealize.SL.Sem

/-- The kernel runs, leaves its arguments and ends with every counter at zero: at its bits, -/
theorem frame_kernel : quiescent_Kernel (hKernel := Cert.Kernel.Gen.facts) (hPre_groups_fill_rows := Cert.Pre_groups_fill_rows.Gen.facts) := fun m g h =>
  haveI := Cert.Pre_groups_fill_rows.Gen.facts
  Cert.Kernel.Hand.frame m g (Cert.Kernel.Hand.gsOf m (0 : Fin 1)) (Cert.Kernel.Hand.good_of_pre _ _ _ _ _ _ (h (0 : Fin 1)))
    (fun c => Cert.Kernel.Hand.gsOf_eq m c (0 : Fin 1))

/-- and over the reals. -/
theorem frame_kernelIdeal : quiescent_KernelIdeal (hKernelIdeal := Cert.KernelIdeal.Gen.facts) (hPre_groups_fill_rows := Cert.Pre_groups_fill_rows.Gen.facts) := fun m g h =>
  haveI := Cert.Pre_groups_fill_rows.Gen.facts
  Cert.KernelIdeal.Hand.frame m g (Cert.KernelIdeal.Hand.gsOf m (0 : Fin 1)) (Cert.KernelIdeal.Hand.good_of_pre _ _ _ _ _ _ (h (0 : Fin 1)))
    (fun c => Cert.KernelIdeal.Hand.gsOf_eq m c (0 : Fin 1))

/-- Everything claimed. -/
theorem claim : Cert.Claim :=
  ⟨Cert.Kernel.Gen.facts, Cert.KernelIdeal.Gen.facts, Cert.ReferenceIdeal.Gen.facts, Cert.Pre_groups_fill_rows.Gen.facts,
    frame_kernel, frame_kernelIdeal, fun m ρ _ => Cert.ReferenceIdeal.Gen.frame m ρ, trivial, algebraic⟩

end Cert.Proof

end
